-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v65) = v4 c
          ∧ r.2.mem ((c.tc : Thread Cert.Reference3Ideal.nD Cert.Reference3Ideal.τ).loc Cert.Reference3Ideal.main_v54) = v5 c
          ∧ r.2.mem ((c.tc : Thread Cert.Reference3Ideal.nD Cert.Reference3Ideal.τ).loc Cert.Reference3Ideal.main_v68) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x512 : Shape := ⟨2, ![32768, 512]⟩
abbrev S128x512 : Shape := ⟨2, ![128, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg5 : FVec F S128x512 .bf16) (main_arg6 : FVec F S128x512 .bf16) (main_v16 : IVec S_ 1) (main_v17 : FVec F S32768x512 .f32) : IVec S_ 1 :=
  let main_v18 : FVec F S32768x512 .f32 := Host.absf main_v17
  let main_cst_4 : FVec F S_ .f32 := constant S_ .f32 0x7F800000#32
  let main_v19 : FVec F S32768x512 .f32 := broadcastInDim S32768x512 ![] bcast_S_S32768x512 main_cst_4
  let main_v20 : IVec S32768x512 1 := cmpf .olt main_v18 main_v19
  let main_c_5 : IVec S_ 1 := constantI S_ 1 1#1
  let main_v21 : IVec S_ 1 := (fun x v => Host.reduce IntOp.andi x v reducesTo_S32768x512_S_d0_1 h_S_) main_v20 main_c_5
  let main_v22 : IVec S_ 1 := andi main_v16 main_v21
  let main_v23 : FVec F S128x512 .f32 := (extf .f32 · bitsLt_bf16_f32) main_arg5
  let main_v24 : FVec F S128x512 .f32 := Host.absf main_v23
  let main_cst_6 : FVec F S_ .f32 := constant S_ .f32 0x7F800000#32
  let main_v25 : FVec F S128x512 .f32 := broadcastInDim S128x512 ![] bcast_S_S128x512 main_cst_6
  let main_v26 : IVec S128x512 1 := cmpf .olt main_v24 main_v25
  let main_c_7 : IVec S_ 1 := constantI S_ 1 1#1
  let main_v27 : IVec S_ 1 := (fun x v => Host.reduce IntOp.andi x v reducesTo_S128x512_S_d0_1 h_S_) main_v26 main_c_7
  let main_v28 : IVec S_ 1 := andi main_v22 main_v27
  let main_v29 : FVec F S128x512 .f32 := (extf .f32 · bitsLt_bf16_f32) main_arg6
  let main_v30 : FVec F S128x512 .f32 := Host.absf main_v29
  let main_cst_8 : FVec F S_ .f32 := constant S_ .f32 0x7F800000#32
  let main_v31 : FVec F S128x512 .f32 := broadcastInDim S128x512 ![] bcast_S_S128x512 main_cst_8
  let main_v32 : IVec S128x512 1 := cmpf .olt main_v30 main_v31
  let main_c_9 : IVec S_ 1 := constantI S_ 1 1#1
  let main_v33 : IVec S_ 1 := (fun x v => Host.reduce IntOp.andi x v reducesTo_S128x512_S_d0_1 h_S_) main_v32 main_c_9
  let main_v34 : IVec S_ 1 := andi main_v28 main_v33
  main_v34

def fn {F : FTy → Type} [FloatOps F] (main_arg0 : FVec F S32768x512 .bf16) (main_arg1 : FVec F S32768x512 .bf16) (main_arg2 : FVec F S32768x512 .bf16) (main_arg3 : FVec F S32768x512 .bf16) (main_arg4 : FVec F S32768x512 .bf16) (main_arg5 : FVec F S128x512 .bf16) (main_arg6 : FVec F S128x512 .bf16) (main_arg7 : FVec F S128x512 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S32768x512 .f32 := (extf .f32 · bitsLt_bf16_f32) main_arg2
  let main_v12 : FVec F S32768x512 .f32 := Host.absf main_v11
  let main_cst_2 : FVec F S_ .f32 := constant S_ .f32 0x7F800000#32
  let main_v13 : FVec F S32768x512 .f32 := broadcastInDim S32768x512 ![] bcast_S_S32768x512 main_cst_2
  let main_v14 : IVec S32768x512 1 := cmpf .olt main_v12 main_v13
  let main_c_3 : IVec S_ 1 := constantI S_ 1 1#1
  let main_v15 : IVec S_ 1 := (fun x v => Host.reduce IntOp.andi x v reducesTo_S32768x512_S_d0_1 h_S_) main_v14 main_c_3
  let main_v16 : IVec S_ 1 := andi main_v10 main_v15
  let main_v17 : FVec F S32768x512 .f32 := (extf .f32 · bitsLt_bf16_f32) main_arg3
  fn_part1 (F := F) main_arg5 main_arg6 main_v16 main_v17
-- ==== Kernel.lean ====
abbrev S32768x512 : Shape := ⟨2, ![32768, 512]⟩
abbrev S128x512 : Shape := ⟨2, ![128, 512]⟩
abbrev S512x128 : Shape := ⟨2, ![512, 128]⟩
abbrev S4096x128 : Shape := ⟨2, ![4096, 128]⟩
abbrev S128x128 : Shape := ⟨2, ![128, 128]⟩
abbrev S2x2x512x512 : Shape := ⟨4, ![2, 2, 512, 512]⟩
abbrev S2x512x1 : Shape := ⟨3, ![2, 512, 1]⟩
abbrev S2x512x128 : Shape := ⟨3, ![2, 512, 128]⟩
abbrev S1x128 : Shape := ⟨2, ![1, 128]⟩
abbrev S512x256 : Shape := ⟨2, ![512, 256]⟩
abbrev S512x512 : Shape := ⟨2, ![512, 512]⟩
abbrev S128x256 : Shape := ⟨2, ![128, 256]⟩
abbrev S1x1x512x512 : Shape := ⟨4, ![1, 1, 512, 512]⟩
abbrev S512 : Shape := ⟨1, ![512]⟩
abbrev S512x1 : Shape := ⟨2, ![512, 1]⟩
abbrev S1x512x1 : Shape := ⟨3, ![1, 512, 1]⟩
abbrev S1x512x128 : Shape := ⟨3, ![1, 512, 128]⟩
abbrev S1x1x64x512 : Shape := ⟨4, ![1, 1, 64, 512]⟩
abbrev S64x512 : Shape := ⟨2, ![64, 512]⟩
abbrev S1x64x1 : Shape := ⟨3, ![1, 64, 1]⟩
abbrev S64x1 : Shape := ⟨2, ![64, 1]⟩
abbrev S64 : Shape := ⟨1, ![64]⟩

abbrev nBuf : Space → Nat
  | .hbm => 9
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S128x512, .bf16⟩
  | .hbm, ⟨6, _⟩ => ⟨S128x512, .bf16⟩
  | .hbm, ⟨7, _⟩ => ⟨S128x512, .bf16⟩
  | .hbm, ⟨8, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S512x128, .bf16⟩
  | .local _ .vmem, ⟨17, _⟩ => ⟨S512x128, .bf16⟩
  | .local _ .vmem, ⟨18, _⟩ => ⟨S2x2x512x512, .f32⟩
  | .local _ .vmem, ⟨19, _⟩ => ⟨S2x2x512x512, .bf16⟩
  | .local _ .vmem, ⟨20, _⟩ => ⟨S2x512x1, .f32⟩
  | .local _ .vmem, ⟨21, _⟩ => ⟨S2x512x1, .f32⟩
  | .local _ .vmem, ⟨22, _⟩ => ⟨S2x512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c512_i32 : BitVec 32 := 512#32
  let v33 : BitVec 32 := Scalar.muli arg2 c512_i32
  v33
def k0_off1 (i : grid0.Coords) : Fin 2 → Nat :=
  let arg2 : BitVec 32 := BitVec.ofNat 32 (i 2).val
  let c512_i32 : BitVec 32 := 512#32
  let v33 : BitVec 32 := Scalar.muli arg2 c512_i32
  let v34 : BitVec 32 := v33
  let v44 : Index := Scalar.indexCast v34
  let c0_11 : Index := 0#32
  ![v44.toNat, 0]
def k0_mult2 (i : grid0.Coords) : BitVec 32 :=
  let arg2 : BitVec 32 := BitVec.ofNat 32 (i 2).val
  let c1_i32_27 : BitVec 32 := 1#32
  let v79 : BitVec 32 := Scalar.subi arg2 c1_i32_27
  let c0_i32_28 : BitVec 32 := 0#32
  let v80 : BitVec 32 := Scalar.maxsi v79 c0_i32_28
  let c0_i32_30 : BitVec 32 := 0#32
  let c0_i32_29 : BitVec 32 := 0#32
  let v81 : BitVec 32 := Scalar.maxsi c0_i32_30 c0_i32_29
  let v82 : BitVec 32 := Scalar.minsi v80 v81
  let c512_i32_31 : BitVec 32 := 512#32
  let v83 : BitVec 32 := Scalar.muli v82 c512_i32_31
  v83
def k0_off2 (i : grid0.Coords) : Fin 2 → Nat :=
  let arg2 : BitVec 32 := BitVec.ofNat 32 (i 2).val
  let c1_i32_27 : BitVec 32 := 1#32
  let v79 : BitVec 32 := Scalar.subi arg2 c1_i32_27
  let c0_i32_28 : BitVec 32 := 0#32
  let v80 : BitVec 32 := Scalar.maxsi v79 c0_i32_28
  let c0_i32_30 : BitVec 32 := 0#32
  let c0_i32_29 : BitVec 32 := 0#32
  let v81 : BitVec 32 := Scalar.maxsi c0_i32_30 c0_i32_29
  let v82 : BitVec 32 := Scalar.minsi v80 v81
  let c512_i32_31 : BitVec 32 := 512#32
  let v83 : BitVec 32 := Scalar.muli v82 c512_i32_31
  let v84 : BitVec 32 := v83
  let v85 : Index := Scalar.indexCast v84
  let c0_32 : Index := 0#32
  ![v85.toNat, 0]
@[reducible] def k0_t1_loop (i : grid0.Coords) : Scf.Loop 32 :=
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_84 : BitVec 32 := 1#32
  ⟨c0_i32_82, v168, c1_i32_84⟩
def k0_mult3 (i : grid0.Coords) (k0_t1 : Fin (k0_t1_loop i).trips) : BitVec 32 :=
  let arg2 : BitVec 32 := BitVec.ofNat 32 (i 2).val
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let c2_i32_123 : BitVec 32 := 2#32
  let c0_i32_82 : BitVec 32 := 0#32
  let c1_i32_84 : BitVec 32 := 1#32
  let arg17 : BitVec 32 := Scf.iv c0_i32_82 c1_i32_84 k0_t1
  let v229 : BitVec 32 := Scalar.muli c2_i32_123 arg17
  let c1_i32_124 : BitVec 32 := 1#32
  let v230 : BitVec 32 := Scalar.subi v229 c1_i32_124
  let v234 : BitVec 32 := Scalar.maxsi c0_i32_128 v230
  let v235 : BitVec 32 := Scalar.minsi v233 v234
  let c512_i32_129 : BitVec 32 := 512#32
  let v236 : BitVec 32 := Scalar.muli v235 c512_i32_129
  v236
def k0_mult4 (i : grid0.Coords) (k0_t1 : Fin (k0_t1_loop i).trips) : BitVec 32 :=
  let c2_i32_123 : BitVec 32 := 2#32
  let c0_i32_82 : BitVec 32 := 0#32
  let c1_i32_84 : BitVec 32 := 1#32
  let arg17 : BitVec 32 := Scf.iv c0_i32_82 c1_i32_84 k0_t1
  let v229 : BitVec 32 := Scalar.muli c2_i32_123 arg17
  let c1_i32_124 : BitVec 32 := 1#32
  let v230 : BitVec 32 := Scalar.subi v229 c1_i32_124
  let c0_i32_125 : BitVec 32 := 0#32
  let v231 : BitVec 1 := Scalar.cmpi .slt v230 c0_i32_125
  let arg2 : BitVec 32 := BitVec.ofNat 32 (i 2).val
  let c512_i32 : BitVec 32 := 512#32
  let v33 : BitVec 32 := Scalar.muli arg2 c512_i32
  let v34 : BitVec 32 := v33
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let v234 : BitVec 32 := Scalar.maxsi c0_i32_128 v230
  let v235 : BitVec 32 := Scalar.minsi v233 v234
  let c512_i32_129 : BitVec 32 := 512#32
  let v236 : BitVec 32 := Scalar.muli v235 c512_i32_129
  let v237 : BitVec 32 := v236
  let v238 : BitVec 32 := Scalar.select v231 v34 v237
  v238
def k0_mult5 (i : grid0.Coords) (k0_t1 : Fin (k0_t1_loop i).trips) : BitVec 32 :=
  let arg2 : BitVec 32 := BitVec.ofNat 32 (i 2).val
  let c1_i32_131 : BitVec 32 := 1#32
  let v241 : BitVec 32 := Scalar.subi arg2 c1_i32_131
  let c0_i32_132 : BitVec 32 := 0#32
  let v242 : BitVec 32 := Scalar.maxsi v241 c0_i32_132
  let c0_i32_133 : BitVec 32 := 0#32
  let c2_i32_123 : BitVec 32 := 2#32
  let c0_i32_82 : BitVec 32 := 0#32
  let c1_i32_84 : BitVec 32 := 1#32
  let arg17 : BitVec 32 := Scf.iv c0_i32_82 c1_i32_84 k0_t1
  let v229 : BitVec 32 := Scalar.muli c2_i32_123 arg17
  let c1_i32_130 : BitVec 32 := 1#32
  let v240 : BitVec 32 := Scalar.addi v229 c1_i32_130
  let v243 : BitVec 32 := Scalar.maxsi c0_i32_133 v240
  let v244 : BitVec 32 := Scalar.minsi v242 v243
  let c512_i32_134 : BitVec 32 := 512#32
  let v245 : BitVec 32 := Scalar.muli v244 c512_i32_134
  v245
def k0_off3 (i : grid0.Coords) (k0_t1 : Fin (k0_t1_loop i).trips) : Fin 2 → Nat :=
  let arg2 : BitVec 32 := BitVec.ofNat 32 (i 2).val
  let c1_i32_131 : BitVec 32 := 1#32
  let v241 : BitVec 32 := Scalar.subi arg2 c1_i32_131
  let c0_i32_132 : BitVec 32 := 0#32
  let v242 : BitVec 32 := Scalar.maxsi v241 c0_i32_132
  let c0_i32_133 : BitVec 32 := 0#32
  let c2_i32_123 : BitVec 32 := 2#32
  let c0_i32_82 : BitVec 32 := 0#32
  let c1_i32_84 : BitVec 32 := 1#32
  let arg17 : BitVec 32 := Scf.iv c0_i32_82 c1_i32_84 k0_t1
  let v229 : BitVec 32 := Scalar.muli c2_i32_123 arg17
  let c1_i32_130 : BitVec 32 := 1#32
  let v240 : BitVec 32 := Scalar.addi v229 c1_i32_130
  let v243 : BitVec 32 := Scalar.maxsi c0_i32_133 v240
  let v244 : BitVec 32 := Scalar.minsi v242 v243
  let c512_i32_134 : BitVec 32 := 512#32
  let v245 : BitVec 32 := Scalar.muli v244 c512_i32_134
  let v246 : BitVec 32 := v245
  let v247 : Index := Scalar.indexCast v246
  let c0_135 : Index := 0#32
  ![v247.toNat, 0]
def k0_off4 (i : grid0.Coords) (k0_t1 : Fin (k0_t1_loop i).trips) : Fin 2 → Nat :=
  let c2_i32_123 : BitVec 32 := 2#32
  let c0_i32_82 : BitVec 32 := 0#32
  let c1_i32_84 : BitVec 32 := 1#32
  let arg17 : BitVec 32 := Scf.iv c0_i32_82 c1_i32_84 k0_t1
  let v229 : BitVec 32 := Scalar.muli c2_i32_123 arg17
  let c1_i32_124 : BitVec 32 := 1#32
  let v230 : BitVec 32 := Scalar.subi v229 c1_i32_124
  let c0_i32_125 : BitVec 32 := 0#32
  let v231 : BitVec 1 := Scalar.cmpi .slt v230 c0_i32_125
  let arg2 : BitVec 32 := BitVec.ofNat 32 (i 2).val
  let c512_i32 : BitVec 32 := 512#32
  let v33 : BitVec 32 := Scalar.muli arg2 c512_i32
  let v34 : BitVec 32 := v33
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let v234 : BitVec 32 := Scalar.maxsi c0_i32_128 v230
  let v235 : BitVec 32 := Scalar.minsi v233 v234
  let c512_i32_129 : BitVec 32 := 512#32
  let v236 : BitVec 32 := Scalar.muli v235 c512_i32_129
  let v237 : BitVec 32 := v236
  let v238 : BitVec 32 := Scalar.select v231 v34 v237
  let v239 : BitVec 32 := v238
  let v260 : Index := Scalar.indexCast v239
  let c0_147 : Index := 0#32
  ![v260.toNat, 0]
def k0_mult6 (i : grid0.Coords) (k0_t1 : Fin (k0_t1_loop i).trips) : BitVec 32 :=
  let arg2 : BitVec 32 := BitVec.ofNat 32 (i 2).val
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let c2_i32_458 : BitVec 32 := 2#32
  let c0_i32_82 : BitVec 32 := 0#32
  let c1_i32_84 : BitVec 32 := 1#32
  let arg17 : BitVec 32 := Scf.iv c0_i32_82 c1_i32_84 k0_t1
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let v661 : BitVec 32 := Scalar.maxsi c0_i32_466 v657
  let v662 : BitVec 32 := Scalar.minsi v660 v661
  let c512_i32_467 : BitVec 32 := 512#32
  let v663 : BitVec 32 := Scalar.muli v662 c512_i32_467
  v663
def k0_mult7 (i : grid0.Coords) (k0_t1 : Fin (k0_t1_loop i).trips) : BitVec 32 :=
  let c2_i32_458 : BitVec 32 := 2#32
  let c0_i32_82 : BitVec 32 := 0#32
  let c1_i32_84 : BitVec 32 := 1#32
  let arg17 : BitVec 32 := Scf.iv c0_i32_82 c1_i32_84 k0_t1
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let c0_i32_463 : BitVec 32 := 0#32
  let v658 : BitVec 1 := Scalar.cmpi .slt v657 c0_i32_463
  let arg2 : BitVec 32 := BitVec.ofNat 32 (i 2).val
  let c512_i32 : BitVec 32 := 512#32
  let v33 : BitVec 32 := Scalar.muli arg2 c512_i32
  let v34 : BitVec 32 := v33
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let v661 : BitVec 32 := Scalar.maxsi c0_i32_466 v657
  let v662 : BitVec 32 := Scalar.minsi v660 v661
  let c512_i32_467 : BitVec 32 := 512#32
  let v663 : BitVec 32 := Scalar.muli v662 c512_i32_467
  let v664 : BitVec 32 := v663
  let v665 : BitVec 32 := Scalar.select v658 v34 v664
  v665
def k0_mult8 (i : grid0.Coords) (k0_t1 : Fin (k0_t1_loop i).trips) : BitVec 32 :=
  let arg2 : BitVec 32 := BitVec.ofNat 32 (i 2).val
  let c1_i32_469 : BitVec 32 := 1#32
  let v668 : BitVec 32 := Scalar.subi arg2 c1_i32_469
  let c0_i32_470 : BitVec 32 := 0#32
  let v669 : BitVec 32 := Scalar.maxsi v668 c0_i32_470
  let c0_i32_471 : BitVec 32 := 0#32
  let c2_i32_458 : BitVec 32 := 2#32
  let c0_i32_82 : BitVec 32 := 0#32
  let c1_i32_84 : BitVec 32 := 1#32
  let arg17 : BitVec 32 := Scf.iv c0_i32_82 c1_i32_84 k0_t1
  let v652 : BitVec 32 := Scalar.muli c2_i32_458 arg17
  let c1_i32_459 : BitVec 32 := 1#32
  let v653 : BitVec 32 := Scalar.addi v652 c1_i32_459
  let c1_i32_468 : BitVec 32 := 1#32
  let v667 : BitVec 32 := Scalar.addi v653 c1_i32_468
  let v670 : BitVec 32 := Scalar.maxsi c0_i32_471 v667
  let v671 : BitVec 32 := Scalar.minsi v669 v670
  let c512_i32_472 : BitVec 32 := 512#32
  let v672 : BitVec 32 := Scalar.muli v671 c512_i32_472
  v672
def k0_off5 (i : grid0.Coords) (k0_t1 : Fin (k0_t1_loop i).trips) : Fin 2 → Nat :=
  let arg2 : BitVec 32 := BitVec.ofNat 32 (i 2).val
  let c1_i32_469 : BitVec 32 := 1#32
  let v668 : BitVec 32 := Scalar.subi arg2 c1_i32_469
  let c0_i32_470 : BitVec 32 := 0#32
  let v669 : BitVec 32 := Scalar.maxsi v668 c0_i32_470
  let c0_i32_471 : BitVec 32 := 0#32
  let c2_i32_458 : BitVec 32 := 2#32
  let c0_i32_82 : BitVec 32 := 0#32
  let c1_i32_84 : BitVec 32 := 1#32
  let arg17 : BitVec 32 := Scf.iv c0_i32_82 c1_i32_84 k0_t1
  let v652 : BitVec 32 := Scalar.muli c2_i32_458 arg17
  let c1_i32_459 : BitVec 32 := 1#32
  let v653 : BitVec 32 := Scalar.addi v652 c1_i32_459
  let c1_i32_468 : BitVec 32 := 1#32
  let v667 : BitVec 32 := Scalar.addi v653 c1_i32_468
  let v670 : BitVec 32 := Scalar.maxsi c0_i32_471 v667
  let v671 : BitVec 32 := Scalar.minsi v669 v670
  let c512_i32_472 : BitVec 32 := 512#32
  let v672 : BitVec 32 := Scalar.muli v671 c512_i32_472
  let v673 : BitVec 32 := v672
  let v674 : Index := Scalar.indexCast v673
  let c0_473 : Index := 0#32
  ![v674.toNat, 0]
def k0_off6 (i : grid0.Coords) (k0_t1 : Fin (k0_t1_loop i).trips) : Fin 2 → Nat :=
  let c2_i32_458 : BitVec 32 := 2#32
  let c0_i32_82 : BitVec 32 := 0#32
  let c1_i32_84 : BitVec 32 := 1#32
  let arg17 : BitVec 32 := Scf.iv c0_i32_82 c1_i32_84 k0_t1
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let c0_i32_463 : BitVec 32 := 0#32
  let v658 : BitVec 1 := Scalar.cmpi .slt v657 c0_i32_463
  let arg2 : BitVec 32 := BitVec.ofNat 32 (i 2).val
  let c512_i32 : BitVec 32 := 512#32
  let v33 : BitVec 32 := Scalar.muli arg2 c512_i32
  let v34 : BitVec 32 := v33
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let v661 : BitVec 32 := Scalar.maxsi c0_i32_466 v657
  let v662 : BitVec 32 := Scalar.minsi v660 v661
  let c512_i32_467 : BitVec 32 := 512#32
  let v663 : BitVec 32 := Scalar.muli v662 c512_i32_467
  let v664 : BitVec 32 := v663
  let v665 : BitVec 32 := Scalar.select v658 v34 v664
  let v666 : BitVec 32 := v665
  let v687 : Index := Scalar.indexCast v666
  let c0_485 : Index := 0#32
  ![v687.toNat, 0]
@[reducible] def k0_t2_loop (i : grid0.Coords) : Scf.Loop 32 :=
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let v165 : BitVec 32 := Scalar.addi c0_i32_82 v164
  let c1_i32_85 : BitVec 32 := 1#32
  ⟨v168, v165, c1_i32_85⟩
def k0_mult9 (i : grid0.Coords) (k0_t2 : Fin (k0_t2_loop i).trips) : BitVec 32 :=
  let arg2 : BitVec 32 := BitVec.ofNat 32 (i 2).val
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let c2_i32_123 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v229 : BitVec 32 := Scalar.muli c2_i32_123 arg17
  let c1_i32_124 : BitVec 32 := 1#32
  let v230 : BitVec 32 := Scalar.subi v229 c1_i32_124
  let v234 : BitVec 32 := Scalar.maxsi c0_i32_128 v230
  let v235 : BitVec 32 := Scalar.minsi v233 v234
  let c512_i32_129 : BitVec 32 := 512#32
  let v236 : BitVec 32 := Scalar.muli v235 c512_i32_129
  v236
def k0_mult10 (i : grid0.Coords) (k0_t2 : Fin (k0_t2_loop i).trips) : BitVec 32 :=
  let c2_i32_123 : BitVec 32 := 2#32
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v229 : BitVec 32 := Scalar.muli c2_i32_123 arg17
  let c1_i32_124 : BitVec 32 := 1#32
  let v230 : BitVec 32 := Scalar.subi v229 c1_i32_124
  let c0_i32_125 : BitVec 32 := 0#32
  let v231 : BitVec 1 := Scalar.cmpi .slt v230 c0_i32_125
  let c512_i32 : BitVec 32 := 512#32
  let v33 : BitVec 32 := Scalar.muli arg2 c512_i32
  let v34 : BitVec 32 := v33
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let v234 : BitVec 32 := Scalar.maxsi c0_i32_128 v230
  let v235 : BitVec 32 := Scalar.minsi v233 v234
  let c512_i32_129 : BitVec 32 := 512#32
  let v236 : BitVec 32 := Scalar.muli v235 c512_i32_129
  let v237 : BitVec 32 := v236
  let v238 : BitVec 32 := Scalar.select v231 v34 v237
  v238
def k0_mult11 (i : grid0.Coords) (k0_t2 : Fin (k0_t2_loop i).trips) : BitVec 32 :=
  let arg2 : BitVec 32 := BitVec.ofNat 32 (i 2).val
  let c1_i32_131 : BitVec 32 := 1#32
  let v241 : BitVec 32 := Scalar.subi arg2 c1_i32_131
  let c0_i32_132 : BitVec 32 := 0#32
  let v242 : BitVec 32 := Scalar.maxsi v241 c0_i32_132
  let c0_i32_133 : BitVec 32 := 0#32
  let c2_i32_123 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v229 : BitVec 32 := Scalar.muli c2_i32_123 arg17
  let c1_i32_130 : BitVec 32 := 1#32
  let v240 : BitVec 32 := Scalar.addi v229 c1_i32_130
  let v243 : BitVec 32 := Scalar.maxsi c0_i32_133 v240
  let v244 : BitVec 32 := Scalar.minsi v242 v243
  let c512_i32_134 : BitVec 32 := 512#32
  let v245 : BitVec 32 := Scalar.muli v244 c512_i32_134
  v245
def k0_off7 (i : grid0.Coords) (k0_t2 : Fin (k0_t2_loop i).trips) : Fin 2 → Nat :=
  let arg2 : BitVec 32 := BitVec.ofNat 32 (i 2).val
  let c1_i32_131 : BitVec 32 := 1#32
  let v241 : BitVec 32 := Scalar.subi arg2 c1_i32_131
  let c0_i32_132 : BitVec 32 := 0#32
  let v242 : BitVec 32 := Scalar.maxsi v241 c0_i32_132
  let c0_i32_133 : BitVec 32 := 0#32
  let c2_i32_123 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v229 : BitVec 32 := Scalar.muli c2_i32_123 arg17
  let c1_i32_130 : BitVec 32 := 1#32
  let v240 : BitVec 32 := Scalar.addi v229 c1_i32_130
  let v243 : BitVec 32 := Scalar.maxsi c0_i32_133 v240
  let v244 : BitVec 32 := Scalar.minsi v242 v243
  let c512_i32_134 : BitVec 32 := 512#32
  let v245 : BitVec 32 := Scalar.muli v244 c512_i32_134
  let v246 : BitVec 32 := v245
  let v247 : Index := Scalar.indexCast v246
  let c0_135 : Index := 0#32
  ![v247.toNat, 0]
def k0_off8 (i : grid0.Coords) (k0_t2 : Fin (k0_t2_loop i).trips) : Fin 2 → Nat :=
  let c2_i32_123 : BitVec 32 := 2#32
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v229 : BitVec 32 := Scalar.muli c2_i32_123 arg17
  let c1_i32_124 : BitVec 32 := 1#32
  let v230 : BitVec 32 := Scalar.subi v229 c1_i32_124
  let c0_i32_125 : BitVec 32 := 0#32
  let v231 : BitVec 1 := Scalar.cmpi .slt v230 c0_i32_125
  let c512_i32 : BitVec 32 := 512#32
  let v33 : BitVec 32 := Scalar.muli arg2 c512_i32
  let v34 : BitVec 32 := v33
  let c1_i32_126 : BitVec 32 := 1#32
  let v232 : BitVec 32 := Scalar.subi arg2 c1_i32_126
  let c0_i32_127 : BitVec 32 := 0#32
  let v233 : BitVec 32 := Scalar.maxsi v232 c0_i32_127
  let c0_i32_128 : BitVec 32 := 0#32
  let v234 : BitVec 32 := Scalar.maxsi c0_i32_128 v230
  let v235 : BitVec 32 := Scalar.minsi v233 v234
  let c512_i32_129 : BitVec 32 := 512#32
  let v236 : BitVec 32 := Scalar.muli v235 c512_i32_129
  let v237 : BitVec 32 := v236
  let v238 : BitVec 32 := Scalar.select v231 v34 v237
  let v239 : BitVec 32 := v238
  let v260 : Index := Scalar.indexCast v239
  let c0_147 : Index := 0#32
  ![v260.toNat, 0]
def k0_mult12 (i : grid0.Coords) (k0_t2 : Fin (k0_t2_loop i).trips) : BitVec 32 :=
  let arg2 : BitVec 32 := BitVec.ofNat 32 (i 2).val
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let c2_i32_458 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let v661 : BitVec 32 := Scalar.maxsi c0_i32_466 v657
  let v662 : BitVec 32 := Scalar.minsi v660 v661
  let c512_i32_467 : BitVec 32 := 512#32
  let v663 : BitVec 32 := Scalar.muli v662 c512_i32_467
  v663
def k0_mult13 (i : grid0.Coords) (k0_t2 : Fin (k0_t2_loop i).trips) : BitVec 32 :=
  let c2_i32_458 : BitVec 32 := 2#32
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let c0_i32_463 : BitVec 32 := 0#32
  let v658 : BitVec 1 := Scalar.cmpi .slt v657 c0_i32_463
  let c512_i32 : BitVec 32 := 512#32
  let v33 : BitVec 32 := Scalar.muli arg2 c512_i32
  let v34 : BitVec 32 := v33
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let v661 : BitVec 32 := Scalar.maxsi c0_i32_466 v657
  let v662 : BitVec 32 := Scalar.minsi v660 v661
  let c512_i32_467 : BitVec 32 := 512#32
  let v663 : BitVec 32 := Scalar.muli v662 c512_i32_467
  let v664 : BitVec 32 := v663
  let v665 : BitVec 32 := Scalar.select v658 v34 v664
  v665
def k0_mult14 (i : grid0.Coords) (k0_t2 : Fin (k0_t2_loop i).trips) : BitVec 32 :=
  let arg2 : BitVec 32 := BitVec.ofNat 32 (i 2).val
  let c1_i32_469 : BitVec 32 := 1#32
  let v668 : BitVec 32 := Scalar.subi arg2 c1_i32_469
  let c0_i32_470 : BitVec 32 := 0#32
  let v669 : BitVec 32 := Scalar.maxsi v668 c0_i32_470
  let c0_i32_471 : BitVec 32 := 0#32
  let c2_i32_458 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v652 : BitVec 32 := Scalar.muli c2_i32_458 arg17
  let c1_i32_459 : BitVec 32 := 1#32
  let v653 : BitVec 32 := Scalar.addi v652 c1_i32_459
  let c1_i32_468 : BitVec 32 := 1#32
  let v667 : BitVec 32 := Scalar.addi v653 c1_i32_468
  let v670 : BitVec 32 := Scalar.maxsi c0_i32_471 v667
  let v671 : BitVec 32 := Scalar.minsi v669 v670
  let c512_i32_472 : BitVec 32 := 512#32
  let v672 : BitVec 32 := Scalar.muli v671 c512_i32_472
  v672
def k0_off9 (i : grid0.Coords) (k0_t2 : Fin (k0_t2_loop i).trips) : Fin 2 → Nat :=
  let arg2 : BitVec 32 := BitVec.ofNat 32 (i 2).val
  let c1_i32_469 : BitVec 32 := 1#32
  let v668 : BitVec 32 := Scalar.subi arg2 c1_i32_469
  let c0_i32_470 : BitVec 32 := 0#32
  let v669 : BitVec 32 := Scalar.maxsi v668 c0_i32_470
  let c0_i32_471 : BitVec 32 := 0#32
  let c2_i32_458 : BitVec 32 := 2#32
  let c0_i32_82 : BitVec 32 := 0#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v652 : BitVec 32 := Scalar.muli c2_i32_458 arg17
  let c1_i32_459 : BitVec 32 := 1#32
  let v653 : BitVec 32 := Scalar.addi v652 c1_i32_459
  let c1_i32_468 : BitVec 32 := 1#32
  let v667 : BitVec 32 := Scalar.addi v653 c1_i32_468
  let v670 : BitVec 32 := Scalar.maxsi c0_i32_471 v667
  let v671 : BitVec 32 := Scalar.minsi v669 v670
  let c512_i32_472 : BitVec 32 := 512#32
  let v672 : BitVec 32 := Scalar.muli v671 c512_i32_472
  let v673 : BitVec 32 := v672
  let v674 : Index := Scalar.indexCast v673
  let c0_473 : Index := 0#32
  ![v674.toNat, 0]
def k0_off10 (i : grid0.Coords) (k0_t2 : Fin (k0_t2_loop i).trips) : Fin 2 → Nat :=
  let c2_i32_458 : BitVec 32 := 2#32
  let c0_i32_82 : BitVec 32 := 0#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v164 : BitVec 32 := Scalar.subi v78 c0_i32_82
  let c1_i32_83 : BitVec 32 := 1#32
  let v166 : BitVec 32 := Scalar.divsi v164 c1_i32_83
  let v167 : BitVec 32 := Scalar.muli v166 c1_i32_83
  let v168 : BitVec 32 := Scalar.addi c0_i32_82 v167
  let c1_i32_85 : BitVec 32 := 1#32
  let arg17 : BitVec 32 := Scf.iv v168 c1_i32_85 k0_t2
  let v652 : BitVec 32 := Scalar.muli c2_i32_458 arg17
  let c1_i32_459 : BitVec 32 := 1#32
  let v653 : BitVec 32 := Scalar.addi v652 c1_i32_459
  let c1_i32_462 : BitVec 32 := 1#32
  let v657 : BitVec 32 := Scalar.subi v653 c1_i32_462
  let c0_i32_463 : BitVec 32 := 0#32
  let v658 : BitVec 1 := Scalar.cmpi .slt v657 c0_i32_463
  let c512_i32 : BitVec 32 := 512#32
  let v33 : BitVec 32 := Scalar.muli arg2 c512_i32
  let v34 : BitVec 32 := v33
  let c1_i32_464 : BitVec 32 := 1#32
  let v659 : BitVec 32 := Scalar.subi arg2 c1_i32_464
  let c0_i32_465 : BitVec 32 := 0#32
  let v660 : BitVec 32 := Scalar.maxsi v659 c0_i32_465
  let c0_i32_466 : BitVec 32 := 0#32
  let v661 : BitVec 32 := Scalar.maxsi c0_i32_466 v657
  let v662 : BitVec 32 := Scalar.minsi v660 v661
  let c512_i32_467 : BitVec 32 := 512#32
  let v663 : BitVec 32 := Scalar.muli v662 c512_i32_467
  let v664 : BitVec 32 := v663
  let v665 : BitVec 32 := Scalar.select v658 v34 v664
  let v666 : BitVec 32 := v665
  let v687 : Index := Scalar.indexCast v666
  let c0_485 : Index := 0#32
  ![v687.toNat, 0]
def k0_mult15 (i : grid0.Coords) : BitVec 32 :=
  let arg2 : BitVec 32 := BitVec.ofNat 32 (i 2).val
  let c1_i32_89 : BitVec 32 := 1#32
  let v172 : BitVec 32 := Scalar.subi arg2 c1_i32_89
  let c0_i32_90 : BitVec 32 := 0#32
  let v173 : BitVec 32 := Scalar.maxsi v172 c0_i32_90
  let c0_i32_91 : BitVec 32 := 0#32
  let c2_i32_86 : BitVec 32 := 2#32
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v169 : BitVec 32 := Scalar.muli c2_i32_86 v78
  let c1_i32_87 : BitVec 32 := 1#32
  let v170 : BitVec 32 := Scalar.subi v169 c1_i32_87
  let v174 : BitVec 32 := Scalar.maxsi c0_i32_91 v170
  let v175 : BitVec 32 := Scalar.minsi v173 v174
  let c512_i32_92 : BitVec 32 := 512#32
  let v176 : BitVec 32 := Scalar.muli v175 c512_i32_92
  v176
def k0_mult16 (i : grid0.Coords) : BitVec 32 :=
  let c2_i32_86 : BitVec 32 := 2#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v169 : BitVec 32 := Scalar.muli c2_i32_86 v78
  let c1_i32_87 : BitVec 32 := 1#32
  let v170 : BitVec 32 := Scalar.subi v169 c1_i32_87
  let c0_i32_88 : BitVec 32 := 0#32
  let v171 : BitVec 1 := Scalar.cmpi .slt v170 c0_i32_88
  let c512_i32 : BitVec 32 := 512#32
  let v33 : BitVec 32 := Scalar.muli arg2 c512_i32
  let v34 : BitVec 32 := v33
  let c1_i32_89 : BitVec 32 := 1#32
  let v172 : BitVec 32 := Scalar.subi arg2 c1_i32_89
  let c0_i32_90 : BitVec 32 := 0#32
  let v173 : BitVec 32 := Scalar.maxsi v172 c0_i32_90
  let c0_i32_91 : BitVec 32 := 0#32
  let v174 : BitVec 32 := Scalar.maxsi c0_i32_91 v170
  let v175 : BitVec 32 := Scalar.minsi v173 v174
  let c512_i32_92 : BitVec 32 := 512#32
  let v176 : BitVec 32 := Scalar.muli v175 c512_i32_92
  let v177 : BitVec 32 := v176
  let v178 : BitVec 32 := Scalar.select v171 v34 v177
  v178
def k0_off11 (i : grid0.Coords) : Fin 2 → Nat :=
  let c2_i32_86 : BitVec 32 := 2#32
  let arg2 : BitVec 32 := BitVec.ofNat 32 (i 2).val
  let c1_i32 : BitVec 32 := 1#32
  let v61 : BitVec 32 := Scalar.addi arg2 c1_i32
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32 : BitVec 32 := 2#32
  let c0_i32_23 : BitVec 32 := 0#32
  let v68 : BitVec 1 := Scalar.cmpi .sgt c2_i32 c0_i32_23
  let v69 : BitVec 32 := Scalar.extui v68
  let c0_i32_24 : BitVec 32 := 0#32
  let v70 : BitVec 1 := Scalar.cmpi .slt c2_i32 c0_i32_24
  let v71 : BitVec 32 := Scalar.extui v70
  let v72 : BitVec 32 := Scalar.subi v69 v71
  let v73 : BitVec 1 := Scalar.cmpi .ne v67 v72
  let v74 : BitVec 32 := Scalar.remsi v61 c2_i32
  let c0_i32_25 : BitVec 32 := 0#32
  let v75 : BitVec 1 := Scalar.cmpi .ne v74 c0_i32_25
  let v76 : BitVec 1 := Scalar.andi v73 v75
  let v62 : BitVec 32 := Scalar.divsi v61 c2_i32
  let c1_i32_26 : BitVec 32 := 1#32
  let v77 : BitVec 32 := Scalar.subi v62 c1_i32_26
  let v78 : BitVec 32 := Scalar.select v76 v77 v62
  let v169 : BitVec 32 := Scalar.muli c2_i32_86 v78
  let c1_i32_87 : BitVec 32 := 1#32
  let v170 : BitVec 32 := Scalar.subi v169 c1_i32_87
  let c0_i32_88 : BitVec 32 := 0#32
  let v171 : BitVec 1 := Scalar.cmpi .slt v170 c0_i32_88
  let c512_i32 : BitVec 32 := 512#32
  let v33 : BitVec 32 := Scalar.muli arg2 c512_i32
  let v34 : BitVec 32 := v33
  let c1_i32_89 : BitVec 32 := 1#32
  let v172 : BitVec 32 := Scalar.subi arg2 c1_i32_89
  let c0_i32_90 : BitVec 32 := 0#32
  let v173 : BitVec 32 := Scalar.maxsi v172 c0_i32_90
  let c0_i32_91 : BitVec 32 := 0#32
  let v174 : BitVec 32 := Scalar.maxsi c0_i32_91 v170
  let v175 : BitVec 32 := Scalar.minsi v173 v174
  let c512_i32_92 : BitVec 32 := 512#32
  let v176 : BitVec 32 := Scalar.muli v175 c512_i32_92
  let v177 : BitVec 32 := v176
  let v178 : BitVec 32 := Scalar.select v171 v34 v177
  let v179 : BitVec 32 := v178
  let v190 : Index := Scalar.indexCast v179
  let c0_105 : Index := 0#32
  ![v190.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x512 : Shape := ⟨2, ![32768, 512]⟩
abbrev S128x512 : Shape := ⟨2, ![128, 512]⟩
abbrev S8x4096x8x64 : Shape := ⟨4, ![8, 4096, 8, 64]⟩
abbrev S16x512 : Shape := ⟨2, ![16, 512]⟩
abbrev S1x16x512 : Shape := ⟨3, ![1, 16, 512]⟩
abbrev S8x16x512 : Shape := ⟨3, ![8, 16, 512]⟩
abbrev S8x4096x512 : Shape := ⟨3, ![8, 4096, 512]⟩
abbrev S8x4112x512 : Shape := ⟨3, ![8, 4112, 512]⟩
abbrev S8x4112x8x64 : Shape := ⟨4, ![8, 4112, 8, 64]⟩
abbrev S8x4096x4x128 : Shape := ⟨4, ![8, 4096, 4, 128]⟩
abbrev S8x4096x4x16 : Shape := ⟨4, ![8, 4096, 4, 16]⟩
abbrev S8x4096x8x8 : Shape := ⟨4, ![8, 4096, 8, 8]⟩
abbrev S8x4112x4x128 : Shape := ⟨4, ![8, 4112, 4, 128]⟩
abbrev S8x4112x4x16 : Shape := ⟨4, ![8, 4112, 4, 16]⟩
abbrev S8x4112x8x8 : Shape := ⟨4, ![8, 4112, 8, 8]⟩
abbrev S8x8x4096x4112 : Shape := ⟨4, ![8, 8, 4096, 4112]⟩
abbrev S4096 : Shape := ⟨1, ![4096]⟩
abbrev S_ : Shape := ⟨0, ![]⟩
abbrev S4096x1 : Shape := ⟨2, ![4096, 1]⟩
abbrev S4112 : Shape := ⟨1, ![4112]⟩
abbrev S1x4112 : Shape := ⟨2, ![1, 4112]⟩
abbrev S4096x4112 : Shape := ⟨2, ![4096, 4112]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 80
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S128x512, .bf16⟩
  | .hbm, ⟨6, _⟩ => ⟨S128x512, .bf16⟩
  | .hbm, ⟨7, _⟩ => ⟨S128x512, .bf16⟩
  | .hbm, ⟨8, _⟩ => ⟨S32768x512, .f32⟩
  | .hbm, ⟨9, _⟩ => ⟨S8x4096x8x64, .f32⟩
  | .hbm, ⟨10, _⟩ => ⟨S16x512, .bf16⟩
  | .hbm, ⟨11, _⟩ => ⟨S1x16x512, .bf16⟩
  | .hbm, ⟨12, _⟩ => ⟨S1x16x512, .f32⟩
  | .hbm, ⟨13, _⟩ => ⟨S8x16x512, .f32⟩
  | .hbm, ⟨14, _⟩ => ⟨S32768x512, .f32⟩
  | .hbm, ⟨15, _⟩ => ⟨S8x4096x512, .f32⟩
  | .hbm, ⟨16, _⟩ => ⟨S8x4112x512, .f32⟩
  | .hbm, ⟨17, _⟩ => ⟨S8x4112x8x64, .f32⟩
  | .hbm, ⟨18, _⟩ => ⟨S16x512, .bf16⟩
  | .hbm, ⟨19, _⟩ => ⟨S1x16x512, .bf16⟩
  | .hbm, ⟨20, _⟩ => ⟨S1x16x512, .f32⟩
  | .hbm, ⟨21, _⟩ => ⟨S8x16x512, .f32⟩
  | .hbm, ⟨22, _⟩ => ⟨S32768x512, .f32⟩
  | .hbm, ⟨23, _⟩ => ⟨S8x4096x512, .f32⟩
  | .hbm, ⟨24, _⟩ => ⟨S8x4112x512, .f32⟩
  | .hbm, ⟨25, _⟩ => ⟨S8x4112x8x64, .f32⟩
  | .hbm, ⟨26, _⟩ => ⟨S32768x512, .f32⟩
  | .hbm, ⟨27, _⟩ => ⟨S8x4096x4x128, .f32⟩
  | .hbm, ⟨28, _⟩ => ⟨S8x4096x4x16, .f32⟩
  | .hbm, ⟨29, _⟩ => ⟨S8x4096x8x8, .f32⟩
  | .hbm, ⟨30, _⟩ => ⟨S16x512, .bf16⟩
  | .hbm, ⟨31, _⟩ => ⟨S1x16x512, .bf16⟩
  | .hbm, ⟨32, _⟩ => ⟨S1x16x512, .f32⟩
  | .hbm, ⟨33, _⟩ => ⟨S8x16x512, .f32⟩
  | .hbm, ⟨34, _⟩ => ⟨S32768x512, .f32⟩
  | .hbm, ⟨35, _⟩ => ⟨S8x4096x512, .f32⟩
  | .hbm, ⟨36, _⟩ => ⟨S8x4112x512, .f32⟩
  | .hbm, ⟨37, _⟩ => ⟨S8x4112x4x128, .f32⟩
  | .hbm, ⟨38, _⟩ => ⟨S8x4112x4x16, .f32⟩
  | .hbm, ⟨39, _⟩ => ⟨S8x4112x8x8, .f32⟩
  | .hbm, ⟨40, _⟩ => ⟨S8x8x4096x4112, .f32⟩
  | .hbm, ⟨41, _⟩ => ⟨S8x8x4096x4112, .f32⟩
  | .hbm, ⟨42, _⟩ => ⟨S8x8x4096x4112, .f32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4112, .i32⟩
  | .hbm, ⟨49, _⟩ => ⟨S1x4112, .i32⟩
  | .hbm, ⟨50, _⟩ => ⟨S4096x4112, .i32⟩
  | .hbm, ⟨51, _⟩ => ⟨S4096x4112, .i32⟩
  | .hbm, ⟨52, _⟩ => ⟨S4096x4112, .i1⟩
  | .hbm, ⟨53, _⟩ => ⟨S_, .f32⟩
  | .hbm, ⟨54, _⟩ => ⟨S_, .f32⟩
  | .hbm, ⟨55, _⟩ => ⟨S8x8x4096x4112, .i1⟩
  | .hbm, ⟨56, _⟩ => ⟨S8x8x4096x4112, .f32⟩
  | .hbm, ⟨57, _⟩ => ⟨S8x8x4096x4112, .f32⟩
  | .hbm, ⟨58, _⟩ => ⟨S_, .f32⟩
  | .hbm, ⟨59, _⟩ => ⟨S_, .f32⟩
  | .hbm, ⟨60, _⟩ => ⟨S8x8x4096x4112, .f32⟩
  | .hbm, ⟨61, _⟩ => ⟨S8x8x4096x4112, .f32⟩
  | .hbm, ⟨62, _⟩ => ⟨S_, .f32⟩
  | .hbm, ⟨63, _⟩ => ⟨S8x8x4096, .f32⟩
  | .hbm, ⟨64, _⟩ => ⟨S_, .f32⟩
  | .hbm, ⟨65, _⟩ => ⟨S8x8x4096, .f32⟩
  | .hbm, ⟨66, _⟩ => ⟨S8x8x4096, .f32⟩
  | .hbm, ⟨67, _⟩ => ⟨S8x8x4096x1, .f32⟩
  | .hbm, ⟨68, _⟩ => ⟨S8x8x4096x4112, .f32⟩
  | .hbm, ⟨69, _⟩ => ⟨S8x8x4096x4112, .f32⟩
  | .hbm, ⟨70, _⟩ => ⟨S8x8x4096x4112, .f32⟩
  | .hbm, ⟨71, _⟩ => ⟨S_, .f32⟩
  | .hbm, ⟨72, _⟩ => ⟨S8x8x4096, .f32⟩
  | .hbm, ⟨73, _⟩ => ⟨S8x8x4096x1, .f32⟩
  | .hbm, ⟨74, _⟩ => ⟨S8x8x4096x4112, .f32⟩
  | .hbm, ⟨75, _⟩ => ⟨S8x8x4096x4112, .f32⟩
  | .hbm, ⟨76, _⟩ => ⟨S8x8x64x4096, .f32⟩
  | .hbm, ⟨77, _⟩ => ⟨S8x4096x8x64, .f32⟩
  | .hbm, ⟨78, _⟩ => ⟨S32768x512, .f32⟩
  | .hbm, ⟨79, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_1 : Ref sig .tc := ⟨.hbm, 62, rfl⟩
abbrev main_v48 : Ref sig .tc := ⟨.hbm, 63, rfl⟩
abbrev main_cst_2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1024x512 : Shape := ⟨2, ![1024, 512]⟩
abbrev S512x1024 : Shape := ⟨2, ![512, 1024]⟩
abbrev S1024x1 : Shape := ⟨2, ![1024, 1]⟩
abbrev S1024x256 : Shape := ⟨2, ![1024, 256]⟩

abbrev nBuf : Space → Nat
  | .hbm => 21
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .f32⟩
  | .hbm, ⟨18, _⟩ => ⟨S2816x1024, .bf16⟩
  | .hbm, ⟨19, _⟩ => ⟨S1x1024, .f32⟩
  | .hbm, ⟨20, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32768x1024, .bf16⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S32768x1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1024x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S1024x2816, .f32⟩
  | .hbm, ⟨43, _⟩ => ⟨S32768x2816, .f32⟩
  | .hbm, ⟨44, _⟩ => ⟨S32768x2816, .f32⟩
  | .hbm, ⟨45, _⟩ => ⟨S2816x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1x1024x3600 : Shape := ⟨3, ![1, 1024, 3600]⟩
abbrev S1x4x1536 : Shape := ⟨3, ![1, 4, 1536]⟩
abbrev S8x1536 : Shape := ⟨2, ![8, 1536]⟩
abbrev S1024x3600 : Shape := ⟨2, ![1024, 3600]⟩
abbrev S1024x2048 : Shape := ⟨2, ![1024, 2048]⟩
abbrev S1024x1536 : Shape := ⟨2, ![1024, 1536]⟩
abbrev S1024x3584 : Shape := ⟨2, ![1024, 3584]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S1024 : Shape := ⟨1, ![1024]⟩
abbrev S4x1536 : Shape := ⟨2, ![4, 1536]⟩
abbrev S32768x1536 : Shape := ⟨2, ![32768, 1536]⟩
abbrev S32768x512 : Shape := ⟨2, ![32768, 512]⟩
abbrev S32768x128 : Shape := ⟨2, ![32768, 128]⟩
abbrev S256x1536 : Shape := ⟨2, ![256, 1536]⟩
abbrev S1024x1024 : Shape := ⟨2, ![1024, 1024]⟩
abbrev S1024x512 : Shape := ⟨2, ![1024, 512]⟩
abbrev S1032x1536 : Shape := ⟨2, ![1032, 1536]⟩
abbrev S1024x1 : Shape := ⟨2, ![1024, 1]⟩
abbrev S1x512 : Shape := ⟨2, ![1, 512]⟩

abbrev nBuf : Space → Nat
  | .hbm => 26
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x3600, .f32⟩
  | .hbm, ⟨3, _⟩ => ⟨S1x4x1536, .f32⟩
  | .hbm, ⟨4, _⟩ => ⟨S8x1536, .f32⟩
  | .hbm, ⟨5, _⟩ => ⟨S1024x3600, .f32⟩
  | .hbm, ⟨6, _⟩ => ⟨S1024x2048, .f32⟩
  | .hbm, ⟨7, _⟩ => ⟨S1024x1536, .f32⟩
  | .hbm, ⟨8, _⟩ => ⟨S1024x3584, .f32⟩
  | .hbm, ⟨9, _⟩ => ⟨S1024x3584, .bf16⟩
  | .hbm, ⟨10, _⟩ => ⟨S1024x8, .f32⟩
  | .hbm, ⟨11, _⟩ => ⟨S1024x8, .f32⟩
  | .hbm, ⟨12, _⟩ => ⟨S_, .f32⟩
  | .hbm, ⟨13, _⟩ => ⟨S1024x112, .f32⟩
  | .hbm, ⟨14, _⟩ => ⟨S1024x128, .f32⟩
  | .hbm, ⟨15, _⟩ => ⟨S1024x128, .bf16⟩
  | .hbm, ⟨16, _⟩ => ⟨S1024, .f32⟩
  | .hbm, ⟨17, _⟩ => ⟨S1x1024, .f32⟩
  | .hbm, ⟨18, _⟩ => ⟨S4x1536, .f32⟩
  | .hbm, ⟨19, _⟩ => ⟨S32768x1536, .f32⟩
  | .hbm, ⟨20, _⟩ => ⟨S32768x512, .f32⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x128, .f32⟩
  | .hbm, ⟨25, _⟩ => ⟨S256x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S4x1536, .f32⟩
  | .local _ .vmem, ⟨6, _⟩ => ⟨S8x1536, .f32⟩
  | .local _ .vmem, ⟨7, _⟩ => ⟨S1024x1536, .f32⟩
  | .local _ .vmem, ⟨8, _⟩ => ⟨S1024x1536, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x128, .f32⟩
  | .local _ .vmem, ⟨18, _⟩ => ⟨S1024x128, .f32⟩
  | .local _ .vmem, ⟨19, _⟩ => ⟨S8x1536, .f32⟩
  | .local _ .vmem, ⟨20, _⟩ => ⟨S8x1536, .f32⟩
  | .local _ .vmem, ⟨21, _⟩ => ⟨S1032x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S1x1024 : Shape := ⟨2, ![1, 1024]⟩
abbrev S1x1024x3600 : Shape := ⟨3, ![1, 1024, 3600]⟩
abbrev S1x4x1536 : Shape := ⟨3, ![1, 4, 1536]⟩
abbrev S8x1536 : Shape := ⟨2, ![8, 1536]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3600 : Shape := ⟨2, ![1024, 3600]⟩
abbrev S32768x3600 : Shape := ⟨2, ![32768, 3600]⟩
abbrev S32768x1536 : Shape := ⟨2, ![32768, 1536]⟩
abbrev S3x1536 : Shape := ⟨2, ![3, 1536]⟩
abbrev S1x3x1536 : Shape := ⟨3, ![1, 3, 1536]⟩
abbrev S8x3x1536 : Shape := ⟨3, ![8, 3, 1536]⟩
abbrev S8x4096x1536 : Shape := ⟨3, ![8, 4096, 1536]⟩
abbrev S8x4099x1536 : Shape := ⟨3, ![8, 4099, 1536]⟩
abbrev S1x1x1536 : Shape := ⟨3, ![1, 1, 1536]⟩
abbrev S1536 : Shape := ⟨1, ![1536]⟩
abbrev S32768x8 : Shape := ⟨2, ![32768, 8]⟩
abbrev S32768x112 : Shape := ⟨2, ![32768, 112]⟩
abbrev S32768x128 : Shape := ⟨2, ![32768, 128]⟩
abbrev S32768x512 : Shape := ⟨2, ![32768, 512]⟩
abbrev S32x1024x1536 : Shape := ⟨3, ![32, 1024, 1536]⟩
abbrev S32x8x1536 : Shape := ⟨3, ![32, 8, 1536]⟩
abbrev S256x1536 : Shape := ⟨2, ![256, 1536]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x3600, .f32⟩
  | .hbm, ⟨3, _⟩ => ⟨S1x4x1536, .f32⟩
  | .hbm, ⟨4, _⟩ => ⟨S8x1536, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x3600, .f32⟩
  | .hbm, ⟨23, _⟩ => ⟨S32768x3600, .f32⟩
  | .hbm, ⟨24, _⟩ => ⟨S32768x1536, .f32⟩
  | .hbm, ⟨25, _⟩ => ⟨S3x1536, .f32⟩
  | .hbm, ⟨26, _⟩ => ⟨S1x3x1536, .f32⟩
  | .hbm, ⟨27, _⟩ => ⟨S8x3x1536, .f32⟩
  | .hbm, ⟨28, _⟩ => ⟨S8x4096x1536, .f32⟩
  | .hbm, ⟨29, _⟩ => ⟨S8x4099x1536, .f32⟩
  | .hbm, ⟨30, _⟩ => ⟨S1x1x1536, .f32⟩
  | .hbm, ⟨31, _⟩ => ⟨S1536, .f32⟩
  | .hbm, ⟨32, _⟩ => ⟨S8x4096x1536, .f32⟩
  | .hbm, ⟨33, _⟩ => ⟨S1x1x1536, .f32⟩
  | .hbm, ⟨34, _⟩ => ⟨S8x4096x1536, .f32⟩
  | .hbm, ⟨35, _⟩ => ⟨S8x4096x1536, .f32⟩
  | .hbm, ⟨36, _⟩ => ⟨S_, .f32⟩
  | .hbm, ⟨37, _⟩ => ⟨S8x4096x1536, .f32⟩
  | .hbm, ⟨38, _⟩ => ⟨S8x4096x1536, .f32⟩
  | .hbm, ⟨39, _⟩ => ⟨S1x1x1536, .f32⟩
  | .hbm, ⟨40, _⟩ => ⟨S1536, .f32⟩
  | .hbm, ⟨41, _⟩ => ⟨S8x4096x1536, .f32⟩
  | .hbm, ⟨42, _⟩ => ⟨S1x1x1536, .f32⟩
  | .hbm, ⟨43, _⟩ => ⟨S8x4096x1536, .f32⟩
  | .hbm, ⟨44, _⟩ => ⟨S8x4096x1536, .f32⟩
  | .hbm, ⟨45, _⟩ => ⟨S8x4096x1536, .f32⟩
  | .hbm, ⟨46, _⟩ => ⟨S1x1x1536, .f32⟩
  | .hbm, ⟨47, _⟩ => ⟨S1536, .f32⟩
  | .hbm, ⟨48, _⟩ => ⟨S8x4096x1536, .f32⟩
  | .hbm, ⟨49, _⟩ => ⟨S1x1x1536, .f32⟩
  | .hbm, ⟨50, _⟩ => ⟨S8x4096x1536, .f32⟩
  | .hbm, ⟨51, _⟩ => ⟨S8x4096x1536, .f32⟩
  | .hbm, ⟨52, _⟩ => ⟨S8x4096x1536, .f32⟩
  | .hbm, ⟨53, _⟩ => ⟨S1x1x1536, .f32⟩
  | .hbm, ⟨54, _⟩ => ⟨S1536, .f32⟩
  | .hbm, ⟨55, _⟩ => ⟨S8x4096x1536, .f32⟩
  | .hbm, ⟨56, _⟩ => ⟨S1x1x1536, .f32⟩
  | .hbm, ⟨57, _⟩ => ⟨S8x4096x1536, .f32⟩
  | .hbm, ⟨58, _⟩ => ⟨S8x4096x1536, .f32⟩
  | .hbm, ⟨59, _⟩ => ⟨S8x4096x1536, .f32⟩
  | .hbm, ⟨60, _⟩ => ⟨S32768x8, .f32⟩
  | .hbm, ⟨61, _⟩ => ⟨S32768x8, .f32⟩
  | .hbm, ⟨62, _⟩ => ⟨S_, .f32⟩
  | .hbm, ⟨63, _⟩ => ⟨S32768x112, .f32⟩
  | .hbm, ⟨64, _⟩ => ⟨S32768x128, .f32⟩
  | .hbm, ⟨65, _⟩ => ⟨S8x4096x1536, .f32⟩
  | .hbm, ⟨66, _⟩ => ⟨S8x4096x1536, .f32⟩
  | .hbm, ⟨67, _⟩ => ⟨S_, .f32⟩
  | .hbm, ⟨68, _⟩ => ⟨S8x4096x1536, .f32⟩
  | .hbm, ⟨69, _⟩ => ⟨S8x4096x1536, .f32⟩
  | .hbm, ⟨70, _⟩ => ⟨S_, .f32⟩
  | .hbm, ⟨71, _⟩ => ⟨S8x4096x1536, .f32⟩
  | .hbm, ⟨72, _⟩ => ⟨S8x4096x1536, .f32⟩
  | .hbm, ⟨73, _⟩ => ⟨S8x4096x1536, .f32⟩
  | .hbm, ⟨74, _⟩ => ⟨S32768x1536, .f32⟩
  | .hbm, ⟨75, _⟩ => ⟨S32768x512, .f32⟩
  | .hbm, ⟨76, _⟩ => ⟨S32768x512, .f32⟩
  | .hbm, ⟨77, _⟩ => ⟨S_, .f32⟩
  | .hbm, ⟨78, _⟩ => ⟨S32768x512, .f32⟩
  | .hbm, ⟨79, _⟩ => ⟨S32768x512, .f32⟩
  | .hbm, ⟨80, _⟩ => ⟨S32768x512, .bf16⟩
  | .hbm, ⟨81, _⟩ => ⟨S32768x512, .f32⟩
  | .hbm, ⟨82, _⟩ => ⟨S32768x512, .bf16⟩
  | .hbm, ⟨83, _⟩ => ⟨S32768x512, .f32⟩
  | .hbm, ⟨84, _⟩ => ⟨S32768x512, .bf16⟩
  | .hbm, ⟨85, _⟩ => ⟨S32x1024x1536, .f32⟩
  | .hbm, ⟨86, _⟩ => ⟨S32x8x1536, .f32⟩
  | .hbm, ⟨87, _⟩ => ⟨S256x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.FoxFrameIdeal.lean ====
/-
  The frame of the attention call (`KernelIdeal`): the program ends, nothing faults, its eight argument arrays end as they
  began and every semaphore counter ends at zero. The body's five scratch buffers are the invariant's, held at some
  contents; the result's staging buffer is forgotten (what it holds is the value claim's, not the frame's). The
  counted loop over the pairs of key blocks is gone through once, at a symbolic trip, by its generated invariant.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body, run once over symbolic memrefs -/

set_option maxHeartbeats 4000000 in
/-- The body at any memrefs: the inputs' buffers come back as they were, the output's and the scratch buffers' at
    some contents. -/
theorem kernelRun (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole)
    (x0 : Vec F S512x128 .bf16) (x1 : Vec F S512x128 .bf16) (x2 : Vec F S4096x128 .bf16) (x3 : Vec F S4096x128 .bf16) (x4 : Vec F S4096x128 .bf16) (x5 : Vec F S128x128 .bf16) (x6 : Vec F S128x128 .bf16) (x7 : Vec F S128x128 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_fox i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_eq_skeleton]; unfold cc0_fox_skel
  simp only [k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

/-! ## The proof data and the body obligation -/

/-- The result's window is forgotten. -/
def forgets0 : Fin 9 → Bool := fun w => w = 8

/-- The proof data on core `c`: the arrays as the region finds them; each input's buffer left at its block, the
    result's unnamed; the invariant the scratch buffers at some contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch buffers. -/
abbrev scM0_0 : Memref sig .tc .vmem S2x2x512x512 .f32 := Memref.whole cc0_scratch0
abbrev scM0_1 : Memref sig .tc .vmem S2x2x512x512 .bf16 := Memref.whole cc0_scratch1
abbrev scM0_2 : Memref sig .tc .vmem S2x512x1 .f32 := Memref.whole cc0_scratch2
abbrev scM0_3 : Memref sig .tc .vmem S2x512x1 .f32 := Memref.whole cc0_scratch3
abbrev scM0_4 : Memref sig .tc .vmem S2x512x128 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

set_option maxHeartbeats 800000 in
/-- The body at any point: the inputs' memrefs hold their blocks, so the run applies; the invariant hands the body
    its scratch buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation at every point, the result's window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

set_option backward.isDefEq.respectTransparency.types false in
/-- Every execution of @main ends with the inputs' arrays as the region found them and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array after the run is as launched. -/
theorem input_kept {r : PUnit × MemSt nD τ sig (Elt F)}
    (h : Pipeline.RDat.FramePost (cfgs 0) (fun c => (dats (F := F) m 0 c).toRForget forgets0) (V m) r) (c : Dev nD)
    (w : Fin cfg0.W) (hin : (cfg0.win w).isOut = false) :
    r.2.mem ((c : Thread nD τ).loc (Pipeline.arrRef spec0 w)) = V m c (Pipeline.arrRef spec0 w) :=
  (Pipeline.RDat.FramePost.arr_in h c w hin).trans (A_eq m c w)

/-- THE FRAME: the claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨input_kept m h.1 c 0 rfl, input_kept m h.1 c 1 rfl, input_kept m h.1 c 2 rfl, input_kept m h.1 c 3 rfl, input_kept m h.1 c 4 rfl, input_kept m h.1 c 5 rfl, input_kept m h.1 c 6 rfl, input_kept m h.1 c 7 rfl⟩, h.2⟩) (run_main m ρ)

end Cert.KernelIdeal.Hand

end
-- ==== Proof.FoxMath.lean ====
/-
  The arithmetic of the rescaled sums: a sum of powers of two taken at one bound, times the power of two of the
  difference of two bounds, is the sum taken at the other bound; and the quotient of two such sums does not depend on
  the bound.
-/
module

public import Idealize.ShloMosaic.Lib.Pointwise
public import Idealize.ShloMosaic.Lib.Pipeline.ValueKit

@[expose] public section

noncomputable section

namespace Cert.Fox

open Idealize.ShloMosaic
open scoped BigOperators

/-- The power of two. -/
abbrev ex2 (x : EReal) : EReal := FloatOps.exp2 (F := Ideal) (φ := .f32) x

/-- Neither infinity. -/
def Fin' (x : EReal) : Prop := x ≠ ⊥ ∧ x ≠ ⊤

theorem Fin'.coe {x : EReal} (h : Fin' x) : ∃ a : ℝ, x = a := ⟨x.toReal, (EReal.coe_toReal h.2 h.1).symm⟩
theorem fin_coe (a : ℝ) : Fin' (a : EReal) := ⟨EReal.coe_ne_bot a, EReal.coe_ne_top a⟩

theorem ex2_bot : ex2 ⊥ = 0 := rfl
theorem ex2_coe (a : ℝ) : ex2 (a : EReal) = ((2 : ℝ) ^ a : ℝ) := rfl

theorem ex2_nonneg (x : EReal) : 0 ≤ ex2 x := by
  induction x with
  | bot => exact le_rfl
  | coe a => rw [ex2_coe]; exact_mod_cast Real.rpow_nonneg (by norm_num) a
  | top => exact le_top

theorem ex2_ne_top {x : EReal} (h : x ≠ ⊤) : ex2 x ≠ ⊤ := by
  induction x with
  | bot => exact EReal.zero_ne_top
  | coe a => rw [ex2_coe]; exact EReal.coe_ne_top _
  | top => exact absurd rfl h

theorem sub_ne_top {s m : EReal} (hs : s ≠ ⊤) (hm : Fin' m) : s - m ≠ ⊤ := by
  obtain ⟨a, rfl⟩ := hm.coe
  induction s with
  | bot => rw [EReal.bot_sub]; exact bot_ne_top
  | coe b => rw [← EReal.coe_sub]; exact EReal.coe_ne_top _
  | top => exact absurd rfl hs

/-- One power of two rescaled. -/
theorem ex2_shift {m m' s : EReal} (hm : Fin' m) (hm' : Fin' m') (hs : s ≠ ⊤) : ex2 (m - m') * ex2 (s - m) = ex2 (s - m') := by
  obtain ⟨a, rfl⟩ := hm.coe
  obtain ⟨b, rfl⟩ := hm'.coe
  induction s with
  | bot => rw [EReal.bot_sub, EReal.bot_sub, ex2_bot, mul_zero]
  | coe c =>
    simp only [← EReal.coe_sub, ex2_coe, ← EReal.coe_mul]
    rw [← Real.rpow_add (by norm_num)]
    congr 2; ring
  | top => exact absurd rfl hs

/-- A factor that is neither negative nor infinite goes into a sum. -/
theorem mul_sum' {ι : Type*} (a : EReal) (ha : 0 ≤ a) (ha' : a ≠ ⊤) (s : Finset ι) (f : ι → EReal) :
    a * ∑ x ∈ s, f x = ∑ x ∈ s, a * f x := by
  classical
  induction s using Finset.induction_on with
  | empty => simp
  | insert x s hx ih => rw [Finset.sum_insert hx, Finset.sum_insert hx, EReal.left_distrib_of_nonneg_of_ne_top ha ha', ih]

/-- A sum of weighted powers of two at the bound `m`. -/
def wsum {ι : Type*} (t : Finset ι) (s w : ι → EReal) (m : EReal) : EReal := ∑ x ∈ t, ex2 (s x - m) * w x

theorem shift_nn {m m' : EReal} : 0 ≤ ex2 (m - m') := ex2_nonneg _
theorem shift_nt {m m' : EReal} (hm : Fin' m) (hm' : Fin' m') : ex2 (m - m') ≠ ⊤ := ex2_ne_top (sub_ne_top hm.2 hm')

theorem wsum_shift {ι : Type*} (t : Finset ι) (s w : ι → EReal) {m m' : EReal} (hm : Fin' m) (hm' : Fin' m')
    (hs : ∀ x ∈ t, s x ≠ ⊤) : ex2 (m - m') * wsum t s w m = wsum t s w m' := by
  unfold wsum
  rw [mul_sum' _ shift_nn (shift_nt hm hm')]
  exact Finset.sum_congr rfl fun x hx => by rw [← mul_assoc, ex2_shift hm hm' (hs x hx)]

theorem ex2_self {m : EReal} (hm : Fin' m) : ex2 (m - m) = 1 := by
  obtain ⟨a, rfl⟩ := hm.coe
  rw [← EReal.coe_sub, ex2_coe, sub_self, Real.rpow_zero]; rfl

/-- The sums over the first keys, the block on the diagonal and the first `J` blocks before it. -/
def tot {ι : Type*} [Fintype ι] (sm wm : ι → EReal) (sd wd : Fin 512 → EReal) (sc w : ℕ → Fin 512 → EReal) (J : ℕ) (m : EReal) : EReal :=
  (wsum Finset.univ sm wm m + wsum Finset.univ sd wd m) + ∑ j ∈ Finset.range J, wsum Finset.univ (sc j) (w j) m

section
variable {ι : Type*} [Fintype ι] (sm wm : ι → EReal) (sd wd : Fin 512 → EReal) (sc w : ℕ → Fin 512 → EReal)

theorem tot_succ (J : ℕ) (m : EReal) : tot sm wm sd wd sc w (J + 1) m = tot sm wm sd wd sc w J m + wsum Finset.univ (sc J) (w J) m := by
  unfold tot; rw [Finset.sum_range_succ, ← add_assoc]

theorem tot_shift (hm' : ∀ x, sm x ≠ ⊤) (hd : ∀ x, sd x ≠ ⊤) (hc : ∀ j x, sc j x ≠ ⊤) (J : ℕ) {m m' : EReal} (h : Fin' m) (h' : Fin' m') :
    ex2 (m - m') * tot sm wm sd wd sc w J m = tot sm wm sd wd sc w J m' := by
  unfold tot
  rw [EReal.left_distrib_of_nonneg_of_ne_top shift_nn (shift_nt h h'), EReal.left_distrib_of_nonneg_of_ne_top shift_nn (shift_nt h h'),
    wsum_shift _ _ _ h h' fun x _ => hm' x, wsum_shift _ _ _ h h' fun x _ => hd x, mul_sum' _ shift_nn (shift_nt h h')]
  exact congrArg _ (Finset.sum_congr rfl fun j _ => wsum_shift _ _ _ h h' fun x _ => hc j x)
end

/-! ## The loop over pairs of blocks -/

/-- The values the block looked at before trip `k` is weighted with: the diagonal's at first. -/
def prevW (n : ℕ) (wd : Fin 512 → EReal) (w : ℕ → Fin 512 → EReal) (k : ℕ) : Fin 512 → EReal :=
  if k = 0 then wd else w (min (2 * k - 1) (n - 1))

/-- Whether that block is a real one. -/
def keepAt (n k : ℕ) : EReal := if k = 0 ∨ 2 * k - 1 < n then 1 else 0

theorem max_fin {a b : EReal} (ha : Fin' a) (hb : Fin' b) : Fin' (max a b) := by
  rcases max_choice a b with h | h <;> rw [h] <;> assumption

/-- What a pair of blocks does to the running maximum, the scores at hand, the last rescaling, the last block's powers
    of two and the sum; and what is left when all pairs are done: the sum over all keys, at some finite bound. -/
theorem loop_sum {ι : Type*} [Fintype ι] (sm wm : ι → EReal) (sd wd : Fin 512 → EReal) (sc w : ℕ → Fin 512 → EReal)
    (rm : (Fin 512 → EReal) → EReal) (hrm : ∀ f, (∀ c, Fin' (f c)) → Fin' (rm f))
    (hsm : ∀ x, sm x ≠ ⊤) (hsd : ∀ x, sd x ≠ ⊤) (hsc : ∀ j x, Fin' (sc j x))
    (n T : ℕ) (hT : T = (n + 1) / 2)
    (S : ℕ → Fin 512 → EReal) (M al : ℕ → EReal) (p : ℕ → Fin 512 → EReal) (acc : ℕ → EReal)
    (hM0 : Fin' (M 0)) (hS0 : ∀ x, S 0 x = sc 0 x) (hal0 : al 0 = 1) (hp0 : ∀ x, p 0 x = ex2 (sd x - M 0))
    (hacc0 : acc 0 = wsum Finset.univ sm wm (M 0))
    (hM : ∀ k < T, M (k + 1) = if 2 * k + 1 < n then max (max (M k) (rm (S k))) (rm (sc (min (2 * k + 1) (n - 1)))) else max (M k) (rm (S k)))
    (hS : ∀ k < T, ∀ x, S (k + 1) x = sc (min (2 * k + 2) (n - 1)) x)
    (hal : ∀ k < T, al (k + 1) = ex2 (max (M k) (rm (S k)) - M (k + 1)))
    (hp : ∀ k < T, ∀ x, p (k + 1) x = ex2 (sc (min (2 * k + 1) (n - 1)) x - M (k + 1)))
    (hacc : ∀ k < T, acc (k + 1) = ex2 (M k - max (M k) (rm (S k))) * (al k * acc k + ∑ x, p k x * prevW n wd w k x)
        + ∑ x, ex2 (S k x - max (M k) (rm (S k))) * w (2 * k) x) :
    Fin' (M T) ∧ al T * acc T + keepAt n T * ∑ x, p T x * prevW n wd w T x = tot sm wm sd wd sc w n (M T) := by
  have main : ∀ k, k ≤ T → Fin' (M k) ∧ (2 * k < n → ∀ x, S k x = sc (2 * k) x) ∧ (∀ x, Fin' (S k x))
      ∧ al k * acc k + keepAt n k * ∑ x, p k x * prevW n wd w k x = tot sm wm sd wd sc w (min (2 * k) n) (M k) := by
    intro k
    induction k with
    | zero =>
      intro _
      refine ⟨hM0, fun _ x => hS0 x, fun x => hS0 x ▸ hsc 0 x, ?_⟩
      rw [hal0, one_mul, hacc0]
      simp only [keepAt, prevW, true_or, if_true, one_mul, Nat.mul_zero, Nat.zero_min, tot, Finset.range_zero, Finset.sum_empty, add_zero, hp0]
      rfl
    | succ k ih =>
      intro hk
      have hkT : k < T := hk
      obtain ⟨iM, iS, iF, iT⟩ := ih (le_of_lt hkT)
      have h2 : 2 * k < n := by omega
      have hM1 : Fin' (max (M k) (rm (S k))) := max_fin iM (hrm _ iF)
      have hM2 : Fin' (M (k + 1)) := by
        rw [hM k hkT]; split
        · exact max_fin hM1 (hrm _ fun c => hsc _ c)
        · exact hM1
      refine ⟨hM2, fun h x => ?_, fun x => ?_, ?_⟩
      · rw [hS k hkT, show min (2 * k + 2) (n - 1) = 2 * (k + 1) by omega]
      · rw [hS k hkT]; exact hsc _ x
      · have hk1 : keepAt n k = 1 := by unfold keepAt; rw [if_pos]; omega
        rw [hk1, one_mul, show min (2 * k) n = 2 * k by omega] at iT
        have e1 : acc (k + 1) = tot sm wm sd wd sc w (2 * k + 1) (max (M k) (rm (S k))) := by
          rw [hacc k hkT, iT, tot_shift sm wm sd wd sc w hsm hsd (fun j x => (hsc j x).2) _ iM hM1, tot_succ]
          simp only [iS h2]; rfl
        rw [hal k hkT, e1, tot_shift sm wm sd wd sc w hsm hsd (fun j x => (hsc j x).2) _ hM1 hM2]
        by_cases hb : 2 * k + 1 < n
        · rw [show keepAt n (k + 1) = 1 by unfold keepAt; rw [if_pos]; omega, one_mul, show min (2 * (k + 1)) n = 2 * k + 1 + 1 by omega, tot_succ sm wm sd wd sc w (2 * k + 1)]
          refine congrArg₂ (· + ·) rfl (Finset.sum_congr rfl fun x _ => ?_)
          rw [hp k hkT, prevW, if_neg (by omega), show min (2 * k + 1) (n - 1) = 2 * k + 1 by omega, show min (2 * (k + 1) - 1) (n - 1) = 2 * k + 1 by omega]
        · rw [show keepAt n (k + 1) = 0 by unfold keepAt; rw [if_neg]; omega, zero_mul, add_zero, show min (2 * (k + 1)) n = 2 * k + 1 by omega]
  obtain ⟨a, -, -, b⟩ := main T le_rfl
  exact ⟨a, by rw [b, show min (2 * T) n = n by omega]⟩

/-! ## The quotient -/

theorem wsum_nonneg {ι : Type*} (t : Finset ι) (s : ι → EReal) (m : EReal) : 0 ≤ wsum t s (fun _ => 1) m :=
  Finset.sum_nonneg fun x _ => by rw [mul_one]; exact ex2_nonneg _

theorem sum_ne_top {ι : Type*} (t : Finset ι) (f : ι → EReal) (h0 : ∀ x ∈ t, 0 ≤ f x) (h : ∀ x ∈ t, f x ≠ ⊤) : ∑ x ∈ t, f x ≠ ⊤ := by
  classical
  induction t using Finset.induction_on with
  | empty => simp
  | insert x s hx ih =>
    rw [Finset.sum_insert hx]
    refine (EReal.add_ne_top (h x (Finset.mem_insert_self ..)) (ih (fun y hy => h0 y (Finset.mem_insert_of_mem hy)) fun y hy => h y (Finset.mem_insert_of_mem hy)))

/-- The sum of the powers of two is a positive real when one of the scores is one. -/
theorem den {ι : Type*} (t : Finset ι) (s : ι → EReal) {m : EReal} (hm : Fin' m) (hs : ∀ x ∈ t, s x ≠ ⊤) (x : ι) (hx : x ∈ t) (hf : Fin' (s x)) :
    ∃ a : ℝ, 0 < a ∧ wsum t s (fun _ => 1) m = a := by
  have h1 : wsum t s (fun _ => 1) m ≠ ⊤ := sum_ne_top _ _ (fun y _ => by rw [mul_one]; exact ex2_nonneg _)
    fun y hy => by rw [mul_one]; exact ex2_ne_top (sub_ne_top (hs y hy) hm)
  have h2 : 0 < wsum t s (fun _ => 1) m := by
    refine lt_of_lt_of_le ?_ (Finset.single_le_sum (f := fun y => ex2 (s y - m) * 1) (fun y _ => by rw [mul_one]; exact ex2_nonneg _) hx)
    obtain ⟨a, ha⟩ := hf.coe
    obtain ⟨b, rfl⟩ := hm.coe
    rw [ha, mul_one, ← EReal.coe_sub, ex2_coe]
    exact_mod_cast Real.rpow_pos_of_pos (by norm_num) _
  obtain ⟨a, ha⟩ := Fin'.coe ⟨ne_of_gt (lt_of_le_of_lt bot_le h2), h1⟩
  exact ⟨a, by rw [ha] at h2; exact_mod_cast h2, ha⟩

theorem div_real (x : EReal) {a : ℝ} (ha : 0 < a) : Ideal.div x a = x * ((a⁻¹ : ℝ) : EReal) := by
  unfold Ideal.div
  rw [if_neg (by exact_mod_cast ha.ne'), EReal.coe_inv]

/-- The quotient of the weighted sum by the sum, at any bound, is the sum of the quotients at any other. -/
theorem quot {ι : Type*} (t : Finset ι) (s v : ι → EReal) {m M : EReal} (hm : Fin' m) (hM : Fin' M) (hs : ∀ x ∈ t, s x ≠ ⊤)
    (x : ι) (hx : x ∈ t) (hf : Fin' (s x)) :
    Ideal.div (wsum t s v m) (wsum t s (fun _ => 1) m) = ∑ y ∈ t, Ideal.div (ex2 (s y - M)) (wsum t s (fun _ => 1) M) * v y := by
  obtain ⟨a, ha, hL⟩ := den t s hM hs x hx hf
  obtain ⟨mr, rfl⟩ := hm.coe
  obtain ⟨Mr, rfl⟩ := hM.coe
  rw [← wsum_shift t s v (fin_coe Mr) (fin_coe mr) hs, ← wsum_shift t s (fun _ => 1) (fin_coe Mr) (fin_coe mr) hs, hL]
  have hp : (0 : ℝ) < (2 : ℝ) ^ (Mr - mr) := Real.rpow_pos_of_pos (by norm_num) _
  rw [← EReal.coe_sub, ex2_coe, ← EReal.coe_mul, div_real _ (mul_pos hp ha)]
  have e : ∀ X : EReal, (((2 : ℝ) ^ (Mr - mr) : ℝ) : EReal) * X * (((((2 : ℝ) ^ (Mr - mr)) * a)⁻¹ : ℝ) : EReal) = ((a⁻¹ : ℝ) : EReal) * X := by
    intro X
    rw [mul_comm (((2 : ℝ) ^ (Mr - mr) : ℝ) : EReal) X, mul_assoc, ← EReal.coe_mul, mul_comm X]
    congr 2
    field_simp
  rw [e, wsum, mul_sum' _ (by exact_mod_cast (inv_pos.mpr ha).le) (EReal.coe_ne_top _)]
  refine Finset.sum_congr rfl fun y _ => ?_
  rw [div_real _ ha, ← mul_assoc, mul_comm ((a⁻¹ : ℝ) : EReal)]

end Cert.Fox
end
-- ==== Proof.FoxTrip.lean ====
/-
  One trip of the attention's loop over pairs of key blocks, read at an index: what each scratch buffer holds after it,
  from what it held before.
-/
module

public import proofs.«01_k».proof.Proof.Gen.KernelIdeal.Frame
public import proofs.«01_k».proof.Proof.Gen.KernelIdeal.Loops
public import proofs.«01_k».proof.Proof.FoxMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Fox (ex2)
open scoped BigOperators

/-- The greatest of a row of 512. -/
def rowMax (f : Fin 512 → EReal) : EReal := Finset.fold max (Ideal.ofBits FTy.f32 4286578688#32) f Finset.univ

/-- The scores of the queries' rows (both halves of their lanes) against the block of keys at `off`. -/
def scoreAt {m5 m6 : Memref sig .tc .vmem S4096x128 .bf16} (X5 : BufTy.Contents (Elt Ideal) m5.view.ty)
    (X6 : BufTy.Contents (Elt Ideal) m6.view.ty) (off : Fin 2 → ℕ) (inb : ∀ a, off a + S512x128.size a ≤ S4096x128.size a)
    (q : FVec Ideal S512x256 .bf16) : FVec Ideal S512x512 .f32 :=
  matmul (φ₂ := .bf16) dot_S512x256_S512x256_S512x512_1_1_0_0_n_n none q
    (concatenate (α := Ideal .bf16) S512x256 1 [⟨S512x128, View.readAt (Elt Ideal) m5.view (Rect.unit (s := S4096x128) off S512x128.size inb).toLoadRect X5⟩,
      ⟨S512x128, View.readAt (Elt Ideal) m6.view (Rect.unit (s := S4096x128) off S512x128.size inb).toLoadRect X6⟩] concatenates_S512x128_S512x128_S512x256_d1)
    (constant S512x512 .f32 0#32)

/-- The greatest score seen when the block at hand, held in parity 0, has been looked at. -/
def mFirst (S : Vec Ideal S2x2x512x512 .f32) (M : Vec Ideal S2x512x1 .f32) (hh : Fin 2) (r : Fin 512) : EReal :=
  max (M (ix3 hh r 0)) (rowMax fun c => S (ix4 0 hh r c))

/-- The same after one block more, if it is real. -/
def mSecond (b : BitVec 1) (M1 : EReal) (s : Fin 512 → EReal) : EReal := Scalar.select b (max M1 (rowMax s)) M1

/-- The head's queries. -/
def qOf (q0 q1 : FVec Ideal S512x256 .bf16) (hh : Fin 2) : FVec Ideal S512x256 .bf16 := if hh = 0 then q0 else q1

/-- Whether the odd block of trip `k` is a real one. -/
def realAt (n : BitVec 32) (k : ℕ) : BitVec 1 :=
  Scalar.cmpi CmpIPredicate.slt (Scalar.addi (Scalar.muli (2#32) (Scf.iv 0#32 1#32 k)) 1#32) n

theorem readAt_eq {sig : RefSig} {κ : Kind} {sp : Space} {s : Shape} {e : EltTy} (v : View sig κ sp s e) (B : LoadRect s)
    (f : v.ty.Contents (Elt Ideal)) : v.readAt (Elt Ideal) B f = fun j => v.read (Elt Ideal) f (B.idx j) :=
  funext fun j => View.readAt_apply ..

/-- A read of a list of writes whose first `n` pieces hold the index: the value every one of them that holds it has. -/
theorem read_take {sig : RefSig} {κ : Kind} {sp : Space} {s : Shape} {e : EltTy} (v : View sig κ sp s e) (f : v.ty.Contents (Elt Ideal))
    (n : ℕ) (L : List (View.Piece (Elt Ideal) s e)) (y : s.Idx) (val : Elt Ideal e)
    (hc : ∃ p ∈ L.take n, y ∈ p.1.set) (h : View.canon (L.take n) y = val) :
    v.read (Elt Ideal) (v.writes (Elt Ideal) f L) y = val := by
  rw [← List.take_append_drop n L, View.writes_append, View.read_writes_apply_eq_canon v _ y _ hc, h]

/-- The canon of the two slabs of parity `p`, read in the second head's slab, -/
theorem canon_slab_one (p : ℕ) (hp : p < 2) (inb) (w : S1x1x512x512.Idx → EReal) (L : List (View.Piece (Elt Ideal) S2x2x512x512 .f32))
    (pp : Fin 2) (hpp : (pp : ℕ) = p) (r c : Fin 512) :
    View.canon ((⟨Rect.unit ![p, 1, 0, 0] ![1, 1, 512, 512] inb, w⟩ : View.Piece (Elt Ideal) S2x2x512x512 .f32) :: L) (ix4 pp 1 r c)
      = w (ix4 0 0 r c) := by
  subst hpp
  have e : (ix4 pp 1 r c : S2x2x512x512.Idx)
      = (Rect.unit (s := S2x2x512x512) ![(pp : ℕ), 1, 0, 0] ![1, 1, 512, 512] inb).emb (ix4 0 0 r c) := by
    funext a; apply Fin.ext; rw [Rect.emb_apply]; fin_cases a <;> simp [Rect.unit, ix4]
  rw [e, View.canon_cons_emb]

/-- and in the first head's. -/
theorem canon_slab_zero (p : ℕ) (hp : p < 2) (inb inb') (w w' : S1x1x512x512.Idx → EReal) (L : List (View.Piece (Elt Ideal) S2x2x512x512 .f32))
    (pp : Fin 2) (hpp : (pp : ℕ) = p) (r c : Fin 512) :
    View.canon ((⟨Rect.unit ![p, 1, 0, 0] ![1, 1, 512, 512] inb, w⟩ : View.Piece (Elt Ideal) S2x2x512x512 .f32)
        :: ⟨Rect.unit ![p, 0, 0, 0] ![1, 1, 512, 512] inb', w'⟩ :: L) (ix4 pp 0 r c)
      = w' (ix4 0 0 r c) := by
  subst hpp
  rw [View.canon_cons_of_not_mem]
  · have e : (ix4 pp 0 r c : S2x2x512x512.Idx)
        = (Rect.unit (s := S2x2x512x512) ![(pp : ℕ), 0, 0, 0] ![1, 1, 512, 512] inb').emb (ix4 0 0 r c) := by
      funext a; apply Fin.ext; rw [Rect.emb_apply]; fin_cases a <;> simp [Rect.unit, ix4]
    rw [e, View.canon_cons_emb]
  · intro hm
    obtain ⟨x, hx⟩ := (Rect.unit (s := S2x2x512x512) ![(pp : ℕ), 1, 0, 0] ![1, 1, 512, 512] inb).exists_idx_of_mem hm
    have := congrArg (fun j : S2x2x512x512.Idx => (j 1 : ℕ)) hx
    simp [Rect.unit, ix4] at this

theorem canon_slab11 (inb) (w : S1x1x512x512.Idx → EReal) (L : List (View.Piece (Elt Ideal) S2x2x512x512 .f32)) (r c : Fin 512) :
    View.canon ((⟨Rect.unit ![1, 1, 0, 0] ![1, 1, 512, 512] inb, w⟩ : View.Piece (Elt Ideal) S2x2x512x512 .f32) :: L) (ix4 1 1 r c)
      = w (ix4 0 0 r c) := canon_slab_one 1 (by omega) inb w L 1 rfl r c

theorem canon_slab10 (inb inb') (w w' : S1x1x512x512.Idx → EReal) (L : List (View.Piece (Elt Ideal) S2x2x512x512 .f32)) (r c : Fin 512) :
    View.canon ((⟨Rect.unit ![1, 1, 0, 0] ![1, 1, 512, 512] inb, w⟩ : View.Piece (Elt Ideal) S2x2x512x512 .f32)
        :: ⟨Rect.unit ![1, 0, 0, 0] ![1, 1, 512, 512] inb', w'⟩ :: L) (ix4 1 0 r c)
      = w' (ix4 0 0 r c) := canon_slab_zero 1 (by omega) inb inb' w w' L 1 rfl r c

/-- A slab that comes first. -/
theorem canon_slab_first (p : ℕ) (hp : p < 2) (inb) (w : S1x1x512x512.Idx → EReal) (L : List (View.Piece (Elt Ideal) S2x2x512x512 .f32))
    (pp : Fin 2) (hpp : (pp : ℕ) = p) (r c : Fin 512) :
    View.canon ((⟨Rect.unit ![p, 0, 0, 0] ![1, 1, 512, 512] inb, w⟩ : View.Piece (Elt Ideal) S2x2x512x512 .f32) :: L) (ix4 pp 0 r c)
      = w (ix4 0 0 r c) := by
  subst hpp
  have e : (ix4 pp 0 r c : S2x2x512x512.Idx)
      = (Rect.unit (s := S2x2x512x512) ![(pp : ℕ), 0, 0, 0] ![1, 1, 512, 512] inb).emb (ix4 0 0 r c) := by
    funext a; apply Fin.ext; rw [Rect.emb_apply]; fin_cases a <;> simp [Rect.unit, ix4]
  rw [e, View.canon_cons_emb]

theorem canon_slab0_1 (inb) (w : S1x1x512x512.Idx → EReal) (L : List (View.Piece (Elt Ideal) S2x2x512x512 .f32)) (r c : Fin 512) :
    View.canon ((⟨Rect.unit ![1, 0, 0, 0] ![1, 1, 512, 512] inb, w⟩ : View.Piece (Elt Ideal) S2x2x512x512 .f32) :: L) (ix4 1 0 r c)
      = w (ix4 0 0 r c) := canon_slab_first 1 (by omega) inb w L 1 rfl r c

/-- The second head's slab of parity `p`, read off a list of writes it heads, -/
theorem read_slab_one {v : View sig .tc .vmem S2x2x512x512 .f32} (f : v.ty.Contents (Elt Ideal)) (p : ℕ) (hp : p < 2) (inb) (w : S1x1x512x512.Idx → EReal)
    (L : List (View.Piece (Elt Ideal) S2x2x512x512 .f32)) (pp : Fin 2) (hpp : (pp : ℕ) = p) (r c : Fin 512) :
    v.read (Elt Ideal) (v.writes (Elt Ideal) f ((⟨Rect.unit ![p, 1, 0, 0] ![1, 1, 512, 512] inb, w⟩ : View.Piece (Elt Ideal) S2x2x512x512 .f32) :: L)) (ix4 pp 1 r c)
      = w (ix4 0 0 r c) := by
  refine read_take v f 1 _ _ _ ⟨_, List.mem_cons_self .., (Rect.mem_set_unit (inb := inb)).mpr ?_⟩ (canon_slab_one p hp inb w _ pp hpp r c)
  intro a; fin_cases a <;> simp [ix4, hpp]

/-- and the first head's below it. -/
theorem read_slab_zero {v : View sig .tc .vmem S2x2x512x512 .f32} (f : v.ty.Contents (Elt Ideal)) (p : ℕ) (hp : p < 2) (inb inb') (w w' : S1x1x512x512.Idx → EReal)
    (L : List (View.Piece (Elt Ideal) S2x2x512x512 .f32)) (pp : Fin 2) (hpp : (pp : ℕ) = p) (r c : Fin 512) :
    v.read (Elt Ideal) (v.writes (Elt Ideal) f ((⟨Rect.unit ![p, 1, 0, 0] ![1, 1, 512, 512] inb, w⟩ : View.Piece (Elt Ideal) S2x2x512x512 .f32)
        :: ⟨Rect.unit ![p, 0, 0, 0] ![1, 1, 512, 512] inb', w'⟩ :: L)) (ix4 pp 0 r c)
      = w' (ix4 0 0 r c) := by
  refine read_take v f 2 _ _ _ ⟨_, List.mem_cons_of_mem _ (List.mem_cons_self ..), (Rect.mem_set_unit (inb := inb')).mpr ?_⟩
    (canon_slab_zero p hp inb inb' w w' _ pp hpp r c)
  intro a; fin_cases a <;> simp [ix4, hpp]

/-- The second head's accumulator, read off a list of writes it heads, -/
theorem read_acc_one {v : View sig .tc .vmem S2x512x128 .f32} (f : v.ty.Contents (Elt Ideal)) (inb) (w : S1x512x128.Idx → EReal)
    (L : List (View.Piece (Elt Ideal) S2x512x128 .f32)) (r : Fin 512) (l : Fin 128) :
    v.read (Elt Ideal) (v.writes (Elt Ideal) f ((⟨Rect.unit ![1, 0, 0] ![1, 512, 128] inb, w⟩ : View.Piece (Elt Ideal) S2x512x128 .f32) :: L)) (ix3 1 r l)
      = w (ix3 0 r l) := by
  have e : (ix3 1 r l : S2x512x128.Idx) = (Rect.unit (s := S2x512x128) ![1, 0, 0] ![1, 512, 128] inb).emb (ix3 0 r l) := by
    funext a; apply Fin.ext; rw [Rect.emb_apply]; fin_cases a <;> simp [Rect.unit, ix3]
  refine read_take v f 1 _ _ _ ⟨_, List.mem_cons_self .., (Rect.mem_set_unit (inb := inb)).mpr ?_⟩ ?_
  · intro a; fin_cases a <;> simp [ix3]
  · rw [List.take_succ_cons, e, View.canon_cons_emb]

/-- and the first head's below it. -/
theorem read_acc_zero {v : View sig .tc .vmem S2x512x128 .f32} (f : v.ty.Contents (Elt Ideal)) (inb inb') (w w' : S1x512x128.Idx → EReal)
    (L : List (View.Piece (Elt Ideal) S2x512x128 .f32)) (r : Fin 512) (l : Fin 128) :
    v.read (Elt Ideal) (v.writes (Elt Ideal) f ((⟨Rect.unit ![1, 0, 0] ![1, 512, 128] inb, w⟩ : View.Piece (Elt Ideal) S2x512x128 .f32)
        :: ⟨Rect.unit ![0, 0, 0] ![1, 512, 128] inb', w'⟩ :: L)) (ix3 0 r l)
      = w' (ix3 0 r l) := by
  have e : (ix3 0 r l : S2x512x128.Idx) = (Rect.unit (s := S2x512x128) ![0, 0, 0] ![1, 512, 128] inb').emb (ix3 0 r l) := by
    funext a; apply Fin.ext; rw [Rect.emb_apply]; fin_cases a <;> simp [Rect.unit, ix3]
  refine read_take v f 2 _ _ _ ⟨_, List.mem_cons_of_mem _ (List.mem_cons_self ..), (Rect.mem_set_unit (inb := inb')).mpr ?_⟩ ?_
  · intro a; fin_cases a <;> simp [ix3]
  · rw [List.take_succ_cons, View.canon_cons_of_not_mem, List.take_succ_cons, e, View.canon_cons_emb]
    intro hm
    have := ((Rect.mem_set_unit (inb := inb)).mp hm 0).1
    simp [ix3] at this

/-- Whether the pieces tile the two slabs of parity `p` by 64 rows. -/
def tiles64 (p : ℕ) (L : List (View.Piece (Elt Ideal) S2x2x512x512 .bf16)) : Bool :=
  (List.finRange 2).all fun hh => (List.finRange 8).all fun q => L.any fun P =>
    (P.1.off 0 == p && P.1.off 1 == hh.val && P.1.off 2 == 64 * q.val && P.1.off 3 == 0)
      && (P.1.size 0 == 1 && P.1.size 1 == 1 && P.1.size 2 == 64 && P.1.size 3 == 512)
      && (P.1.stride 0 == 1 && P.1.stride 1 == 1 && P.1.stride 2 == 1 && P.1.stride 3 == 1)

theorem cover64 (p : Fin 2) (L : List (View.Piece (Elt Ideal) S2x2x512x512 .bf16)) (h : tiles64 p L = true) (hh : Fin 2) (r c : Fin 512) :
    ∃ P ∈ L, (ix4 p hh r c : S2x2x512x512.Idx) ∈ P.1.set := by
  have h1 := List.all_eq_true.mp (List.all_eq_true.mp h hh (List.mem_finRange _)) ⟨r / 64, by omega⟩ (List.mem_finRange _)
  obtain ⟨P, hP, h2⟩ := List.any_eq_true.mp h1
  refine ⟨P, hP, (LoadRect.mem_set _).mpr ?_⟩
  simp only [Bool.and_eq_true, beq_iff_eq] at h2
  obtain ⟨⟨⟨⟨⟨a0, a1⟩, a2⟩, a3⟩, ⟨⟨b0, b1⟩, b2⟩, b3⟩, ⟨⟨c0, c1⟩, c2⟩, c3⟩ := h2
  intro a
  fin_cases a
  · exact ⟨0, by show 0 < P.1.size 0; omega, by show p.val = P.1.off 0 + P.1.stride 0 * 0; omega⟩
  · exact ⟨0, by show 0 < P.1.size 1; omega, by show hh.val = P.1.off 1 + P.1.stride 1 * 0; omega⟩
  · exact ⟨r % 64, by show r.val % 64 < P.1.size 2; omega, by show r.val = P.1.off 2 + P.1.stride 2 * (r.val % 64); rw [a2, c2]; omega⟩
  · exact ⟨c, by show c.val < P.1.size 3; omega, by show c.val = P.1.off 3 + P.1.stride 3 * c.val; rw [a3, c3]; omega⟩

/-- Whether the pieces tile one slab by 64 rows. -/
def tilesOf (p hh : ℕ) (L : List (View.Piece (Elt Ideal) S2x2x512x512 .bf16)) : Bool :=
  (List.finRange 8).all fun q => L.any fun P =>
    (P.1.off 0 == p && P.1.off 1 == hh && P.1.off 2 == 64 * q.val && P.1.off 3 == 0)
      && (P.1.size 0 == 1 && P.1.size 1 == 1 && P.1.size 2 == 64 && P.1.size 3 == 512)
      && (P.1.stride 0 == 1 && P.1.stride 1 == 1 && P.1.stride 2 == 1 && P.1.stride 3 == 1)

theorem coverOf (p hh : Fin 2) (L : List (View.Piece (Elt Ideal) S2x2x512x512 .bf16)) (h : tilesOf p hh L = true) (r c : Fin 512) :
    ∃ P ∈ L, (ix4 p hh r c : S2x2x512x512.Idx) ∈ P.1.set := by
  have h1 := List.all_eq_true.mp h ⟨r / 64, by omega⟩ (List.mem_finRange _)
  obtain ⟨P, hP, h2⟩ := List.any_eq_true.mp h1
  refine ⟨P, hP, (LoadRect.mem_set _).mpr ?_⟩
  simp only [Bool.and_eq_true, beq_iff_eq] at h2
  obtain ⟨⟨⟨⟨⟨a0, a1⟩, a2⟩, a3⟩, ⟨⟨b0, b1⟩, b2⟩, b3⟩, ⟨⟨c0, c1⟩, c2⟩, c3⟩ := h2
  intro a
  fin_cases a
  · exact ⟨0, by show 0 < P.1.size 0; omega, by show p.val = P.1.off 0 + P.1.stride 0 * 0; omega⟩
  · exact ⟨0, by show 0 < P.1.size 1; omega, by show hh.val = P.1.off 1 + P.1.stride 1 * 0; omega⟩
  · exact ⟨r % 64, by show r.val % 64 < P.1.size 2; omega, by show r.val = P.1.off 2 + P.1.stride 2 * (r.val % 64); rw [a2, c2]; omega⟩
  · exact ⟨c, by show c.val < P.1.size 3; omega, by show c.val = P.1.off 3 + P.1.stride 3 * c.val; rw [a3, c3]; omega⟩

/-- Whether the pieces tile one head's column by 64 rows. -/
def tilesCol (hh : ℕ) (L : List (View.Piece (Elt Ideal) S2x512x1 .f32)) : Bool :=
  (List.finRange 8).all fun q => L.any fun P =>
    (P.1.off 0 == hh && P.1.off 1 == 64 * q.val && P.1.off 2 == 0)
      && (P.1.size 0 == 1 && P.1.size 1 == 64 && P.1.size 2 == 1)
      && (P.1.stride 0 == 1 && P.1.stride 1 == 1 && P.1.stride 2 == 1)

theorem coverCol (hh : Fin 2) (L : List (View.Piece (Elt Ideal) S2x512x1 .f32)) (h : tilesCol hh L = true) (r : Fin 512) :
    ∃ P ∈ L, (ix3 hh r 0 : S2x512x1.Idx) ∈ P.1.set := by
  have h1 := List.all_eq_true.mp h ⟨r / 64, by omega⟩ (List.mem_finRange _)
  obtain ⟨P, hP, h2⟩ := List.any_eq_true.mp h1
  refine ⟨P, hP, (LoadRect.mem_set _).mpr ?_⟩
  simp only [Bool.and_eq_true, beq_iff_eq] at h2
  obtain ⟨⟨⟨⟨a0, a1⟩, a2⟩, ⟨b0, b1⟩, b2⟩, ⟨c0, c1⟩, c2⟩ := h2
  intro a
  fin_cases a
  · exact ⟨0, by show 0 < P.1.size 0; omega, by show hh.val = P.1.off 0 + P.1.stride 0 * 0; omega⟩
  · exact ⟨r % 64, by show r.val % 64 < P.1.size 1; omega, by show r.val = P.1.off 1 + P.1.stride 1 * (r.val % 64); rw [a1, c1]; omega⟩
  · exact ⟨0, by show 0 < P.1.size 2; omega, by show 0 = P.1.off 2 + P.1.stride 2 * 0; omega⟩

/-- The values a head sums over the block of keys at `off`: its own lanes of the values, and ones. -/
def wAt {m7 : Memref sig .tc .vmem S4096x128 .bf16} (X7 : BufTy.Contents (Elt Ideal) m7.view.ty) (off : Fin 2 → ℕ)
    (inb : ∀ a, off a + S512x128.size a ≤ S4096x128.size a) (own : IVec S1x128 1) (ones : FVec Ideal S1x128 .bf16) (c : Fin 512) (l : Fin 128) : EReal :=
  Scalar.select (own (ix2 0 l)) (View.readAt (Elt Ideal) m7.view (Rect.unit (s := S4096x128) off S512x128.size inb).toLoadRect X7 (ix2 c l)) (ones (ix2 0 l))

/-- The head's own lanes. -/
def ownOf (v6 v8 : IVec S1x128 1) (hh : Fin 2) : IVec S1x128 1 := if hh = 0 then v6 else v8

variable (i : grid0.Coords)
variable (arg3 : Memref sig .tc .vmem S512x128 .bf16) (harg3 : arg3.IsWhole)
variable (arg4 : Memref sig .tc .vmem S512x128 .bf16) (harg4 : arg4.IsWhole)
variable (arg5 : Memref sig .tc .vmem S4096x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S128x128 .bf16) (harg8 : arg8.IsWhole)
variable (arg9 : Memref sig .tc .vmem S128x128 .bf16) (harg9 : arg9.IsWhole)
variable (arg10 : Memref sig .tc .vmem S128x128 .bf16) (harg10 : arg10.IsWhole)
variable (arg11 : Memref sig .tc .vmem S512x128 .bf16) (harg11 : arg11.IsWhole)
variable (arg12 : Memref sig .tc .vmem S2x2x512x512 .f32) (harg12 : arg12.IsWhole)
variable (arg13 : Memref sig .tc .vmem S2x2x512x512 .bf16) (harg13 : arg13.IsWhole)
variable (arg14 : Memref sig .tc .vmem S2x512x1 .f32) (harg14 : arg14.IsWhole)
variable (arg15 : Memref sig .tc .vmem S2x512x1 .f32) (harg15 : arg15.IsWhole)
variable (arg16 : Memref sig .tc .vmem S2x512x128 .f32) (harg16 : arg16.IsWhole)
variable (arg2 : BitVec 32) (v4 : FVec Ideal S1x128 .bf16) (v6 v8 : IVec S1x128 1) (v20 v32 : FVec Ideal S512x256 .bf16)
variable (v34 : BitVec 32) (v54 : FVec Ideal S512x128 .f32) (v78 : BitVec 32) (v135 : FVec Ideal S512x1 .f32)
variable (v146 : FVec Ideal S512x512 .bf16)
variable (X5 : BufTy.Contents (Elt Ideal) arg5.view.ty) (X6 : BufTy.Contents (Elt Ideal) arg6.view.ty)
variable (X7 : BufTy.Contents (Elt Ideal) arg7.view.ty) (k : Fin (k0_t1_loop i).trips)
variable (f12 : BufTy.Contents (Elt Ideal) arg12.view.ty) (f13 : BufTy.Contents (Elt Ideal) arg13.view.ty)
variable (f14 : BufTy.Contents (Elt Ideal) arg14.view.ty) (f15 : BufTy.Contents (Elt Ideal) arg15.view.ty)
variable (f16 : BufTy.Contents (Elt Ideal) arg16.view.ty)

theorem t_s (c : Dev nD) (hh : Fin 2) (r cc : Fin 512) :
    arg12.view.read (Elt Ideal) (arg12.view.writes (Elt Ideal) f12 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg2 v4 v6 v8 v20 v32 v34 v54 v78 v135 v146 X5 X6 X7 k f12 f13 f14 f15 f16).1) (ix4 0 hh r cc)
      = scoreAt X5 X6 (k0_off5 i k) (k0_off5_inb i k) (qOf v20 v32 hh) (ix2 r cc) := by
  dsimp only [tripL_k0_t1]
  unfold trip_k0_t1
  dsimp only
  sl_unfold_words
  revert hh
  refine Fin.forall_fin_two.mpr ⟨?_, ?_⟩
  · refine (read_slab_zero _ 0 (by omega) _ _ _ _ _ 0 rfl r cc).trans ?_
    pointwise [scoreAt, qOf, k0_pay461]
  · refine (read_slab_one _ 0 (by omega) _ _ _ 0 rfl r cc).trans ?_
    pointwise [scoreAt, qOf, k0_pay461]

theorem t_al (c : Dev nD) (hh : Fin 2) (r : Fin 512) :
    arg15.view.read (Elt Ideal) (arg15.view.writes (Elt Ideal) f15 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg2 v4 v6 v8 v20 v32 v34 v54 v78 v135 v146 X5 X6 X7 k f12 f13 f14 f15 f16).2.2.2.1) (ix3 hh r 0)
      = ex2 (mFirst (arg12.view.read (Elt Ideal) f12) (arg14.view.read (Elt Ideal) f14) hh r - (mSecond (realAt arg2 k) (mFirst (arg12.view.read (Elt Ideal) f12) (arg14.view.read (Elt Ideal) f14) hh r)
          fun c => scoreAt X5 X6 (k0_off3 i k) (k0_off3_inb i k) (qOf v20 v32 hh) (ix2 r c))) := by
  dsimp only [tripL_k0_t1]
  unfold trip_k0_t1
  dsimp only
  refine read_take _ _ 16 _ _ _ ?_ ?_
  · exact View.cover_of_tiled_head _ _ _ (by rfl) _
  sl_unfold_words
  simp (disch := decide) only [↓ View.readCov_skip, ↓ View.readCov_cons_toLoadRect, ↓ View.readCov_fill, List.take_succ_cons, List.take_zero]
  canon_tiles x h
  all_goals
    obtain ⟨hh, hhh⟩ := hh
    obtain ⟨r, hr⟩ := r
    simp only [ix3_0, ix3_1] at h0 h1
    subst h0 h1
    simp only [readAt_eq, View.readCov_eq_canon']
    pointwise [mSecond, mFirst, rowMax, canon_slab11, canon_slab10, canon_slab0_1, scoreAt, qOf, realAt]

theorem t_p (c : Dev nD) (hh : Fin 2) (r cc : Fin 512) :
    arg13.view.read (Elt Ideal) (arg13.view.writes (Elt Ideal) f13 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg2 v4 v6 v8 v20 v32 v34 v54 v78 v135 v146 X5 X6 X7 k f12 f13 f14 f15 f16).2.1) (ix4 1 hh r cc)
      = ex2 (scoreAt X5 X6 (k0_off3 i k) (k0_off3_inb i k) (qOf v20 v32 hh) (ix2 r cc) - (mSecond (realAt arg2 k) (mFirst (arg12.view.read (Elt Ideal) f12) (arg14.view.read (Elt Ideal) f14) hh r)
          fun c => scoreAt X5 X6 (k0_off3 i k) (k0_off3_inb i k) (qOf v20 v32 hh) (ix2 r c))) := by
  dsimp only [tripL_k0_t1]
  unfold trip_k0_t1
  dsimp only
  sl_unfold_words
  refine read_take _ _ 16 _ _ _ ?_ ?_
  · exact cover64 1 _ (by rfl) hh r cc
  simp (disch := decide) only [↓ View.readCov_skip, ↓ View.readCov_cons_toLoadRect, ↓ View.readCov_fill, List.take_succ_cons, List.take_zero]
  canon_tiles x h using cover64 1 _ (by rfl) hh r cc
  all_goals
    obtain ⟨hh, hhh⟩ := hh
    obtain ⟨r, hr⟩ := r
    obtain ⟨cc, hcc⟩ := cc
    simp only [ix4_0, ix4_1, ix4_2, ix4_3] at h0 h1 h2 h3
    subst h1 h2 h3
    simp only [readAt_eq, View.readCov_eq_canon']
    pointwise [mSecond, mFirst, rowMax, canon_slab11, canon_slab10, canon_slab0_1, scoreAt, qOf, realAt]

theorem t_acc (c : Dev nD) (hh : Fin 2) (r : Fin 512) (l : Fin 128) :
    arg16.view.read (Elt Ideal) (arg16.view.writes (Elt Ideal) f16 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg2 v4 v6 v8 v20 v32 v34 v54 v78 v135 v146 X5 X6 X7 k f12 f13 f14 f15 f16).2.2.2.2) (ix3 hh r l)
      = ex2 (arg14.view.read (Elt Ideal) f14 (ix3 hh r 0) - mFirst (arg12.view.read (Elt Ideal) f12) (arg14.view.read (Elt Ideal) f14) hh r)
          * (arg15.view.read (Elt Ideal) f15 (ix3 hh r 0) * arg16.view.read (Elt Ideal) f16 (ix3 hh r l)
            + ∑ x, arg13.view.read (Elt Ideal) f13 (ix4 1 hh r x) * wAt X7 (k0_off4 i k) (k0_off4_inb i k) (ownOf v6 v8 hh) v4 x l)
        + ∑ x, ex2 (arg12.view.read (Elt Ideal) f12 (ix4 0 hh r x) - mFirst (arg12.view.read (Elt Ideal) f12) (arg14.view.read (Elt Ideal) f14) hh r)
            * wAt X7 (k0_off6 i k) (k0_off6_inb i k) (ownOf v6 v8 hh) v4 x l := by
  dsimp only [tripL_k0_t1]
  unfold trip_k0_t1
  dsimp only
  sl_unfold_words
  revert hh
  refine Fin.forall_fin_two.mpr ⟨?_, ?_⟩
  · refine (read_acc_zero _ _ _ _ _ _ r l).trans ?_
    simp (disch := decide) only [↓ View.readCov_skip, ↓ View.readCov_cons_toLoadRect, ↓ View.readCov_fill, List.take_succ_cons, List.take_zero]
    pointwise [readAt_eq, View.readCov_eq_canon']
    refine congrArg₂ (· + ·) (congrArg₂ (· * ·) ?_ ?_) (Finset.sum_congr rfl fun x _ => congrArg₂ (· * ·) ?_ ?_)
    · canon_tiles x h using coverCol 0 _ (by rfl) r
      all_goals
        obtain ⟨r, hr⟩ := r
        simp only [ix3_0, ix3_1] at h1
        subst h1
        pointwise [readAt_eq, View.readCov_eq_canon', mFirst, rowMax]
    · pointwise [wAt, ownOf, readAt_eq]
    · canon_tiles y h using coverOf 0 0 _ (by rfl) r x
      all_goals
        obtain ⟨r, hr⟩ := r
        obtain ⟨cc, hcc⟩ := x
        simp only [ix4_0, ix4_1, ix4_2, ix4_3] at h2 h3
        subst h2 h3
        pointwise [readAt_eq, View.readCov_eq_canon', mFirst, rowMax]
    · pointwise [wAt, ownOf, readAt_eq]
  · refine (read_acc_one _ _ _ _ r l).trans ?_
    simp (disch := decide) only [↓ View.readCov_skip, ↓ View.readCov_cons_toLoadRect, ↓ View.readCov_fill, List.take_succ_cons, List.take_zero]
    pointwise [readAt_eq, View.readCov_eq_canon']
    refine congrArg₂ (· + ·) (congrArg₂ (· * ·) ?_ ?_) (Finset.sum_congr rfl fun x _ => congrArg₂ (· * ·) ?_ ?_)
    · canon_tiles x h using coverCol 1 _ (by rfl) r
      all_goals
        obtain ⟨r, hr⟩ := r
        simp only [ix3_0, ix3_1] at h1
        subst h1
        first
          | (exfalso; have hx : ((x 0 : Fin _) : ℕ) < 1 := (x 0).isLt; have h0' : (1 : ℕ) = ((x 0 : Fin _) : ℕ) := h0; omega)
          | pointwise [readAt_eq, View.readCov_eq_canon', mFirst, rowMax]
    · pointwise [wAt, ownOf, readAt_eq]
    · canon_tiles y h using coverOf 0 1 _ (by rfl) r x
      all_goals
        obtain ⟨r, hr⟩ := r
        obtain ⟨cc, hcc⟩ := x
        simp only [ix4_0, ix4_1, ix4_2, ix4_3] at h2 h3
        subst h2 h3
        first
          | (exfalso; have hx : ((y 1 : Fin _) : ℕ) < 1 := (y 1).isLt; have h1' : (1 : ℕ) = ((y 1 : Fin _) : ℕ) := h1; omega)
          | pointwise [readAt_eq, View.readCov_eq_canon', mFirst, rowMax]
    · pointwise [wAt, ownOf, readAt_eq]

theorem t_m (c : Dev nD) (hh : Fin 2) (r : Fin 512) :
    arg14.view.read (Elt Ideal) (arg14.view.writes (Elt Ideal) f14 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg2 v4 v6 v8 v20 v32 v34 v54 v78 v135 v146 X5 X6 X7 k f12 f13 f14 f15 f16).2.2.1) (ix3 hh r 0)
      = mSecond (realAt arg2 k) (mFirst (arg12.view.read (Elt Ideal) f12) (arg14.view.read (Elt Ideal) f14) hh r)
          fun c => scoreAt X5 X6 (k0_off3 i k) (k0_off3_inb i k) (qOf v20 v32 hh) (ix2 r c) := by
  dsimp only [tripL_k0_t1]
  unfold trip_k0_t1
  dsimp only
  refine read_take _ _ 16 _ _ _ ?_ ?_
  · exact View.cover_of_tiled_head _ _ _ (by rfl) _
  sl_unfold_words
  simp (disch := decide) only [↓ View.readCov_skip, ↓ View.readCov_cons_toLoadRect, ↓ View.readCov_fill, List.take_succ_cons, List.take_zero]
  canon_tiles x h
  all_goals
    obtain ⟨hh, hhh⟩ := hh
    obtain ⟨r, hr⟩ := r
    simp only [ix3_0, ix3_1] at h0 h1
    subst h0 h1
    simp only [readAt_eq, View.readCov_eq_canon']
    pointwise [mSecond, mFirst, rowMax, canon_slab11, canon_slab10, canon_slab0_1, scoreAt, qOf, realAt]
end Cert.KernelIdeal.Hand
end
-- ==== Proof.FoxLoop.lean ====
/-
  The loop over pairs of key blocks of the attention call: where each load of a trip lies, and what the scratch buffers
  hold when the loop is over.
-/
module

public import proofs.«01_k».proof.Proof.FoxTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Fox
open scoped BigOperators

/-- Where key block `j` lies. -/
def blk (j : ℕ) : Fin 2 → ℕ := ![512 * j, 0]

theorem blk_inb {j : ℕ} (h : j < 8) : ∀ a, blk j a + S512x128.size a ≤ S4096x128.size a :=
  Fin.forall_fin_two.mpr ⟨by show 512 * j + 512 ≤ 4096; omega, le_rfl⟩

theorem i2_lt (i : grid0.Coords) : (i 2).val < 8 := (i 2).isLt

theorem trips_eq (i : grid0.Coords) : (k0_t1_loop i).trips = ((i 2).val + 1) / 2 := by
  have h := i2_lt i
  unfold k0_t1_loop; dsimp only
  generalize (i 2).val = n at *
  interval_cases n <;> decide

theorem off1_eq (i : grid0.Coords) : k0_off1 i = blk (i 2).val := by
  have h := i2_lt i
  unfold k0_off1 blk; dsimp only
  generalize (i 2).val = n at *
  interval_cases n <;> decide

theorem off2_eq (i : grid0.Coords) : k0_off2 i = blk 0 := by
  have h := i2_lt i
  unfold k0_off2 blk; dsimp only
  generalize (i 2).val = n at *
  interval_cases n <;> decide

theorem trip_lt {i : grid0.Coords} (k : Fin (k0_t1_loop i).trips) : 2 * k.val < (i 2).val ∧ k.val < 4 := by
  have h := i2_lt i
  have := k.isLt
  have := trips_eq i
  omega

theorem off3_eq {i : grid0.Coords} (k : Fin (k0_t1_loop i).trips) : k0_off3 i k = blk (min (2 * k.val + 1) ((i 2).val - 1)) := by
  have h := i2_lt i
  obtain ⟨h1, h2⟩ := trip_lt k
  unfold k0_off3 blk; dsimp only
  generalize (i 2).val = n at *
  generalize k.val = kk at *
  interval_cases n <;> interval_cases kk <;> first | decide | (exfalso; omega)

theorem off4_eq {i : grid0.Coords} (k : Fin (k0_t1_loop i).trips) : k0_off4 i k = blk (if k.val = 0 then (i 2).val else min (2 * k.val - 1) ((i 2).val - 1)) := by
  have h := i2_lt i
  obtain ⟨h1, h2⟩ := trip_lt k
  unfold k0_off4 blk; dsimp only
  generalize (i 2).val = n at *
  generalize k.val = kk at *
  interval_cases n <;> interval_cases kk <;> first | decide | (exfalso; omega)

theorem off5_eq {i : grid0.Coords} (k : Fin (k0_t1_loop i).trips) : k0_off5 i k = blk (min (2 * k.val + 2) ((i 2).val - 1)) := by
  have h := i2_lt i
  obtain ⟨h1, h2⟩ := trip_lt k
  unfold k0_off5 blk; dsimp only
  generalize (i 2).val = n at *
  generalize k.val = kk at *
  interval_cases n <;> interval_cases kk <;> first | decide | (exfalso; omega)

theorem off6_eq {i : grid0.Coords} (k : Fin (k0_t1_loop i).trips) : k0_off6 i k = blk (2 * k.val) := by
  have h := i2_lt i
  obtain ⟨h1, h2⟩ := trip_lt k
  unfold k0_off6 blk; dsimp only
  generalize (i 2).val = n at *
  generalize k.val = kk at *
  interval_cases n <;> interval_cases kk <;> first | decide | (exfalso; omega)

theorem off11_eq (i : grid0.Coords) :
    k0_off11 i = blk (if ((i 2).val + 1) / 2 = 0 then (i 2).val else min (2 * (((i 2).val + 1) / 2) - 1) ((i 2).val - 1)) := by
  have h := i2_lt i
  unfold k0_off11 blk; dsimp only
  generalize (i 2).val = n at *
  interval_cases n <;> decide

theorem realAt_eq {i : grid0.Coords} (k : Fin (k0_t1_loop i).trips) :
    realAt (BitVec.ofNat 32 (i 2).val) k.val = BitVec.ofBool (decide (2 * k.val + 1 < (i 2).val)) := by
  have h := i2_lt i
  obtain ⟨h1, h2⟩ := trip_lt k
  unfold realAt
  generalize (i 2).val = n at *
  generalize k.val = kk at *
  interval_cases n <;> interval_cases kk <;> first | decide | (exfalso; omega)

/-- The scores of row `r` against key block `j`. -/
def scB {m5 m6 : Memref sig .tc .vmem S4096x128 .bf16} (X5 : BufTy.Contents (Elt Ideal) m5.view.ty)
    (X6 : BufTy.Contents (Elt Ideal) m6.view.ty) (q : FVec Ideal S512x256 .bf16) (r : Fin 512) (j : ℕ) (x : Fin 512) : EReal :=
  if h : j < 8 then scoreAt X5 X6 (blk j) (blk_inb h) q (ix2 r x) else 0

theorem scoreAt_blk {m5 m6 : Memref sig .tc .vmem S4096x128 .bf16} (X5 : BufTy.Contents (Elt Ideal) m5.view.ty)
    (X6 : BufTy.Contents (Elt Ideal) m6.view.ty) (q : FVec Ideal S512x256 .bf16) (r : Fin 512) (x : Fin 512) {off : Fin 2 → ℕ} (inb)
    {j : ℕ} (hj : j < 8) (e : off = blk j) : scoreAt X5 X6 off inb q (ix2 r x) = scB X5 X6 q r j x := by
  subst e; unfold scB; rw [dif_pos hj]

/-- The values of key block `j` in lane `l`. -/
def wB {m7 : Memref sig .tc .vmem S4096x128 .bf16} (X7 : BufTy.Contents (Elt Ideal) m7.view.ty) (own : IVec S1x128 1)
    (ones : FVec Ideal S1x128 .bf16) (l : Fin 128) (j : ℕ) (x : Fin 512) : EReal :=
  if h : j < 8 then wAt X7 (blk j) (blk_inb h) own ones x l else 0

theorem wAt_blk {m7 : Memref sig .tc .vmem S4096x128 .bf16} (X7 : BufTy.Contents (Elt Ideal) m7.view.ty) (own : IVec S1x128 1)
    (ones : FVec Ideal S1x128 .bf16) (l : Fin 128) (x : Fin 512) {off : Fin 2 → ℕ} (inb)
    {j : ℕ} (hj : j < 8) (e : off = blk j) : wAt X7 off inb own ones x l = wB X7 own ones l j x := by
  subst e; unfold wB; rw [dif_pos hj]

theorem rowMax_fin (f : Fin 512 → EReal) (h : ∀ c, Fin' (f c)) : Fin' (rowMax f) := by
  have e : Ideal.ofBits FTy.f32 4286578688#32 = (⊥ : EReal) := by
    norm_num [Ideal.ofBits, Ideal.ieee]
    rw [if_pos (by decide), if_pos (by decide)]
  unfold rowMax
  rw [e]
  constructor
  · refine ne_of_gt (lt_of_lt_of_le (bot_lt_iff_ne_bot.mpr (h 0).1) ?_)
    exact (Finset.le_fold_max _).mpr (Or.inr ⟨0, Finset.mem_univ _, le_rfl⟩)
  · refine ne_of_lt ((Finset.fold_max_lt _).mpr ⟨bot_lt_top, fun x _ => lt_top_iff_ne_top.mpr (h x).2⟩)

variable (i : grid0.Coords)
variable (arg3 : Memref sig .tc .vmem S512x128 .bf16) (harg3 : arg3.IsWhole)
variable (arg4 : Memref sig .tc .vmem S512x128 .bf16) (harg4 : arg4.IsWhole)
variable (arg5 : Memref sig .tc .vmem S4096x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S128x128 .bf16) (harg8 : arg8.IsWhole)
variable (arg9 : Memref sig .tc .vmem S128x128 .bf16) (harg9 : arg9.IsWhole)
variable (arg10 : Memref sig .tc .vmem S128x128 .bf16) (harg10 : arg10.IsWhole)
variable (arg11 : Memref sig .tc .vmem S512x128 .bf16) (harg11 : arg11.IsWhole)
variable (arg12 : Memref sig .tc .vmem S2x2x512x512 .f32) (harg12 : arg12.IsWhole)
variable (arg13 : Memref sig .tc .vmem S2x2x512x512 .bf16) (harg13 : arg13.IsWhole)
variable (arg14 : Memref sig .tc .vmem S2x512x1 .f32) (harg14 : arg14.IsWhole)
variable (arg15 : Memref sig .tc .vmem S2x512x1 .f32) (harg15 : arg15.IsWhole)
variable (arg16 : Memref sig .tc .vmem S2x512x128 .f32) (harg16 : arg16.IsWhole)
variable (v4 : FVec Ideal S1x128 .bf16) (v6 v8 : IVec S1x128 1) (v20 v32 : FVec Ideal S512x256 .bf16)
variable (v34 : BitVec 32) (v54 : FVec Ideal S512x128 .f32) (v78 : BitVec 32) (v135 : FVec Ideal S512x1 .f32)
variable (v146 : FVec Ideal S512x512 .bf16)
variable (X5 : BufTy.Contents (Elt Ideal) arg5.view.ty) (X6 : BufTy.Contents (Elt Ideal) arg6.view.ty)
variable (X7 : BufTy.Contents (Elt Ideal) arg7.view.ty)
variable (G12 : BufTy.Contents (Elt Ideal) arg12.view.ty) (G13 : BufTy.Contents (Elt Ideal) arg13.view.ty)
variable (G14 : BufTy.Contents (Elt Ideal) arg14.view.ty) (G15 : BufTy.Contents (Elt Ideal) arg15.view.ty)
variable (G16 : BufTy.Contents (Elt Ideal) arg16.view.ty)

theorem select_ofBool (b : Prop) [Decidable b] (x y : EReal) : Scalar.select (BitVec.ofBool (decide b)) x y = if b then x else y := by
  by_cases h : b <;> simp [Scalar.select, h]

/-- The pieces when one trip more has run: the trip's own in front. -/
theorem pb_next (c : Dev nD) (k : ℕ) (hk : k < (k0_t1_loop i).trips) :
    pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 (k + 1)
      = ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2)).1 ++ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2)).2.1 ++ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2)).2.2.1 ++ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2)).2.2.2.1 ++ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.1) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.1) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.1) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2)).2.2.2.2 ++ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 k).2.2.2.2) :=
  pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 G12 G13 G14 G15 G16 ⟨k, hk⟩

set_option maxHeartbeats 2000000 in
/-- What the loop leaves of a row: the running maximum is some finite bound, and the rescaled sum with the last
    block's is the sum over all keys at that bound. -/
theorem loop_end (c : Dev nD) (hh : Fin 2) (r : Fin 512) {ι : Type} [Fintype ι] (sm : ι → EReal) (wm : Fin 128 → ι → EReal) (sd : Fin 512 → EReal)
    (hsm : ∀ x, sm x ≠ ⊤) (hsd : ∀ x, sd x ≠ ⊤) (hsc : ∀ j x, Fin' (scB X5 X6 (qOf v20 v32 hh) r j x))
    (hM0 : Fin' (arg14.view.read (Elt Ideal) G14 (ix3 hh r 0)))
    (hS0 : ∀ x, arg12.view.read (Elt Ideal) G12 (ix4 0 hh r x) = scB X5 X6 (qOf v20 v32 hh) r 0 x)
    (hal0 : arg15.view.read (Elt Ideal) G15 (ix3 hh r 0) = 1)
    (hp0 : ∀ x, arg13.view.read (Elt Ideal) G13 (ix4 1 hh r x) = ex2 (sd x - arg14.view.read (Elt Ideal) G14 (ix3 hh r 0)))
    (hacc0 : ∀ l, arg16.view.read (Elt Ideal) G16 (ix3 hh r l) = wsum Finset.univ sm (wm l) (arg14.view.read (Elt Ideal) G14 (ix3 hh r 0)))
    (P : List (View.Piece (Elt Ideal) S2x2x512x512 .f32) × List (View.Piece (Elt Ideal) S2x2x512x512 .bf16) × List (View.Piece (Elt Ideal) S2x512x1 .f32) × List (View.Piece (Elt Ideal) S2x512x1 .f32) × List (View.Piece (Elt Ideal) S2x512x128 .f32))
    (st : ℕ → List (View.Piece (Elt Ideal) S2x2x512x512 .f32) × List (View.Piece (Elt Ideal) S2x2x512x512 .bf16) × List (View.Piece (Elt Ideal) S2x512x1 .f32) × List (View.Piece (Elt Ideal) S2x512x1 .f32) × List (View.Piece (Elt Ideal) S2x512x128 .f32)) (hst0 : st 0 = ([], [], [], [], []))
    (hst : ∀ k (hk : k < (k0_t1_loop i).trips), st (k + 1) = ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (st k).1) (arg13.view.writes (Elt Ideal) G13 (st k).2.1) (arg14.view.writes (Elt Ideal) G14 (st k).2.2.1) (arg15.view.writes (Elt Ideal) G15 (st k).2.2.2.1) (arg16.view.writes (Elt Ideal) G16 (st k).2.2.2.2)).1 ++ (st k).1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (st k).1) (arg13.view.writes (Elt Ideal) G13 (st k).2.1) (arg14.view.writes (Elt Ideal) G14 (st k).2.2.1) (arg15.view.writes (Elt Ideal) G15 (st k).2.2.2.1) (arg16.view.writes (Elt Ideal) G16 (st k).2.2.2.2)).2.1 ++ (st k).2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (st k).1) (arg13.view.writes (Elt Ideal) G13 (st k).2.1) (arg14.view.writes (Elt Ideal) G14 (st k).2.2.1) (arg15.view.writes (Elt Ideal) G15 (st k).2.2.2.1) (arg16.view.writes (Elt Ideal) G16 (st k).2.2.2.2)).2.2.1 ++ (st k).2.2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (st k).1) (arg13.view.writes (Elt Ideal) G13 (st k).2.1) (arg14.view.writes (Elt Ideal) G14 (st k).2.2.1) (arg15.view.writes (Elt Ideal) G15 (st k).2.2.2.1) (arg16.view.writes (Elt Ideal) G16 (st k).2.2.2.2)).2.2.2.1 ++ (st k).2.2.2.1, (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) v4 v6 v8 v20 v32 v34 v54 v78 v135 v146 X5 X6 X7 ⟨k, hk⟩ (arg12.view.writes (Elt Ideal) G12 (st k).1) (arg13.view.writes (Elt Ideal) G13 (st k).2.1) (arg14.view.writes (Elt Ideal) G14 (st k).2.2.1) (arg15.view.writes (Elt Ideal) G15 (st k).2.2.2.1) (arg16.view.writes (Elt Ideal) G16 (st k).2.2.2.2)).2.2.2.2 ++ (st k).2.2.2.2))
    (hP : P = st (k0_t1_loop i).trips) :
    Fin' (arg14.view.read (Elt Ideal) (arg14.view.writes (Elt Ideal) G14 P.2.2.1) (ix3 hh r 0))
    ∧ ∀ l, arg15.view.read (Elt Ideal) (arg15.view.writes (Elt Ideal) G15 P.2.2.2.1) (ix3 hh r 0) * arg16.view.read (Elt Ideal) (arg16.view.writes (Elt Ideal) G16 P.2.2.2.2) (ix3 hh r l)
        + keepAt (i 2).val (((i 2).val + 1) / 2) * ∑ x, arg13.view.read (Elt Ideal) (arg13.view.writes (Elt Ideal) G13 P.2.1) (ix4 1 hh r x) * wAt X7 (k0_off11 i) (k0_off11_inb i) (ownOf v6 v8 hh) v4 x l
      = tot sm (wm l) sd (wB X7 (ownOf v6 v8 hh) v4 l (i 2).val) (scB X5 X6 (qOf v20 v32 hh) r) (wB X7 (ownOf v6 v8 hh) v4 l) (i 2).val
          (arg14.view.read (Elt Ideal) (arg14.view.writes (Elt Ideal) G14 P.2.2.1) (ix3 hh r 0)) := by
  subst hP
  have hn := i2_lt i
  have hT := trips_eq i
  have hw11 : ∀ l x, wAt X7 (k0_off11 i) (k0_off11_inb i) (ownOf v6 v8 hh) v4 x l
      = prevW (i 2).val (wB X7 (ownOf v6 v8 hh) v4 l (i 2).val) (wB X7 (ownOf v6 v8 hh) v4 l) (k0_t1_loop i).trips x := by
    intro l x
    rw [wAt_blk X7 _ _ l x _ _ (off11_eq i), hT]
    · unfold prevW; split <;> rfl
    · split <;> omega
  rw [← hT]
  simp only [hw11]
  have h3 : ∀ k (hk : k < (k0_t1_loop i).trips), (fun c => scoreAt X5 X6 (k0_off3 i ⟨k, hk⟩) (k0_off3_inb i ⟨k, hk⟩) (qOf v20 v32 hh) (ix2 r c))
      = scB X5 X6 (qOf v20 v32 hh) r (min (2 * k + 1) ((i 2).val - 1)) :=
    fun k hk => funext fun x => scoreAt_blk X5 X6 _ r x _ (by omega) (off3_eq ⟨k, hk⟩)
  have main := fun l => loop_sum sm (wm l) sd (wB X7 (ownOf v6 v8 hh) v4 l (i 2).val) (scB X5 X6 (qOf v20 v32 hh) r) (wB X7 (ownOf v6 v8 hh) v4 l)
    rowMax rowMax_fin hsm hsd hsc (i 2).val (k0_t1_loop i).trips hT
    (fun k x => arg12.view.read (Elt Ideal) (arg12.view.writes (Elt Ideal) G12 (st k).1) (ix4 0 hh r x))
    (fun k => arg14.view.read (Elt Ideal) (arg14.view.writes (Elt Ideal) G14 (st k).2.2.1) (ix3 hh r 0))
    (fun k => arg15.view.read (Elt Ideal) (arg15.view.writes (Elt Ideal) G15 (st k).2.2.2.1) (ix3 hh r 0))
    (fun k x => arg13.view.read (Elt Ideal) (arg13.view.writes (Elt Ideal) G13 (st k).2.1) (ix4 1 hh r x))
    (fun k => arg16.view.read (Elt Ideal) (arg16.view.writes (Elt Ideal) G16 (st k).2.2.2.2) (ix3 hh r l))
    (by rw [hst0]; exact hM0) (by rw [hst0]; exact hS0) (by rw [hst0]; exact hal0) (by rw [hst0]; exact hp0) (by rw [hst0]; exact hacc0 l) ?_ ?_ ?_ ?_ ?_
  · exact ⟨(main 0).1, fun l => (main l).2⟩
  · intro k hk; beta_reduce
    rw [hst k hk]; dsimp only
    rw [View.writes_append, t_m, h3 k hk]
    unfold mSecond
    rw [realAt_eq ⟨k, hk⟩, select_ofBool]
    rfl
  · intro k hk x; beta_reduce
    rw [hst k hk]; dsimp only
    rw [View.writes_append, t_s]
    exact scoreAt_blk X5 X6 _ r x _ (by omega) (off5_eq ⟨k, hk⟩)
  · intro k hk; beta_reduce
    rw [hst k hk]; dsimp only
    rw [View.writes_append, View.writes_append, t_al, t_m]
    rfl
  · intro k hk x; beta_reduce
    rw [hst k hk]; dsimp only
    rw [View.writes_append, View.writes_append, t_p, t_m]
    exact congrArg ex2 (congrArg (· - _) (scoreAt_blk X5 X6 _ r x _ (by omega) (off3_eq ⟨k, hk⟩)))
  · intro k hk; beta_reduce
    rw [hst k hk]; dsimp only
    rw [View.writes_append, t_acc]
    have e4 : ∀ x, wAt X7 (k0_off4 i ⟨k, hk⟩) (k0_off4_inb i ⟨k, hk⟩) (ownOf v6 v8 hh) v4 x l
        = prevW (i 2).val (wB X7 (ownOf v6 v8 hh) v4 l (i 2).val) (wB X7 (ownOf v6 v8 hh) v4 l) k x := by
      intro x
      rw [wAt_blk X7 _ _ l x _ _ (off4_eq ⟨k, hk⟩)]
      · unfold prevW; dsimp only; split <;> rfl
      · split <;> omega
    have e6 : ∀ x, wAt X7 (k0_off6 i ⟨k, hk⟩) (k0_off6_inb i ⟨k, hk⟩) (ownOf v6 v8 hh) v4 x l
        = wB X7 (ownOf v6 v8 hh) v4 l (2 * k) x := fun x => wAt_blk X7 _ _ l x _ (by have := (trip_lt ⟨k, hk⟩).2; dsimp only at this; omega) (off6_eq ⟨k, hk⟩)
    simp only [e4, e6]
    rfl

end Cert.KernelIdeal.Hand
end
-- ==== Proof.FoxEnd.lean ====
/-
  What the attention's body writes into the result's buffer, read at an index: from the sums the loop over pairs of key
  blocks leaves.
-/
module

public import proofs.«01_k».proof.Proof.FoxLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Fox
open scoped BigOperators

/-- A load of what the loop wrote over what was there before it. -/
theorem readCov_append {sp : Space} {s : Shape} {e : EltTy} (v : View sig .tc sp s e) (L L0 : List (View.Piece (Elt Ideal) s e)) (B : LoadRect s)
    (j : B.shape.Idx) : v.readCov (L ++ L0) B j = v.read (Elt Ideal) (v.writes (Elt Ideal) (v.writes (Elt Ideal) v.junk L0) L) (B.idx j) := by
  unfold View.readCov
  rw [View.readAt_apply, View.writes_append]

variable (i : grid0.Coords)
variable (arg3 : Memref sig .tc .vmem S512x128 .bf16) (harg3 : arg3.IsWhole)
variable (arg4 : Memref sig .tc .vmem S512x128 .bf16) (harg4 : arg4.IsWhole)
variable (arg5 : Memref sig .tc .vmem S4096x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S128x128 .bf16) (harg8 : arg8.IsWhole)
variable (arg9 : Memref sig .tc .vmem S128x128 .bf16) (harg9 : arg9.IsWhole)
variable (arg10 : Memref sig .tc .vmem S128x128 .bf16) (harg10 : arg10.IsWhole)
variable (arg11 : Memref sig .tc .vmem S512x128 .bf16) (harg11 : arg11.IsWhole)
variable (arg12 : Memref sig .tc .vmem S2x2x512x512 .f32) (harg12 : arg12.IsWhole)
variable (arg13 : Memref sig .tc .vmem S2x2x512x512 .bf16) (harg13 : arg13.IsWhole)
variable (arg14 : Memref sig .tc .vmem S2x512x1 .f32) (harg14 : arg14.IsWhole)
variable (arg15 : Memref sig .tc .vmem S2x512x1 .f32) (harg15 : arg15.IsWhole)
variable (arg16 : Memref sig .tc .vmem S2x512x128 .f32) (harg16 : arg16.IsWhole)

/-- One head's value lane after the loop: the rescaled running value plus, with an odd number of blocks, the last block's part. -/
def laneEnd (b : BitVec 1) (al : Vec Ideal S1x512x1 .f32) (ac : Vec Ideal S1x512x128 .f32) (p : Vec Ideal S1x1x512x512 .bf16)
    (W : Vec Ideal S512x128 .bf16) (own : IVec S1x128 1) (ones : FVec Ideal S1x128 .bf16) (r : Fin 512) (l : Fin 128) : EReal :=
  al (ix3 0 r 0) * ac (ix3 0 r l) + Scalar.select b (∑ x, p (ix4 0 0 r x) * Scalar.select (own (ix2 0 l)) (W (ix2 x l)) (ones (ix2 0 l))) 0

/-- The lane half a row further on. -/
def across (l : Fin 128) : Fin 128 := ⟨((l : ℕ) + 128 - 64) % 128, Nat.mod_lt _ (by decide)⟩

theorem out_of (b : BitVec 1) (al0 al1 : Vec Ideal S1x512x1 .f32) (ac0 ac1 : Vec Ideal S1x512x128 .f32) (p0 p1 : Vec Ideal S1x1x512x512 .bf16)
    (W : Vec Ideal S512x128 .bf16) (r : Fin 512) (l : Fin 128) :
    k0_pay1 (F := Ideal) k0_pay434 (k0_pay463 b (FloatOps.ofBits FTy.f32 1065353216#32))
      (k0_pay464 k0_pay433 k0_pay434 b (FloatOps.ofBits FTy.f32 1065353216#32) al0 ac0 p0 W) (k0_pay465 al1 ac1) (k0_pay466 p1) W
      (k0_pay467 k0_pay435) (k0_pay468 k0_pay433) (ix2 r l)
      = Scalar.select (k0_pay434 (ix2 0 l))
        (Ideal.div (laneEnd b al0 ac0 p0 W k0_pay434 k0_pay433 r l) (laneEnd b al0 ac0 p0 W k0_pay434 k0_pay433 r (across l)))
        (Ideal.div (laneEnd b al1 ac1 p1 W k0_pay435 k0_pay433 r l) (laneEnd b al1 ac1 p1 W k0_pay435 k0_pay433 r (across l))) := by
  pointwise [k0_pay1, k0_pay463, k0_pay464, k0_pay465, k0_pay466, k0_pay467, k0_pay468, laneEnd, across]

/-- The second head's weights of parity one, read off a list of writes they head, -/
theorem read_p_one {v : View sig .tc .vmem S2x2x512x512 .bf16} (f : v.ty.Contents (Elt Ideal)) (inb) (w : S1x1x512x512.Idx → EReal)
    (L : List (View.Piece (Elt Ideal) S2x2x512x512 .bf16)) (r x : Fin 512) :
    v.read (Elt Ideal) (v.writes (Elt Ideal) f ((⟨Rect.unit ![1, 1, 0, 0] ![1, 1, 512, 512] inb, w⟩ : View.Piece (Elt Ideal) S2x2x512x512 .bf16) :: L)) (ix4 1 1 r x)
      = w (ix4 0 0 r x) := by
  have e : (ix4 1 1 r x : S2x2x512x512.Idx) = (Rect.unit (s := S2x2x512x512) ![1, 1, 0, 0] ![1, 1, 512, 512] inb).emb (ix4 0 0 r x) := by
    funext a; apply Fin.ext; rw [Rect.emb_apply]; fin_cases a <;> simp [Rect.unit, ix4]
  refine read_take v f 1 _ _ _ ⟨_, List.mem_cons_self .., (Rect.mem_set_unit (inb := inb)).mpr ?_⟩ ?_
  · intro a; fin_cases a <;> simp [ix4]
  · rw [List.take_succ_cons, e, View.canon_cons_emb]

/-- and the first head's below them. -/
theorem read_p_zero {v : View sig .tc .vmem S2x2x512x512 .bf16} (f : v.ty.Contents (Elt Ideal)) (inb inb') (w w' : S1x1x512x512.Idx → EReal)
    (L : List (View.Piece (Elt Ideal) S2x2x512x512 .bf16)) (r x : Fin 512) :
    v.read (Elt Ideal) (v.writes (Elt Ideal) f ((⟨Rect.unit ![1, 1, 0, 0] ![1, 1, 512, 512] inb, w⟩ : View.Piece (Elt Ideal) S2x2x512x512 .bf16)
        :: ⟨Rect.unit ![1, 0, 0, 0] ![1, 1, 512, 512] inb', w'⟩ :: L)) (ix4 1 0 r x)
      = w' (ix4 0 0 r x) := by
  have e : (ix4 1 0 r x : S2x2x512x512.Idx) = (Rect.unit (s := S2x2x512x512) ![1, 0, 0, 0] ![1, 1, 512, 512] inb').emb (ix4 0 0 r x) := by
    funext a; apply Fin.ext; rw [Rect.emb_apply]; fin_cases a <;> simp [Rect.unit, ix4]
  refine read_take v f 2 _ _ _ ⟨_, List.mem_cons_of_mem _ (List.mem_cons_self ..), (Rect.mem_set_unit (inb := inb')).mpr ?_⟩ ?_
  · intro a; fin_cases a <;> simp [ix4]
  · rw [List.take_succ_cons, View.canon_cons_of_not_mem, List.take_succ_cons, e, View.canon_cons_emb]
    intro hm
    have := ((Rect.mem_set_unit (inb := inb)).mp hm 1).1
    simp [ix4] at this

/-- A column of the second head, read off a list of writes it heads, -/
theorem read_col_one {v : View sig .tc .vmem S2x512x1 .f32} (f : v.ty.Contents (Elt Ideal)) (inb) (w : S1x512x1.Idx → EReal)
    (L : List (View.Piece (Elt Ideal) S2x512x1 .f32)) (r : Fin 512) :
    v.read (Elt Ideal) (v.writes (Elt Ideal) f ((⟨Rect.unit ![1, 0, 0] ![1, 512, 1] inb, w⟩ : View.Piece (Elt Ideal) S2x512x1 .f32) :: L)) (ix3 1 r 0)
      = w (ix3 0 r 0) := by
  have e : (ix3 1 r 0 : S2x512x1.Idx) = (Rect.unit (s := S2x512x1) ![1, 0, 0] ![1, 512, 1] inb).emb (ix3 0 r 0) := by
    funext a; apply Fin.ext; rw [Rect.emb_apply]; fin_cases a <;> simp [Rect.unit, ix3]
  refine read_take v f 1 _ _ _ ⟨_, List.mem_cons_self .., (Rect.mem_set_unit (inb := inb)).mpr ?_⟩ ?_
  · intro a; fin_cases a <;> simp [ix3]
  · rw [List.take_succ_cons, e, View.canon_cons_emb]

/-- and of the first head below it. -/
theorem read_col_zero {v : View sig .tc .vmem S2x512x1 .f32} (f : v.ty.Contents (Elt Ideal)) (inb inb') (w w' : S1x512x1.Idx → EReal)
    (L : List (View.Piece (Elt Ideal) S2x512x1 .f32)) (r : Fin 512) :
    v.read (Elt Ideal) (v.writes (Elt Ideal) f ((⟨Rect.unit ![1, 0, 0] ![1, 512, 1] inb, w⟩ : View.Piece (Elt Ideal) S2x512x1 .f32)
        :: ⟨Rect.unit ![0, 0, 0] ![1, 512, 1] inb', w'⟩ :: L)) (ix3 0 r 0)
      = w' (ix3 0 r 0) := by
  have e : (ix3 0 r 0 : S2x512x1.Idx) = (Rect.unit (s := S2x512x1) ![0, 0, 0] ![1, 512, 1] inb').emb (ix3 0 r 0) := by
    funext a; apply Fin.ext; rw [Rect.emb_apply]; fin_cases a <;> simp [Rect.unit, ix3]
  refine read_take v f 2 _ _ _ ⟨_, List.mem_cons_of_mem _ (List.mem_cons_self ..), (Rect.mem_set_unit (inb := inb')).mpr ?_⟩ ?_
  · intro a; fin_cases a <;> simp [ix3]
  · rw [List.take_succ_cons, View.canon_cons_of_not_mem, List.take_succ_cons, e, View.canon_cons_emb]
    intro hm
    have := ((Rect.mem_set_unit (inb := inb)).mp hm 0).1
    simp [ix3] at this

/-- The bound the loop starts from: the largest score of the meta keys and of the row's own block. -/
def firstMax (sm : Fin 128 → EReal) (sd : Fin 512 → EReal) : EReal :=
  max (Finset.fold max (Ideal.ofBits FTy.f32 4286578688#32) sm Finset.univ) (rowMax sd)

section
variable (sm : FVec Ideal S512x128 .f32) (sd : FVec Ideal S512x512 .f32) (V : Vec Ideal S128x128 .bf16)

theorem pay_m (r : Fin 512) : (k0_pay449 sm sd (ix2 r 0) = firstMax (fun x => sm (ix2 r x)) fun x => sd (ix2 r x))
    ∧ (k0_pay455 sm sd (ix2 r 0) = firstMax (fun x => sm (ix2 r x)) fun x => sd (ix2 r x))
    ∧ (k0_pay450 sm sd (ix3 0 r 0) = firstMax (fun x => sm (ix2 r x)) fun x => sd (ix2 r x))
    ∧ (k0_pay456 sm sd (ix3 0 r 0) = firstMax (fun x => sm (ix2 r x)) fun x => sd (ix2 r x)) := by
  refine ⟨?_, ?_, ?_, ?_⟩ <;> pointwise [firstMax, rowMax, k0_pay449, k0_pay455, k0_pay450, k0_pay456]

theorem pay_al (r : Fin 512) : k0_pay451 (F := Ideal) (ix3 0 r 0) = 1 ∧ k0_pay457 (F := Ideal) (ix3 0 r 0) = 1 := by
  constructor <;> pointwise [k0_pay451, k0_pay457]

theorem pay_p (r x : Fin 512) : (k0_pay453 sd (k0_pay452 sm sd) (ix4 0 0 r x) = ex2 (sd (ix2 r x) - firstMax (fun x => sm (ix2 r x)) fun x => sd (ix2 r x)))
    ∧ (k0_pay459 (k0_pay458 sm sd) (ix4 0 0 r x) = ex2 (sd (ix2 r x) - firstMax (fun x => sm (ix2 r x)) fun x => sd (ix2 r x))) := by
  constructor <;> pointwise [firstMax, rowMax, k0_pay449, k0_pay455, k0_pay453, k0_pay452, k0_pay459, k0_pay458, ex2]

theorem pay_acc (r : Fin 512) (l : Fin 128) (own : IVec S1x128 1) (ones : FVec Ideal S1x128 .bf16) :
    (k0_pay454 ones own sm (k0_pay449 sm sd) V (ix3 0 r l)
        = wsum Finset.univ (fun x => sm (ix2 r x)) (fun x => Scalar.select (own (ix2 0 l)) (V (ix2 x l)) (ones (ix2 0 l))) (firstMax (fun x => sm (ix2 r x)) fun x => sd (ix2 r x)))
    ∧ (k0_pay460 ones own sm (k0_pay455 sm sd) V (ix3 0 r l)
        = wsum Finset.univ (fun x => sm (ix2 r x)) (fun x => Scalar.select (own (ix2 0 l)) (V (ix2 x l)) (ones (ix2 0 l))) (firstMax (fun x => sm (ix2 r x)) fun x => sd (ix2 r x))) := by
  constructor <;> pointwise [firstMax, rowMax, k0_pay449, k0_pay455, k0_pay454, k0_pay460, ex2, wsum]
end

section
variable (i : grid0.Coords)
variable (arg3 : Memref sig .tc .vmem S512x128 .bf16) (harg3 : arg3.IsWhole)
variable (arg4 : Memref sig .tc .vmem S512x128 .bf16) (harg4 : arg4.IsWhole)
variable (arg5 : Memref sig .tc .vmem S4096x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S128x128 .bf16) (harg8 : arg8.IsWhole)
variable (arg9 : Memref sig .tc .vmem S128x128 .bf16) (harg9 : arg9.IsWhole)
variable (arg10 : Memref sig .tc .vmem S128x128 .bf16) (harg10 : arg10.IsWhole)
variable (arg11 : Memref sig .tc .vmem S512x128 .bf16) (harg11 : arg11.IsWhole)
variable (arg12 : Memref sig .tc .vmem S2x2x512x512 .f32) (harg12 : arg12.IsWhole)
variable (arg13 : Memref sig .tc .vmem S2x2x512x512 .bf16) (harg13 : arg13.IsWhole)
variable (arg14 : Memref sig .tc .vmem S2x512x1 .f32) (harg14 : arg14.IsWhole)
variable (arg15 : Memref sig .tc .vmem S2x512x1 .f32) (harg15 : arg15.IsWhole)
variable (arg16 : Memref sig .tc .vmem S2x512x128 .f32) (harg16 : arg16.IsWhole)
variable (v20 v32 : FVec Ideal S512x256 .bf16) (v34 : BitVec 32) (v54 : FVec Ideal S512x128 .f32) (v78 : BitVec 32) (v135 : FVec Ideal S512x1 .f32)
variable (v146 : FVec Ideal S512x512 .bf16)
variable (X5 : BufTy.Contents (Elt Ideal) arg5.view.ty) (X6 : BufTy.Contents (Elt Ideal) arg6.view.ty)
variable (X7 : BufTy.Contents (Elt Ideal) arg7.view.ty)
variable (G12 : BufTy.Contents (Elt Ideal) arg12.view.ty) (f13 : BufTy.Contents (Elt Ideal) arg13.view.ty)
variable (L13 : List (View.Piece (Elt Ideal) S2x2x512x512 .bf16)) (L14 L15 : List (View.Piece (Elt Ideal) S2x512x1 .f32)) (L16 : List (View.Piece (Elt Ideal) S2x512x128 .f32))

/-- A read of what pieces covering the index wrote, whatever was there before them and whatever is written after. -/
theorem read_any {sp : Space} {s : Shape} {e : EltTy} (v : View sig .tc sp s e) (f f' : v.ty.Contents (Elt Ideal)) (L0 L : List (View.Piece (Elt Ideal) s e)) (y : s.Idx)
    (h : ∃ p ∈ L0, y ∈ p.1.set) : v.read (Elt Ideal) (v.writes (Elt Ideal) (v.writes (Elt Ideal) f L0) L) y = v.read (Elt Ideal) (v.writes (Elt Ideal) (v.writes (Elt Ideal) f' L0) L) y := by
  obtain ⟨p, hp, hy⟩ := h
  rw [← View.writes_append, ← View.writes_append, View.read_writes_apply_eq_canon v f y _ ⟨p, List.mem_append_right _ hp, hy⟩,
    View.read_writes_apply_eq_canon v f' y _ ⟨p, List.mem_append_right _ hp, hy⟩]

set_option maxHeartbeats 2000000 in
/-- One head's lane after the loop is the sum over all keys at some finite bound, whatever the lane. -/
theorem lane_end (c : Dev nD) (hh : Fin 2) (r : Fin 512) {ι : Type} [Fintype ι] (sm : ι → EReal) (wm : Fin 128 → ι → EReal) (sd : Fin 512 → EReal) (M0 : EReal)
    (hsm : ∀ x, sm x ≠ ⊤) (hsd : ∀ x, sd x ≠ ⊤) (hsc : ∀ j x, Fin' (scB X5 X6 (qOf v20 v32 hh) r j x)) (hM : Fin' M0)
    (hM0 : arg14.view.read (Elt Ideal) (arg14.view.writes (Elt Ideal) arg14.view.junk L14) (ix3 hh r 0) = M0)
    (hS0 : ∀ x, arg12.view.read (Elt Ideal) G12 (ix4 0 hh r x) = scB X5 X6 (qOf v20 v32 hh) r 0 x)
    (hal0 : arg15.view.read (Elt Ideal) (arg15.view.writes (Elt Ideal) arg15.view.junk L15) (ix3 hh r 0) = 1)
    (hp0 : ∀ x, arg13.view.read (Elt Ideal) (arg13.view.writes (Elt Ideal) f13 L13) (ix4 1 hh r x) = ex2 (sd x - M0))
    (hc13 : ∀ x, ∃ p ∈ L13, (ix4 1 hh r x : S2x2x512x512.Idx) ∈ p.1.set)
    (hacc0 : ∀ l, arg16.view.read (Elt Ideal) (arg16.view.writes (Elt Ideal) arg16.view.junk L16) (ix3 hh r l) = wsum Finset.univ sm (wm l) M0)
    (b : BitVec 1) (hb : b = BitVec.ofBool (decide (((i 2).val + 1) / 2 = 0 ∨ 2 * (((i 2).val + 1) / 2) - 1 < (i 2).val)))
    (P : List (View.Piece (Elt Ideal) S2x2x512x512 .f32) × List (View.Piece (Elt Ideal) S2x2x512x512 .bf16) × List (View.Piece (Elt Ideal) S2x512x1 .f32) × List (View.Piece (Elt Ideal) S2x512x1 .f32) × List (View.Piece (Elt Ideal) S2x512x128 .f32))
    (hP : P = pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) k0_pay433 k0_pay434 k0_pay435 v20 v32 v34 v54 v78 v135 v146 X5 X6 X7 G12 (arg13.view.writes (Elt Ideal) f13 L13) (arg14.view.writes (Elt Ideal) arg14.view.junk L14) (arg15.view.writes (Elt Ideal) arg15.view.junk L15) (arg16.view.writes (Elt Ideal) arg16.view.junk L16) (k0_t1_loop i).trips)
    (al : Vec Ideal S1x512x1 .f32) (ac : Vec Ideal S1x512x128 .f32) (p : Vec Ideal S1x1x512x512 .bf16)
    (hal : al (ix3 0 r 0) = arg15.view.read (Elt Ideal) (arg15.view.writes (Elt Ideal) arg15.view.junk (P.2.2.2.1 ++ L15)) (ix3 hh r 0))
    (hac : ∀ l, ac (ix3 0 r l) = arg16.view.read (Elt Ideal) (arg16.view.writes (Elt Ideal) arg16.view.junk (P.2.2.2.2 ++ L16)) (ix3 hh r l))
    (hp : ∀ x, p (ix4 0 0 r x) = arg13.view.read (Elt Ideal) (arg13.view.writes (Elt Ideal) arg13.view.junk (P.2.1 ++ L13)) (ix4 1 hh r x)) :
    ∃ mm, Fin' mm ∧ ∀ l, laneEnd b al ac p (View.readAt (Elt Ideal) arg7.view (Rect.unit (s := S4096x128) (k0_off11 i) S512x128.size (k0_off11_inb i)).toLoadRect X7) (ownOf k0_pay434 k0_pay435 hh) k0_pay433 r l
      = tot sm (wm l) sd (wB X7 (ownOf k0_pay434 k0_pay435 hh) k0_pay433 l (i 2).val) (scB X5 X6 (qOf v20 v32 hh) r) (wB X7 (ownOf k0_pay434 k0_pay435 hh) k0_pay433 l) (i 2).val mm := by
  subst hM0
  obtain ⟨h1, h2⟩ := loop_end i arg3 harg3 arg4 harg4 arg5 harg5 arg6 harg6 arg7 harg7 arg8 harg8 arg9 harg9 arg10 harg10 arg11 harg11 arg12 harg12 arg13 harg13 arg14 harg14 arg15 harg15 arg16 harg16 k0_pay433 k0_pay434 k0_pay435 v20 v32 v34 v54 v78 v135 v146 X5 X6 X7 G12 (arg13.view.writes (Elt Ideal) f13 L13) (arg14.view.writes (Elt Ideal) arg14.view.junk L14) (arg15.view.writes (Elt Ideal) arg15.view.junk L15) (arg16.view.writes (Elt Ideal) arg16.view.junk L16) c hh r sm wm sd hsm hsd hsc hM hS0 hal0 hp0 hacc0 P
    (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) k0_pay433 k0_pay434 k0_pay435 v20 v32 v34 v54 v78 v135 v146 X5 X6 X7 G12 (arg13.view.writes (Elt Ideal) f13 L13) (arg14.view.writes (Elt Ideal) arg14.view.junk L14) (arg15.view.writes (Elt Ideal) arg15.view.junk L15) (arg16.view.writes (Elt Ideal) arg16.view.junk L16)) rfl
    (pb_next i arg3 harg3 arg4 harg4 arg5 harg5 arg6 harg6 arg7 harg7 arg8 harg8 arg9 harg9 arg10 harg10 arg11 harg11 arg12 harg12 arg13 harg13 arg14 harg14 arg15 harg15 arg16 harg16 k0_pay433 k0_pay434 k0_pay435 v20 v32 v34 v54 v78 v135 v146 X5 X6 X7 G12 (arg13.view.writes (Elt Ideal) f13 L13) (arg14.view.writes (Elt Ideal) arg14.view.junk L14) (arg15.view.writes (Elt Ideal) arg15.view.junk L15) (arg16.view.writes (Elt Ideal) arg16.view.junk L16) c) hP
  refine ⟨_, h1, fun l => ?_⟩
  rw [← h2 l]
  unfold laneEnd
  rw [hal, hac, View.writes_append, View.writes_append]
  congr 1
  have e : ∀ y, Scalar.select b y 0 = keepAt (i 2).val (((i 2).val + 1) / 2) * y := by
    intro y
    rw [hb, select_ofBool]
    unfold keepAt
    split <;> simp
  rw [e]
  congr 1
  refine Finset.sum_congr rfl fun x _ => ?_
  rw [hp, View.writes_append, read_any arg13.view _ f13 L13 _ _ (hc13 x)]
  rfl
end

section
variable (i : grid0.Coords)
variable (arg3 : Memref sig .tc .vmem S512x128 .bf16) (harg3 : arg3.IsWhole)
variable (arg4 : Memref sig .tc .vmem S512x128 .bf16) (harg4 : arg4.IsWhole)
variable (arg5 : Memref sig .tc .vmem S4096x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S128x128 .bf16) (harg8 : arg8.IsWhole)
variable (arg9 : Memref sig .tc .vmem S128x128 .bf16) (harg9 : arg9.IsWhole)
variable (arg10 : Memref sig .tc .vmem S128x128 .bf16) (harg10 : arg10.IsWhole)
variable (arg11 : Memref sig .tc .vmem S512x128 .bf16) (harg11 : arg11.IsWhole)
variable (arg12 : Memref sig .tc .vmem S2x2x512x512 .f32) (harg12 : arg12.IsWhole)
variable (arg13 : Memref sig .tc .vmem S2x2x512x512 .bf16) (harg13 : arg13.IsWhole)
variable (arg14 : Memref sig .tc .vmem S2x512x1 .f32) (harg14 : arg14.IsWhole)
variable (arg15 : Memref sig .tc .vmem S2x512x1 .f32) (harg15 : arg15.IsWhole)
variable (arg16 : Memref sig .tc .vmem S2x512x128 .f32) (harg16 : arg16.IsWhole)
variable (v20 v32 : FVec Ideal S512x256 .bf16) (v34 : BitVec 32) (v54 : FVec Ideal S512x128 .f32) (v78 : BitVec 32) (v135 : FVec Ideal S512x1 .f32)
variable (v146 : FVec Ideal S512x512 .bf16)
variable (X5 : BufTy.Contents (Elt Ideal) arg5.view.ty) (X6 : BufTy.Contents (Elt Ideal) arg6.view.ty)
variable (X7 : BufTy.Contents (Elt Ideal) arg7.view.ty)
variable (G12 : BufTy.Contents (Elt Ideal) arg12.view.ty) (f13 : BufTy.Contents (Elt Ideal) arg13.view.ty)
variable (L13 : List (View.Piece (Elt Ideal) S2x2x512x512 .bf16)) (L14 L15 : List (View.Piece (Elt Ideal) S2x512x1 .f32)) (L16 : List (View.Piece (Elt Ideal) S2x512x128 .f32))

set_option maxHeartbeats 2000000 in
/-- What the body writes last, from what held before the loop. -/
theorem out_end (c : Dev nD) (r : Fin 512) (l : Fin 128) {ι : Type} [Fintype ι] (sm : Fin 2 → ι → EReal) (wm : Fin 2 → Fin 128 → ι → EReal) (sd : Fin 2 → Fin 512 → EReal) (M0 : Fin 2 → EReal)
    (hsm : ∀ hh x, sm hh x ≠ ⊤) (hsd : ∀ hh x, sd hh x ≠ ⊤) (hsc : ∀ hh j x, Fin' (scB X5 X6 (qOf v20 v32 hh) r j x)) (hM : ∀ hh, Fin' (M0 hh))
    (hM0 : ∀ hh, arg14.view.read (Elt Ideal) (arg14.view.writes (Elt Ideal) arg14.view.junk L14) (ix3 hh r 0) = M0 hh)
    (hS0 : ∀ hh x, arg12.view.read (Elt Ideal) G12 (ix4 0 hh r x) = scB X5 X6 (qOf v20 v32 hh) r 0 x)
    (hal0 : ∀ hh, arg15.view.read (Elt Ideal) (arg15.view.writes (Elt Ideal) arg15.view.junk L15) (ix3 hh r 0) = 1)
    (hp0 : ∀ hh x, arg13.view.read (Elt Ideal) (arg13.view.writes (Elt Ideal) f13 L13) (ix4 1 hh r x) = ex2 (sd hh x - M0 hh))
    (hc13 : ∀ hh x, ∃ p ∈ L13, (ix4 1 hh r x : S2x2x512x512.Idx) ∈ p.1.set)
    (hacc0 : ∀ hh l, arg16.view.read (Elt Ideal) (arg16.view.writes (Elt Ideal) arg16.view.junk L16) (ix3 hh r l) = wsum Finset.univ (sm hh) (wm hh l) (M0 hh))
    (b : BitVec 1) (hb : b = BitVec.ofBool (decide (((i 2).val + 1) / 2 = 0 ∨ 2 * (((i 2).val + 1) / 2) - 1 < (i 2).val)))
    (P : List (View.Piece (Elt Ideal) S2x2x512x512 .f32) × List (View.Piece (Elt Ideal) S2x2x512x512 .bf16) × List (View.Piece (Elt Ideal) S2x512x1 .f32) × List (View.Piece (Elt Ideal) S2x512x1 .f32) × List (View.Piece (Elt Ideal) S2x512x128 .f32))
    (hP : P = pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) k0_pay433 k0_pay434 k0_pay435 v20 v32 v34 v54 v78 v135 v146 X5 X6 X7 G12 (arg13.view.writes (Elt Ideal) f13 L13) (arg14.view.writes (Elt Ideal) arg14.view.junk L14) (arg15.view.writes (Elt Ideal) arg15.view.junk L15) (arg16.view.writes (Elt Ideal) arg16.view.junk L16) (k0_t1_loop i).trips) :
    ∃ mm : Fin 2 → EReal, (∀ hh, Fin' (mm hh)) ∧
    k0_pay1 (F := Ideal) k0_pay434 (k0_pay463 b (FloatOps.ofBits FTy.f32 1065353216#32))
      (k0_pay464 k0_pay433 k0_pay434 b (FloatOps.ofBits FTy.f32 1065353216#32)
        (arg15.view.readCov (P.2.2.2.1 ++ L15) (Rect.unit (s := S2x512x1) ![0, 0, 0] ![1, 512, 1] inb_S2x512x1_S1x512x1_0_0_0).toLoadRect)
        (arg16.view.readCov (P.2.2.2.2 ++ L16) (Rect.unit (s := S2x512x128) ![0, 0, 0] ![1, 512, 128] inb_S2x512x128_S1x512x128_0_0_0).toLoadRect)
        (arg13.view.readCov (P.2.1 ++ L13) (Rect.unit (s := S2x2x512x512) ![1, 0, 0, 0] ![1, 1, 512, 512] inb_S2x2x512x512_S1x1x512x512_1_0_0_0).toLoadRect)
        (View.readAt (Elt Ideal) arg7.view (Rect.unit (s := S4096x128) (k0_off11 i) S512x128.size (k0_off11_inb i)).toLoadRect X7))
      (k0_pay465 (arg15.view.readCov (P.2.2.2.1 ++ L15) (Rect.unit (s := S2x512x1) ![1, 0, 0] ![1, 512, 1] inb_S2x512x1_S1x512x1_1_0_0).toLoadRect)
        (arg16.view.readCov (P.2.2.2.2 ++ L16) (Rect.unit (s := S2x512x128) ![1, 0, 0] ![1, 512, 128] inb_S2x512x128_S1x512x128_1_0_0).toLoadRect))
      (k0_pay466 (arg13.view.readCov (P.2.1 ++ L13) (Rect.unit (s := S2x2x512x512) ![1, 1, 0, 0] ![1, 1, 512, 512] inb_S2x2x512x512_S1x1x512x512_1_1_0_0).toLoadRect))
      (View.readAt (Elt Ideal) arg7.view (Rect.unit (s := S4096x128) (k0_off11 i) S512x128.size (k0_off11_inb i)).toLoadRect X7)
      (k0_pay467 k0_pay435) (k0_pay468 k0_pay433) (ix2 r l)
      = Scalar.select (k0_pay434 (ix2 0 l))
        (Ideal.div (tot (sm 0) (wm 0 l) (sd 0) (wB X7 (ownOf k0_pay434 k0_pay435 0) k0_pay433 l (i 2).val) (scB X5 X6 (qOf v20 v32 0) r) (wB X7 (ownOf k0_pay434 k0_pay435 0) k0_pay433 l) (i 2).val (mm 0)) (tot (sm 0) (wm 0 (across l)) (sd 0) (wB X7 (ownOf k0_pay434 k0_pay435 0) k0_pay433 (across l) (i 2).val) (scB X5 X6 (qOf v20 v32 0) r) (wB X7 (ownOf k0_pay434 k0_pay435 0) k0_pay433 (across l)) (i 2).val (mm 0))) (Ideal.div (tot (sm 1) (wm 1 l) (sd 1) (wB X7 (ownOf k0_pay434 k0_pay435 1) k0_pay433 l (i 2).val) (scB X5 X6 (qOf v20 v32 1) r) (wB X7 (ownOf k0_pay434 k0_pay435 1) k0_pay433 l) (i 2).val (mm 1)) (tot (sm 1) (wm 1 (across l)) (sd 1) (wB X7 (ownOf k0_pay434 k0_pay435 1) k0_pay433 (across l) (i 2).val) (scB X5 X6 (qOf v20 v32 1) r) (wB X7 (ownOf k0_pay434 k0_pay435 1) k0_pay433 (across l)) (i 2).val (mm 1))) := by
  have b15 : ∀ (hh : Fin 2) (a : Fin S2x512x1.rank), ![(hh : ℕ), 0, 0] a + ![1, 512, 1] a ≤ S2x512x1.size a := by
    rintro ⟨n, hn⟩
    interval_cases n
    exacts [inb_S2x512x1_S1x512x1_0_0_0, inb_S2x512x1_S1x512x1_1_0_0]
  have b16 : ∀ (hh : Fin 2) (a : Fin S2x512x128.rank), ![(hh : ℕ), 0, 0] a + ![1, 512, 128] a ≤ S2x512x128.size a := by
    rintro ⟨n, hn⟩
    interval_cases n
    exacts [inb_S2x512x128_S1x512x128_0_0_0, inb_S2x512x128_S1x512x128_1_0_0]
  have b13 : ∀ (hh : Fin 2) (a : Fin S2x2x512x512.rank), ![1, (hh : ℕ), 0, 0] a + ![1, 1, 512, 512] a ≤ S2x2x512x512.size a := by
    rintro ⟨n, hn⟩
    interval_cases n
    exacts [inb_S2x2x512x512_S1x1x512x512_1_0_0_0, inb_S2x2x512x512_S1x1x512x512_1_1_0_0]
  have e15 : ∀ hh : Fin 2, (ix3 hh r 0 : S2x512x1.Idx) = (Rect.unit (s := S2x512x1) ![(hh : ℕ), 0, 0] ![1, 512, 1] (b15 hh)).emb (ix3 0 r 0) := by
    intro hh; funext a; apply Fin.ext; rw [Rect.emb_apply]; fin_cases a <;> simp [Rect.unit, ix3]
  have e16 : ∀ (hh : Fin 2) (l : Fin 128), (ix3 hh r l : S2x512x128.Idx) = (Rect.unit (s := S2x512x128) ![(hh : ℕ), 0, 0] ![1, 512, 128] (b16 hh)).emb (ix3 0 r l) := by
    intro hh l; funext a; apply Fin.ext; rw [Rect.emb_apply]; fin_cases a <;> simp [Rect.unit, ix3]
  have e13 : ∀ (hh : Fin 2) (x : Fin 512), (ix4 1 hh r x : S2x2x512x512.Idx) = (Rect.unit (s := S2x2x512x512) ![1, (hh : ℕ), 0, 0] ![1, 1, 512, 512] (b13 hh)).emb (ix4 0 0 r x) := by
    intro hh x; funext a; apply Fin.ext; rw [Rect.emb_apply]; fin_cases a <;> simp [Rect.unit, ix4]
  have key := fun hh => lane_end i arg3 harg3 arg4 harg4 arg5 harg5 arg6 harg6 arg7 harg7 arg8 harg8 arg9 harg9 arg10 harg10 arg11 harg11 arg12 harg12 arg13 harg13 arg14 harg14 arg15 harg15 arg16 harg16 v20 v32 v34 v54 v78 v135 v146 X5 X6 X7 G12 f13 L13 L14 L15 L16 c hh r (sm hh) (wm hh) (sd hh) (M0 hh)
    (hsm hh) (hsd hh) (hsc hh) (hM hh) (hM0 hh) (hS0 hh) (hal0 hh) (hp0 hh) (hc13 hh) (hacc0 hh) b hb P hP
    (arg15.view.readCov (P.2.2.2.1 ++ L15) (Rect.unit (s := S2x512x1) ![(hh : ℕ), 0, 0] ![1, 512, 1] (b15 hh)).toLoadRect)
    (arg16.view.readCov (P.2.2.2.2 ++ L16) (Rect.unit (s := S2x512x128) ![(hh : ℕ), 0, 0] ![1, 512, 128] (b16 hh)).toLoadRect)
    (arg13.view.readCov (P.2.1 ++ L13) (Rect.unit (s := S2x2x512x512) ![1, (hh : ℕ), 0, 0] ![1, 1, 512, 512] (b13 hh)).toLoadRect)
    (by unfold View.readCov; rw [View.readAt_apply, e15]; rfl) (fun l => by unfold View.readCov; rw [View.readAt_apply, e16]; rfl)
    (fun x => by unfold View.readCov; rw [View.readAt_apply, e13]; rfl)
  obtain ⟨m0, f0, g0⟩ := key 0
  obtain ⟨m1, f1, g1⟩ := key 1
  refine ⟨![m0, m1], Fin.forall_fin_two.mpr ⟨f0, f1⟩, ?_⟩
  refine (out_of _ _ _ _ _ _ _ _ r l).trans ?_
  exact congr (congrArg _ (congr (congrArg _ (g0 l)) (g0 (across l)))) (congr (congrArg _ (g1 l)) (g1 (across l)))
end

end Cert.KernelIdeal.Hand
end
-- ==== Proof.FoxRun.lean ====
/-
  The attention's body run once at any buffers, and the result's block read at an index.
-/
module

public import proofs.«01_k».proof.Proof.FoxEnd
public import proofs.«01_k».proof.Proof.Gen.KernelIdeal.Frame
public import proofs.«01_k».proof.Proof.Gen.KernelIdeal.Loops
public import Idealize.ShloMosaic.Lib.LoopRemainder

@[expose] public section

set_option maxRecDepth 16384

noncomputable section

namespace Cert.KernelIdeal.Hand

open Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any contents of its fourteen buffers: what it writes into the result's and the scratch buffers, as
    lists of pieces that depend on what was there. -/
@[irreducible] def foxRun (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    { L11 : (BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S512x128 .bf16)) // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
        ⊢ wp frame (wpE (defs₀ (F := F)) Variants.none c none) E (cc0_fox i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} arg11.view.writes (Elt F) f11 (L11 f11 f12 f13 f14 f15 f16)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)))) } := by
  refine ⟨?_, fun E f11 f12 f13 f14 f15 f16 => ?run⟩
  case run =>
    simp only [cc0_fox_eq_skeleton]; unfold cc0_fox_skel
    simp only [k0_part57_eq_skeleton, k0_part58_eq_skeleton, k0_part59_eq_skeleton, k0_part60_eq_skeleton, k0_part61_eq_skeleton, k0_part62_eq_skeleton]
    iintro ⟨H3, H4, H5, H6, H7, H8, H9, H10, H11, H12, H13, H14, H15, H16⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16

/-- The scores of a row against the meta keys, -/
def smOf (Q QB : Vec Ideal S512x128 .bf16) (KM KBM : Vec Ideal S128x128 .bf16) (hh : Fin 2) (r : Fin 512) (x : Fin 128) : EReal :=
  (if hh = 0 then k0_pay442 (k0_pay436 Q QB) k0_pay438 KM KBM else k0_pay443 (k0_pay437 Q QB) k0_pay438 KM KBM) (ix2 r x)

/-- and against its own block. -/
def sdOf (Q QB KD KBD : Vec Ideal S512x128 .bf16) (hh : Fin 2) (r : Fin 512) (x : Fin 512) : EReal :=
  (if hh = 0 then k0_pay444 (k0_pay436 Q QB) k0_pay439 KD KBD else k0_pay445 (k0_pay437 Q QB) k0_pay439 KD KBD) (ix2 r x)

/-- What the lanes of the meta keys weigh. -/
def wmOf (VM : Vec Ideal S128x128 .bf16) (hh : Fin 2) (l x : Fin 128) : EReal :=
  Scalar.select (ownOf k0_pay434 k0_pay435 hh (ix2 0 l)) (VM (ix2 x l)) (k0_pay433 (F := Ideal) (ix2 0 l))

/-- The lane's sum over all keys of a row, at a bound. -/
def totAt {m5 m6 m7 : Memref sig .tc .vmem S4096x128 .bf16} (X5 : BufTy.Contents (Elt Ideal) m5.view.ty)
    (X6 : BufTy.Contents (Elt Ideal) m6.view.ty) (X7 : BufTy.Contents (Elt Ideal) m7.view.ty)
    (Q QB : Vec Ideal S512x128 .bf16) (KM KBM VM : Vec Ideal S128x128 .bf16) (KD KBD : Vec Ideal S512x128 .bf16)
    (n : ℕ) (hh : Fin 2) (r : Fin 512) (l : Fin 128) (mm : EReal) : EReal :=
  tot (smOf Q QB KM KBM hh r) (wmOf VM hh l) (sdOf Q QB KD KBD hh r) (wB X7 (ownOf k0_pay434 k0_pay435 hh) k0_pay433 l n)
    (scB X5 X6 (qOf (k0_pay436 Q QB) (k0_pay437 Q QB) hh) r) (wB X7 (ownOf k0_pay434 k0_pay435 hh) k0_pay433 l) n mm

/-- A buffer written whole, read. -/
theorem read_full {v : View sig .tc .vmem S512x128 .bf16} (f : v.ty.Contents (Elt Ideal)) (inb) (w : S512x128.Idx → EReal)
    (L : List (View.Piece (Elt Ideal) S512x128 .bf16)) (y : S512x128.Idx) :
    v.read (Elt Ideal) (v.writes (Elt Ideal) f ((⟨Rect.unit ![0, 0] ![512, 128] inb, w⟩ : View.Piece (Elt Ideal) S512x128 .bf16) :: L)) y = w y := by
  have e : y = (Rect.unit (s := S512x128) ![0, 0] ![512, 128] inb).emb y := by
    funext a; apply Fin.ext; rw [Rect.emb_apply]; fin_cases a <;> simp [Rect.unit]
  refine read_take v f 1 _ _ _ ⟨_, List.mem_cons_self .., (Rect.mem_set_unit (inb := inb)).mpr ?_⟩ ?_
  · intro a; fin_cases a
    · exact ⟨Nat.zero_le _, by simpa using (y 0).isLt⟩
    · exact ⟨Nat.zero_le _, by simpa using (y 1).isLt⟩
  · rw [List.take_succ_cons]; conv_lhs => rw [e]
    rw [View.canon_cons_emb]

/-- The first block's scores the loop starts from. -/
theorem pay_s (q : FVec Ideal S512x256 .bf16) (A B : Vec Ideal S512x128 .bf16) (r x : Fin 512) :
    (k0_pay447 q A B (ix4 0 0 r x) = matmul (φ₂ := .bf16) dot_S512x256_S512x256_S512x512_1_1_0_0_n_n none q
      (concatenate (α := Ideal .bf16) S512x256 1 [⟨S512x128, A⟩, ⟨S512x128, B⟩] concatenates_S512x128_S512x128_S512x256_d1) (constant S512x512 .f32 0#32) (ix2 r x))
    ∧ (k0_pay448 q A B (ix4 0 0 r x) = matmul (φ₂ := .bf16) dot_S512x256_S512x256_S512x512_1_1_0_0_n_n none q
      (concatenate (α := Ideal .bf16) S512x256 1 [⟨S512x128, A⟩, ⟨S512x128, B⟩] concatenates_S512x128_S512x128_S512x256_d1) (constant S512x512 .f32 0#32) (ix2 r x)) := by
  constructor <;> pointwise [k0_pay446, k0_pay447, k0_pay448]

theorem foxRun_read (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 512) (l : Fin 128)
    (Q QB : Vec Ideal S512x128 .bf16) (KM KBM VM : Vec Ideal S128x128 .bf16) (KD KBD : Vec Ideal S512x128 .bf16)
    (hQ : Q = View.readAt (Elt Ideal) arg3.view (Rect.unit ![0, 0] ![512, 128] inb_S512x128_S512x128_0_0).toLoadRect X3)
    (hQB : QB = View.readAt (Elt Ideal) arg4.view (Rect.unit ![0, 0] ![512, 128] inb_S512x128_S512x128_0_0).toLoadRect X4)
    (hKM : KM = View.readAt (Elt Ideal) arg8.view (Rect.unit ![0, 0] ![128, 128] inb_S128x128_S128x128_0_0).toLoadRect X8)
    (hKBM : KBM = View.readAt (Elt Ideal) arg9.view (Rect.unit ![0, 0] ![128, 128] inb_S128x128_S128x128_0_0).toLoadRect X9)
    (hVM : VM = View.readAt (Elt Ideal) arg10.view (Rect.unit ![0, 0] ![128, 128] inb_S128x128_S128x128_0_0).toLoadRect X10)
    (hKD : KD = View.readAt (Elt Ideal) arg5.view (Rect.unit (s := S4096x128) (k0_off1 i) S512x128.size (k0_off1_inb i)).toLoadRect X5)
    (hKBD : KBD = View.readAt (Elt Ideal) arg6.view (Rect.unit (s := S4096x128) (k0_off1 i) S512x128.size (k0_off1_inb i)).toLoadRect X6)
    (hsm : ∀ hh x, smOf Q QB KM KBM hh r x ≠ ⊤) (hsd : ∀ hh x, sdOf Q QB KD KBD hh r x ≠ ⊤)
    (hsc : ∀ hh j x, Fin' (scB X5 X6 (qOf (k0_pay436 Q QB) (k0_pay437 Q QB) hh) r j x))
    (hM : ∀ hh, Fin' (firstMax (smOf Q QB KM KBM hh r) (sdOf Q QB KD KBD hh r))) :
    ∃ mm : Fin 2 → EReal, (∀ hh, Fin' (mm hh)) ∧ arg11.view.read (Elt Ideal) (arg11.view.writes (Elt Ideal) f11 ((foxRun (F := Ideal) c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10).1 f11 f12 f13 f14 f15 f16)) (ix2 r l)
      = Scalar.select (k0_pay434 (ix2 0 l))
          (Ideal.div (totAt X5 X6 X7 Q QB KM KBM VM KD KBD (i 2).val 0 r l (mm 0)) (totAt X5 X6 X7 Q QB KM KBM VM KD KBD (i 2).val 0 r (across l) (mm 0)))
          (Ideal.div (totAt X5 X6 X7 Q QB KM KBM VM KD KBD (i 2).val 1 r l (mm 1)) (totAt X5 X6 X7 Q QB KM KBM VM KD KBD (i 2).val 1 r (across l) (mm 1))) := by
  subst hQ hQB hKM hKBM hVM hKD hKBD
  unfold foxRun
  dsimp only
  sl_unfold_words
  simp (disch := decide) only [↓ View.readCov_skip, ↓ View.readCov_cons_toLoadRect, ↓ View.readCov_fill]
  rw [read_full]
  refine out_end i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ X5 X6 X7 _ f13 _ _ _ _ c r l
    (smOf _ _ _ _ · r) (wmOf _) (sdOf _ _ _ _ · r) (fun hh => firstMax (smOf _ _ _ _ hh r) (sdOf _ _ _ _ hh r)) hsm hsd hsc hM ?_ ?_ ?_ ?_ ?_ ?_ _ ?_ _ rfl
  · refine Fin.forall_fin_two.mpr ⟨?_, ?_⟩
    · exact (read_col_zero _ _ _ _ _ _ r).trans (pay_m _ _ r).2.2.1
    · exact (read_col_one _ _ _ _ r).trans (pay_m _ _ r).2.2.2
  · intro hh x
    rw [← scoreAt_blk X5 X6 _ r x (k0_off2_inb i) (by omega) (off2_eq i)]
    revert hh
    refine Fin.forall_fin_two.mpr ⟨?_, ?_⟩
    · refine (read_slab_zero _ 0 (by omega) _ _ _ _ _ 0 rfl r x).trans (pay_s _ _ _ r x).1
    · refine (read_slab_one _ 0 (by omega) _ _ _ 0 rfl r x).trans (pay_s _ _ _ r x).2
  · refine Fin.forall_fin_two.mpr ⟨?_, ?_⟩
    · exact (read_col_zero _ _ _ _ _ _ r).trans (pay_al r).1
    · exact (read_col_one _ _ _ _ r).trans (pay_al r).2
  · refine Fin.forall_fin_two.mpr ⟨fun x => ?_, fun x => ?_⟩
    · exact (read_p_zero _ _ _ _ _ _ r x).trans (pay_p _ _ r x).1
    · exact (read_p_one _ _ _ _ r x).trans (pay_p _ _ r x).2
  · refine Fin.forall_fin_two.mpr ⟨fun x => ?_, fun x => ?_⟩
    · refine ⟨_, List.mem_cons_of_mem _ (List.mem_cons_self ..), (Rect.mem_set_unit (inb := inb_S2x2x512x512_S1x1x512x512_1_0_0_0)).mpr ?_⟩
      intro a; fin_cases a <;> simp [ix4]
    · refine ⟨_, List.mem_cons_self .., (Rect.mem_set_unit (inb := inb_S2x2x512x512_S1x1x512x512_1_1_0_0)).mpr ?_⟩
      intro a; fin_cases a <;> simp [ix4]
  · refine Fin.forall_fin_two.mpr ⟨fun l => ?_, fun l => ?_⟩
    · exact (read_acc_zero _ _ _ _ _ _ r l).trans (pay_acc _ _ _ r l _ _).1
    · exact (read_acc_one _ _ _ _ r l).trans (pay_acc _ _ _ r l _ _).2
  · have h := i2_lt i
    generalize (i 2).val = n at *
    interval_cases n <;> decide

end Cert.KernelIdeal.Hand
end
-- ==== Proof.FoxBridge.lean ====
/- The three parts of a row's sum, the meta keys, the earlier blocks and the block on the diagonal, as one sum over all keys. -/
module

public import proofs.«01_k».proof.Proof.FoxMath

@[expose] public section

noncomputable section

namespace Cert.Fox

open Idealize.ShloMosaic
open scoped BigOperators

theorem sum_blocks (G : ℕ → EReal) (n : ℕ) :
    ∑ i ∈ Finset.range (512 * n), G i = ∑ j ∈ Finset.range n, ∑ x : Fin 512, G (512 * j + x.val) := by
  induction n with
  | zero => simp
  | succ n ih =>
    rw [Nat.mul_succ, Finset.sum_range_add, ih, Finset.sum_range_succ (fun j => ∑ x : Fin 512, G (512 * j + x.val)) n]
    exact congrArg _ (Finset.sum_range fun i => G (512 * n + i))

/-- The sum over all keys, cut. -/
theorem tot_eq (sm wm : Fin 128 → EReal) (sd wd : Fin 512 → EReal) (sc w : ℕ → Fin 512 → EReal) (n : ℕ) (hn : n < 8)
    (S W : ℕ → EReal) (m : EReal)
    (hsm : ∀ x, sm x = if x.val < 16 then S x.val else ⊥) (hwm : ∀ x, x.val < 16 → wm x = W x.val)
    (hsd : ∀ x, sd x = S (16 + (512 * n + x.val))) (hwd : ∀ x, wd x = W (16 + (512 * n + x.val)))
    (hsc : ∀ j x, j < n → sc j x = S (16 + (512 * j + x.val))) (hw : ∀ j x, j < n → w j x = W (16 + (512 * j + x.val)))
    (hlate : ∀ k, 16 + 512 * (n + 1) ≤ k → S k = ⊥) :
    tot sm wm sd wd sc w n m = wsum Finset.univ (fun k : Fin 4112 => S k.val) (fun k => W k.val) m := by
  have e : ∀ k, 16 + 512 * (n + 1) ≤ k → ex2 (S k - m) * W k = 0 := fun k hk => by
    rw [hlate k hk, EReal.bot_sub, ex2_bot, zero_mul]
  have h1 : wsum Finset.univ (fun k : Fin 4112 => S k.val) (fun k => W k.val) m = ∑ k ∈ Finset.range 4112, ex2 (S k - m) * W k :=
    (Finset.sum_range (n := 4112) fun k => ex2 (S k - m) * W k).symm
  have h2 : wsum Finset.univ sm wm m = ∑ k ∈ Finset.range 16, ex2 (S k - m) * W k := by
    have h3 : wsum Finset.univ sm wm m = ∑ k ∈ Finset.range 128, (if k < 16 then ex2 (S k - m) * W k else 0) := by
      rw [Finset.sum_range (n := 128) fun k => if k < 16 then ex2 (S k - m) * W k else 0]
      refine Finset.sum_congr rfl fun x _ => ?_
      rw [hsm]
      split
      · rename_i h; rw [hwm x h]
      · rw [EReal.bot_sub, ex2_bot, zero_mul]
    rw [h3, show 128 = 16 + 112 from rfl, Finset.sum_range_add, Finset.sum_eq_zero (s := Finset.range 112) fun i _ => if_neg (by omega), add_zero]
    exact Finset.sum_congr rfl fun x hx => if_pos (Finset.mem_range.mp hx)
  rw [h1, show 4112 = 16 + 512 * 8 from rfl, Finset.sum_range_add, sum_blocks (fun i => ex2 (S (16 + i) - m) * W (16 + i)) 8,
    show 8 = n + 1 + (7 - n) by omega, Finset.sum_range_add (n := n + 1), Finset.sum_range_succ (n := n)]
  rw [Finset.sum_eq_zero (s := Finset.range (7 - n)) fun j _ => Finset.sum_eq_zero fun x _ => e _ (by omega), add_zero]
  unfold tot
  rw [h2, add_assoc]
  refine congrArg _ ?_
  rw [add_comm]
  refine congrArg₂ _ ?_ ?_
  · refine Finset.sum_congr rfl fun j hj => Finset.sum_congr rfl fun x _ => ?_
    rw [hsc j x (Finset.mem_range.mp hj), hw j x (Finset.mem_range.mp hj)]
  · refine Finset.sum_congr rfl fun x _ => ?_
    rw [hsd, hwd]

theorem fin_mul {a b : EReal} (ha : Fin' a) (hb : Fin' b) : Fin' (a * b) := by
  obtain ⟨x, rfl⟩ := ha.coe; obtain ⟨y, rfl⟩ := hb.coe; rw [← EReal.coe_mul]; exact fin_coe _
theorem fin_add {a b : EReal} (ha : Fin' a) (hb : Fin' b) : Fin' (a + b) := by
  obtain ⟨x, rfl⟩ := ha.coe; obtain ⟨y, rfl⟩ := hb.coe; rw [← EReal.coe_add]; exact fin_coe _
theorem fin_sum {n : ℕ} (f : Fin n → EReal) (h : ∀ x, Fin' (f x)) : Fin' (∑ x, f x) := by
  classical
  have : ∀ s : Finset (Fin n), Fin' (∑ x ∈ s, f x) := fun s => by
    induction s using Finset.induction_on with
    | empty => rw [Finset.sum_empty]; exact fin_coe 0
    | insert x s hx ih => rw [Finset.sum_insert hx]; exact fin_add (h x) ih
  exact this _

/-- A key's score: 64 lanes of the head's own, and its 8 lanes of the second pair. -/
def dotS (q qb k kb : ℕ → EReal) (hh : ℕ) : EReal :=
  (∑ d : Fin 64, q (64 * hh + d.val) * k (64 * hh + d.val)) + ∑ e : Fin 8, qb (8 * hh + e.val) * kb (8 * hh + e.val)

theorem fin_dotS (q qb k kb : ℕ → EReal) (hh : ℕ) (hhh : hh < 2) (hq : ∀ x, x < 128 → Fin' (q x)) (hqb : ∀ x, x < 128 → Fin' (qb x))
    (hk : ∀ x, x < 128 → Fin' (k x)) (hkb : ∀ x, x < 128 → Fin' (kb x)) : Fin' (dotS q qb k kb hh) :=
  fin_add (fin_sum _ fun d => fin_mul (hq _ (by omega)) (hk _ (by omega))) (fin_sum _ fun d => fin_mul (hqb _ (by omega)) (hkb _ (by omega)))

/-- A sum of which only a window counts. -/
theorem sum_window (a n b : ℕ) (h : a + n + b = 128) (f g : ℕ → EReal) :
    (∑ x : Fin 128, (if a ≤ x.val ∧ x.val < a + n then f x.val else 0) * g x.val) = ∑ d : Fin n, f (a + d.val) * g (a + d.val) := by
  rw [← Finset.sum_range (n := 128) fun x => (if a ≤ x ∧ x < a + n then f x else 0) * g x, ← h, Finset.sum_range_add, Finset.sum_range_add,
    Finset.sum_eq_zero (s := Finset.range a) fun x hx => by rw [if_neg (by have := Finset.mem_range.mp hx; omega), zero_mul],
    Finset.sum_eq_zero (s := Finset.range b) fun x hx => by rw [if_neg (by omega), zero_mul], zero_add, add_zero,
    ← Finset.sum_range (n := n) fun x => f (a + x) * g (a + x)]
  exact Finset.sum_congr rfl fun x hx => by rw [if_pos (by have := Finset.mem_range.mp hx; omega)]

end Cert.Fox

end
-- ==== Proof.FoxScore.lean ====
/- The kernel's scores and weights, read, and what a block of its result is: each row's weighted sum over its sum. -/
module

public import proofs.«01_k».proof.Proof.FoxRun
public import proofs.«01_k».proof.Proof.FoxBridge

@[expose] public section

set_option maxRecDepth 16384

noncomputable section

namespace Cert.Fox

open Idealize.ShloMosaic
open scoped BigOperators

/-- An array's entry by plain numbers. -/
def at2 {a b : ℕ} (A : Shape.Idx ⟨2, ![a, b]⟩ → EReal) (i j : ℕ) : EReal :=
  if h : i < a ∧ j < b then A (ix2 ⟨i, h.1⟩ ⟨j, h.2⟩) else 0

theorem at2_eq {a b : ℕ} (A : Shape.Idx ⟨2, ![a, b]⟩ → EReal) (i : Fin a) (j : Fin b) : at2 A i.val j.val = A (ix2 i j) := by
  unfold at2; rw [dif_pos ⟨i.isLt, j.isLt⟩]

theorem at2_fin {a b : ℕ} (A : Shape.Idx ⟨2, ![a, b]⟩ → EReal) (h : ∀ j, Fin' (A j)) (i j : ℕ) : Fin' (at2 A i j) := by
  unfold at2; split
  · exact h _
  · exact fin_coe 0

/-- A row of keys: the meta rows, then the batch's own. -/
def keyAt (K M : ℕ → ℕ → EReal) (k : ℕ) : ℕ → EReal := if k < 16 then M k else K (k - 16)

/-- The score of key `k` for row `q`, later keys cut off. -/
def scoreOf (q qb : ℕ → EReal) (K KB KM KBM : ℕ → ℕ → EReal) (hh row k : ℕ) : EReal :=
  if k ≤ 16 + row then dotS q qb (keyAt K KM k) (keyAt KB KBM k) hh else ⊥

/-- The weighted sum over the sum, over all keys. -/
def att (S W : ℕ → EReal) : EReal :=
  Ideal.div (wsum Finset.univ (fun k : Fin 4112 => S k.val) (fun k => W k.val) 0) (wsum Finset.univ (fun k : Fin 4112 => S k.val) (fun _ => 1) 0)

theorem att_at (S W : ℕ → EReal) (hS : ∀ k, S k ≠ ⊤) (h0 : Fin' (S 0)) {m : EReal} (hm : Fin' m) :
    Ideal.div (wsum Finset.univ (fun k : Fin 4112 => S k.val) (fun k => W k.val) m) (wsum Finset.univ (fun k : Fin 4112 => S k.val) (fun _ => 1) m) = att S W := by
  unfold att
  have e := fun (m' : EReal) (h : Fin' m') => quot Finset.univ (fun k : Fin 4112 => S k.val) (fun k => W k.val) h (fin_coe 0) (fun x _ => hS _) 0 (Finset.mem_univ _) h0
  exact (e m hm).trans (e 0 (fin_coe 0)).symm

/-- A product over both pairs' lanes of which only the head's count. -/
theorem sum_pair (f g : Fin 256 → EReal) (Q QB K KB : ℕ → EReal) (hh : ℕ) (hhh : hh < 2)
    (hf : ∀ x, f x = if x.val < 128 then (if 64 * hh ≤ x.val ∧ x.val < 64 * hh + 64 then Q x.val else 0)
      else (if 8 * hh ≤ x.val - 128 ∧ x.val - 128 < 8 * hh + 8 then QB (x.val - 128) else 0))
    (hg : ∀ x, g x = if x.val < 128 then K x.val else KB (x.val - 128)) :
    ∑ x, f x * g x = dotS Q QB K KB hh := by
  rw [show (∑ x : Fin 256, f x * g x) = _ from Fin.sum_univ_add (a := 128) (b := 128) fun x => f x * g x]
  unfold dotS
  rw [← sum_window (64 * hh) 64 (64 - 64 * hh) (by omega), ← sum_window (8 * hh) 8 (120 - 8 * hh) (by omega)]
  refine congrArg₂ _ (Finset.sum_congr rfl fun x _ => ?_) (Finset.sum_congr rfl fun x _ => ?_)
  · have h1 : (Fin.castAdd 128 x).val = x.val := rfl
    rw [hf, hg, h1, if_pos x.isLt, if_pos x.isLt, show 64 * hh + 64 = 64 * hh + 64 from rfl]
  · have h1 : (Fin.natAdd 128 x).val = 128 + x.val := rfl
    rw [hf, hg, h1, if_neg (show ¬ 128 + x.val < 128 by omega), if_neg (show ¬ 128 + x.val < 128 by omega), Nat.add_sub_cancel_left]

end Cert.Fox

namespace Cert.KernelIdeal.Hand

open Cert.KernelIdeal Cert.KernelIdeal.Gen Cert.Fox
open Idealize.ShloMosaic Idealize.ShloMosaic.TcCoe Idealize.ShloMosaic.Tactic Idealize.ShloMosaic.WordCmp
open scoped BigOperators

theorem selP (b : BitVec 1) (p : Prop) [Decidable p] (h : b = BitVec.ofBool (decide p)) (x y : EReal) :
    Scalar.select b x y = if p then x else y := by rw [h, select_ofBool]

theorem own0 (l : Fin 128) : (k0_pay434 (ix2 0 l) : BitVec 1) = BitVec.ofBool (decide (l.val < 64)) := by
  pointwise [k0_pay434]
  exact cmpi_slt_ofNat (by omega) (by omega)
theorem own1 (l : Fin 128) : (k0_pay435 (ix2 0 l) : BitVec 1) = BitVec.ofBool (decide (64 ≤ l.val)) := by
  pointwise [k0_pay435]
  exact cmpi_sge_ofNat (by omega) (by omega)

theorem win8 (a b x : ℕ) (ha : a < 128) (hb : b < 128) (hx : x < 128) :
    IntOp.andi (IntOp.cmpi CmpIPredicate.sge (BitVec.ofNat 32 x) (BitVec.ofNat 32 a)) (IntOp.cmpi CmpIPredicate.slt (BitVec.ofNat 32 x) (BitVec.ofNat 32 b))
      = BitVec.ofBool (decide (a ≤ x ∧ x < b)) := by
  rw [cmpi_sge_ofNat (by omega) (by omega), cmpi_slt_ofNat (by omega) (by omega)]
  by_cases h1 : a ≤ x <;> by_cases h2 : x < b <;> simp [h1, h2, IntOp.andi]

theorem zero_at (j : S512x128.Idx) : (k0_pay432 (F := Ideal) j : EReal) = 0 := by
  pointwise [k0_pay432]

theorem q0_at (Q QB : Vec Ideal S512x128 .bf16) (r : Fin 512) (x : Fin 256) :
    (k0_pay436 Q QB (ix2 r x) : EReal) = if x.val < 128 then (if 64 * 0 ≤ x.val ∧ x.val < 64 * 0 + 64 then at2 Q r.val x.val else 0)
      else (if 8 * 0 ≤ x.val - 128 ∧ x.val - 128 < 8 * 0 + 8 then at2 QB r.val (x.val - 128) else 0) := by
  pointwise [k0_pay436]
  split
  · rename_i h
    rw [own0, select_ofBool, zero_at, ← at2_eq Q r ⟨x.val, h⟩]
  · rename_i h
    rw [selP _ _ (win8 0 8 _ (by omega) (by omega) (by omega)), zero_at, ← at2_eq QB r ⟨x.val - 128, by omega⟩]
    simp

theorem q1_at (Q QB : Vec Ideal S512x128 .bf16) (r : Fin 512) (x : Fin 256) :
    (k0_pay437 Q QB (ix2 r x) : EReal) = if x.val < 128 then (if 64 * 1 ≤ x.val ∧ x.val < 64 * 1 + 64 then at2 Q r.val x.val else 0)
      else (if 8 * 1 ≤ x.val - 128 ∧ x.val - 128 < 8 * 1 + 8 then at2 QB r.val (x.val - 128) else 0) := by
  pointwise [k0_pay437]
  split
  · rename_i h
    rw [own1, select_ofBool, zero_at, ← at2_eq Q r ⟨x.val, h⟩]
    simp [h]
  · rename_i h
    rw [selP _ _ (win8 8 16 _ (by omega) (by omega) (by omega)), zero_at, ← at2_eq QB r ⟨x.val - 128, by omega⟩]

theorem qOf_at (Q QB : Vec Ideal S512x128 .bf16) (hh : Fin 2) (r : Fin 512) (x : Fin 256) :
    (qOf (k0_pay436 Q QB) (k0_pay437 Q QB) hh (ix2 r x) : EReal) = if x.val < 128 then (if 64 * hh.val ≤ x.val ∧ x.val < 64 * hh.val + 64 then at2 Q r.val x.val else 0)
      else (if 8 * hh.val ≤ x.val - 128 ∧ x.val - 128 < 8 * hh.val + 8 then at2 QB r.val (x.val - 128) else 0) := by
  revert hh
  exact Fin.forall_fin_two.mpr ⟨q0_at Q QB r x, q1_at Q QB r x⟩

theorem mk_at (KM KBM : Vec Ideal S128x128 .bf16) (y : Fin 128) (x : Fin 256) :
    (k0_pay440 KM KBM (ix2 y x) : EReal) = if x.val < 128 then at2 KM y.val x.val else at2 KBM y.val (x.val - 128) := by
  pointwise [k0_pay440]
  split
  · rename_i h; rw [← at2_eq KM y ⟨x.val, h⟩]
  · rename_i h; rw [← at2_eq KBM y ⟨x.val - 128, by omega⟩]

theorem dk_at (A B : Vec Ideal S512x128 .bf16) (y : Fin 512) (x : Fin 256) :
    (concatenate (α := Ideal .bf16) S512x256 1 [⟨S512x128, A⟩, ⟨S512x128, B⟩] concatenates_S512x128_S512x128_S512x256_d1 (ix2 y x) : EReal)
      = if x.val < 128 then at2 A y.val x.val else at2 B y.val (x.val - 128) := by
  pointwise []
  split
  · rename_i h; rw [← at2_eq A y ⟨x.val, h⟩]
  · rename_i h; rw [← at2_eq B y ⟨x.val - 128, by omega⟩]

theorem mask_eq : (Named.named κ "mask" 0xF149F2CA#32 : Ideal .f32) = (⊥ : EReal) := rfl

theorem mm_at (q : FVec Ideal S512x256 .bf16) (A B : Vec Ideal S512x128 .bf16) (Q QB : ℕ → EReal) (hh : Fin 2) (r y : Fin 512)
    (hq : ∀ x : Fin 256, (q (ix2 r x) : EReal) = if x.val < 128 then (if 64 * hh.val ≤ x.val ∧ x.val < 64 * hh.val + 64 then Q x.val else 0)
      else (if 8 * hh.val ≤ x.val - 128 ∧ x.val - 128 < 8 * hh.val + 8 then QB (x.val - 128) else 0)) :
    (matmul (φ₂ := .bf16) dot_S512x256_S512x256_S512x512_1_1_0_0_n_n none q
      (concatenate (α := Ideal .bf16) S512x256 1 [⟨S512x128, A⟩, ⟨S512x128, B⟩] concatenates_S512x128_S512x128_S512x256_d1) (constant S512x512 .f32 0#32) (ix2 r y) : EReal)
      = dotS Q QB (at2 A y.val) (at2 B y.val) hh.val := by
  generalize hK : concatenate (α := Ideal .bf16) S512x256 1 [⟨S512x128, A⟩, ⟨S512x128, B⟩] concatenates_S512x128_S512x128_S512x256_d1 = K
  pointwise []
  exact sum_pair _ _ _ _ _ _ hh.val hh.isLt hq fun x => by rw [← hK]; exact dk_at A B y x

theorem sm_at (Q QB : Vec Ideal S512x128 .bf16) (KM KBM : Vec Ideal S128x128 .bf16) (hh : Fin 2) (r : Fin 512) (x : Fin 128) :
    smOf Q QB KM KBM hh r x = if x.val < 16 then dotS (at2 Q r.val) (at2 QB r.val) (at2 KM x.val) (at2 KBM x.val) hh.val else ⊥ := by
  have h : ∀ q : FVec Ideal S512x256 .bf16, (k0_pay442 q k0_pay438 KM KBM (ix2 r x) : EReal) = (if x.val < 16 then ∑ y : Fin 256, (q (ix2 r y) : EReal) * k0_pay440 KM KBM (ix2 x y) else ⊥)
      ∧ (k0_pay443 q k0_pay438 KM KBM (ix2 r x) : EReal) = (if x.val < 16 then ∑ y : Fin 256, (q (ix2 r y) : EReal) * k0_pay440 KM KBM (ix2 x y) else ⊥) := by
    intro q
    constructor
    · pointwise [k0_pay442, k0_pay438]
      rw [selP _ _ (cmpi_slt_ofNat (a := x.val) (b := 16) (by omega) (by omega)), mask_eq]
    · pointwise [k0_pay443, k0_pay438]
      rw [selP _ _ (cmpi_slt_ofNat (a := x.val) (b := 16) (by omega) (by omega)), mask_eq]
  have h2 := fun hh => sum_pair _ _ _ _ _ _ (Fin.val hh) hh.isLt (qOf_at Q QB hh r) (mk_at KM KBM x)
  rw [← h2]
  revert hh
  exact Fin.forall_fin_two.mpr ⟨(h _).1, (h _).2⟩

theorem sd_at (Q QB KD KBD : Vec Ideal S512x128 .bf16) (hh : Fin 2) (r x : Fin 512) :
    sdOf Q QB KD KBD hh r x = if x.val ≤ r.val then dotS (at2 Q r.val) (at2 QB r.val) (at2 KD x.val) (at2 KBD x.val) hh.val else ⊥ := by
  have h : ∀ q : FVec Ideal S512x256 .bf16, (k0_pay444 q k0_pay439 KD KBD (ix2 r x) : EReal) = (if x.val ≤ r.val then ∑ y : Fin 256, (q (ix2 r y) : EReal) * k0_pay441 KD KBD (ix2 x y) else ⊥)
      ∧ (k0_pay445 q k0_pay439 KD KBD (ix2 r x) : EReal) = (if x.val ≤ r.val then ∑ y : Fin 256, (q (ix2 r y) : EReal) * k0_pay441 KD KBD (ix2 x y) else ⊥) := by
    intro q
    constructor
    · pointwise [k0_pay444, k0_pay439]
      rw [selP _ _ (cmpi_sle_ofNat (a := x.val) (b := r.val) (by omega) (by omega)), mask_eq]
    · pointwise [k0_pay445, k0_pay439]
      rw [selP _ _ (cmpi_sle_ofNat (a := x.val) (b := r.val) (by omega) (by omega)), mask_eq]
  have h2 := fun hh => sum_pair _ _ _ _ _ _ (Fin.val hh) hh.isLt (qOf_at Q QB hh r) (fun y => (dk_at KD KBD x y))
  rw [← h2]
  revert hh
  exact Fin.forall_fin_two.mpr ⟨(h _).1, (h _).2⟩

end Cert.KernelIdeal.Hand

end
-- ==== Proof.FoxBlock.lean ====
/- What a block of the attention kernel's result holds: each row's attention over all keys not after it. -/
module

public import proofs.«01_k».proof.Proof.FoxScore

@[expose] public section

set_option maxRecDepth 16384

noncomputable section

namespace Cert.KernelIdeal.Hand

open Cert.KernelIdeal Cert.KernelIdeal.Gen Cert.Fox
open Idealize.ShloMosaic Idealize.ShloMosaic.TcCoe Idealize.ShloMosaic.Tactic Idealize.ShloMosaic.WordCmp
open scoped BigOperators

theorem one_at (j : S1x128.Idx) : (k0_pay433 (F := Ideal) j : EReal) = 1 := by
  pointwise [k0_pay433]

theorem ownOf_at (hh : Fin 2) (l : Fin 128) : (ownOf k0_pay434 k0_pay435 hh (ix2 0 l) : BitVec 1) = BitVec.ofBool (decide (l.val / 64 = hh.val)) := by
  revert hh
  refine Fin.forall_fin_two.mpr ⟨?_, ?_⟩
  · refine (own0 l).trans (congrArg _ (decide_eq_decide.mpr ?_)); show _ ↔ _ = 0; omega
  · refine (own1 l).trans (congrArg _ (decide_eq_decide.mpr ?_)); show _ ↔ _ = 1; omega

/-- A block of 512 rows, by plain numbers. -/
theorem at2_block {m5 : Memref sig .tc .vmem S4096x128 .bf16} (X5 : BufTy.Contents (Elt Ideal) m5.view.ty) {off : Fin 2 → ℕ} (inb) {j : ℕ} (hj : j < 8)
    (e : off = blk j) (x : Fin 512) :
    at2 (View.readAt (Elt Ideal) m5.view (Rect.unit (s := S4096x128) off S512x128.size inb).toLoadRect X5 : S512x128.Idx → EReal) x.val
      = at2 (m5.view.read (Elt Ideal) X5 : S4096x128.Idx → EReal) (512 * j + x.val) := by
  subst e
  funext y
  unfold at2
  by_cases h : y < 128
  · rw [dif_pos ⟨x.isLt, h⟩, dif_pos ⟨by omega, h⟩, View.readAt_apply]
    refine congrArg (m5.view.read (Elt Ideal) X5) ?_
    funext a; apply Fin.ext; fin_cases a <;> simp [Rect.unit, blk, ix2]
  · rw [dif_neg fun h' => h h'.2, dif_neg fun h' => h h'.2]

theorem scB_at {m5 m6 : Memref sig .tc .vmem S4096x128 .bf16} (X5 : BufTy.Contents (Elt Ideal) m5.view.ty)
    (X6 : BufTy.Contents (Elt Ideal) m6.view.ty) (Q QB : Vec Ideal S512x128 .bf16) (hh : Fin 2) (r x : Fin 512) {j : ℕ} (hj : j < 8) :
    scB X5 X6 (qOf (k0_pay436 Q QB) (k0_pay437 Q QB) hh) r j x = dotS (at2 Q r.val) (at2 QB r.val)
      (at2 (m5.view.read (Elt Ideal) X5 : S4096x128.Idx → EReal) (512 * j + x.val)) (at2 (m6.view.read (Elt Ideal) X6 : S4096x128.Idx → EReal) (512 * j + x.val)) hh.val := by
  unfold scB scoreAt
  rw [dif_pos hj, mm_at _ _ _ _ _ hh r x (qOf_at Q QB hh r), at2_block X5 _ hj rfl, at2_block X6 _ hj rfl]

theorem wB_at {m7 : Memref sig .tc .vmem S4096x128 .bf16} (X7 : BufTy.Contents (Elt Ideal) m7.view.ty) (hh : Fin 2) (l : Fin 128) (x : Fin 512) {j : ℕ} (hj : j < 8) :
    wB X7 (ownOf k0_pay434 k0_pay435 hh) k0_pay433 l j x
      = if l.val / 64 = hh.val then at2 (m7.view.read (Elt Ideal) X7 : S4096x128.Idx → EReal) (512 * j + x.val) l.val else 1 := by
  unfold wB wAt
  rw [dif_pos hj, ownOf_at, select_ofBool, one_at, ← at2_block X7 (blk_inb hj) hj rfl x,
    at2_eq (View.readAt (Elt Ideal) m7.view (Rect.unit (s := S4096x128) (blk j) S512x128.size (blk_inb hj)).toLoadRect X7 : S512x128.Idx → EReal) x l]

theorem fold_fin {n : ℕ} (f : Fin n → EReal) (h : ∀ x, f x ≠ ⊤) : Finset.fold max (Ideal.ofBits FTy.f32 4286578688#32) f Finset.univ ≠ ⊤ := by
  refine ne_of_lt ((Finset.fold_max_lt _).mpr ⟨?_, fun x _ => lt_top_iff_ne_top.mpr (h x)⟩)
  have e : Ideal.ofBits FTy.f32 4286578688#32 = (⊥ : EReal) := by
    norm_num [Ideal.ofBits, Ideal.ieee]
    rw [if_pos (by decide), if_pos (by decide)]
  rw [e]; exact bot_lt_top

theorem firstMax_fin (sm : Fin 128 → EReal) (sd : Fin 512 → EReal) (hm : ∀ x, sm x ≠ ⊤) (hd : ∀ x, sd x ≠ ⊤) (h0 : Fin' (sm 0)) : Fin' (firstMax sm sd) := by
  unfold firstMax rowMax
  constructor
  · refine ne_of_gt (lt_of_lt_of_le (bot_lt_iff_ne_bot.mpr h0.1) (le_max_of_le_left ?_))
    exact (Finset.le_fold_max _).mpr (Or.inr ⟨0, Finset.mem_univ _, le_rfl⟩)
  · exact ne_of_lt (max_lt (lt_top_iff_ne_top.mpr (fold_fin _ hm)) (lt_top_iff_ne_top.mpr (fold_fin _ hd)))

/-- A lane's sum over the three parts is its sum over all keys. -/
theorem totAt_eq {m5 m6 m7 : Memref sig .tc .vmem S4096x128 .bf16} (X5 : BufTy.Contents (Elt Ideal) m5.view.ty)
    (X6 : BufTy.Contents (Elt Ideal) m6.view.ty) (X7 : BufTy.Contents (Elt Ideal) m7.view.ty)
    (Q QB : Vec Ideal S512x128 .bf16) (KM KBM VM : Vec Ideal S128x128 .bf16) {off : Fin 2 → ℕ} (inb) (n : ℕ) (hn : n < 8) (e : off = blk n)
    (hh : Fin 2) (r : Fin 512) (l : Fin 128) (mm : EReal) :
    totAt X5 X6 X7 Q QB KM KBM VM (View.readAt (Elt Ideal) m5.view (Rect.unit (s := S4096x128) off S512x128.size inb).toLoadRect X5)
      (View.readAt (Elt Ideal) m6.view (Rect.unit (s := S4096x128) off S512x128.size inb).toLoadRect X6) n hh r l mm
    = wsum Finset.univ (fun k : Fin 4112 => scoreOf (at2 Q r.val) (at2 QB r.val) (at2 (m5.view.read (Elt Ideal) X5 : S4096x128.Idx → EReal))
        (at2 (m6.view.read (Elt Ideal) X6 : S4096x128.Idx → EReal)) (at2 KM) (at2 KBM) hh.val (512 * n + r.val) k.val)
      (fun k => (fun k => if l.val / 64 = hh.val then keyAt (at2 (m7.view.read (Elt Ideal) X7 : S4096x128.Idx → EReal)) (at2 VM) k l.val else 1) k.val) mm := by
  unfold totAt
  refine tot_eq _ _ _ _ _ _ n hn (scoreOf _ _ _ _ _ _ _ _) (fun k => if l.val / 64 = hh.val then keyAt (at2 (m7.view.read (Elt Ideal) X7 : S4096x128.Idx → EReal)) (at2 VM) k l.val else 1) mm ?_ ?_ ?_ ?_ ?_ ?_ ?_
  · intro x
    rw [sm_at]
    split
    · rename_i h; unfold scoreOf keyAt; rw [if_pos (by omega), if_pos h, if_pos h]
    · rfl
  · intro x h
    unfold wmOf keyAt
    rw [ownOf_at, select_ofBool, one_at, if_pos h, at2_eq]
  · intro x
    rw [sd_at, at2_block X5 inb hn e, at2_block X6 inb hn e]
    unfold scoreOf keyAt
    have e1 : ¬ 16 + (512 * n + x.val) < 16 := by omega
    have e2 : 16 + (512 * n + x.val) - 16 = 512 * n + x.val := by omega
    rw [if_neg e1, if_neg e1, e2]
    by_cases h : x.val ≤ r.val
    · rw [if_pos h, if_pos (by omega)]
    · rw [if_neg h, if_neg (by omega)]
  · intro x
    have e1 : ¬ 16 + (512 * n + x.val) < 16 := by omega
    have e2 : 16 + (512 * n + x.val) - 16 = 512 * n + x.val := by omega
    unfold keyAt
    rw [wB_at X7 hh l x hn, if_neg e1, e2]
  · intro j x h
    have e1 : ¬ 16 + (512 * j + x.val) < 16 := by omega
    have e2 : 16 + (512 * j + x.val) - 16 = 512 * j + x.val := by omega
    unfold scoreOf keyAt
    rw [scB_at X5 X6 Q QB hh r x (by omega), if_neg e1, if_neg e1, e2, if_pos (by omega)]
  · intro j x h
    have e1 : ¬ 16 + (512 * j + x.val) < 16 := by omega
    have e2 : 16 + (512 * j + x.val) - 16 = 512 * j + x.val := by omega
    unfold keyAt
    rw [wB_at X7 hh l x (by omega), if_neg e1, e2]
  · intro k h
    unfold scoreOf
    rw [if_neg (by omega)]

theorem keyAt_fin {K M : ℕ → ℕ → EReal} (hK : ∀ i j, Fin' (K i j)) (hM : ∀ i j, Fin' (M i j)) (k j : ℕ) : Fin' (keyAt K M k j) := by
  unfold keyAt; split
  · exact hM _ _
  · exact hK _ _

theorem scoreOf_ne_top {q qb : ℕ → EReal} {K KB KM KBM : ℕ → ℕ → EReal} (hh : ℕ) (hhh : hh < 2) (row k : ℕ) (hq : ∀ x, Fin' (q x)) (hqb : ∀ x, Fin' (qb x))
    (hK : ∀ i j, Fin' (K i j)) (hKB : ∀ i j, Fin' (KB i j)) (hKM : ∀ i j, Fin' (KM i j)) (hKBM : ∀ i j, Fin' (KBM i j)) :
    scoreOf q qb K KB KM KBM hh row k ≠ ⊤ ∧ (k ≤ 16 + row → Fin' (scoreOf q qb K KB KM KBM hh row k)) := by
  have h := fin_dotS q qb (keyAt K KM k) (keyAt KB KBM k) hh hhh (fun x _ => hq x) (fun x _ => hqb x) (fun x _ => keyAt_fin hK hKM k x) (fun x _ => keyAt_fin hKB hKBM k x)
  unfold scoreOf
  by_cases hk : k ≤ 16 + row
  · rw [if_pos hk]; exact ⟨h.2, fun _ => h⟩
  · rw [if_neg hk]; exact ⟨bot_ne_top, fun h' => absurd h' hk⟩

/-- An entry of the block the kernel leaves. -/
theorem block_at (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 512) (l : Fin 128)
    (Q QB : Vec Ideal S512x128 .bf16) (KM KBM VM : Vec Ideal S128x128 .bf16)
    (hQ : Q = View.readAt (Elt Ideal) arg3.view (Rect.unit ![0, 0] ![512, 128] inb_S512x128_S512x128_0_0).toLoadRect X3)
    (hQB : QB = View.readAt (Elt Ideal) arg4.view (Rect.unit ![0, 0] ![512, 128] inb_S512x128_S512x128_0_0).toLoadRect X4)
    (hKM : KM = View.readAt (Elt Ideal) arg8.view (Rect.unit ![0, 0] ![128, 128] inb_S128x128_S128x128_0_0).toLoadRect X8)
    (hKBM : KBM = View.readAt (Elt Ideal) arg9.view (Rect.unit ![0, 0] ![128, 128] inb_S128x128_S128x128_0_0).toLoadRect X9)
    (hVM : VM = View.readAt (Elt Ideal) arg10.view (Rect.unit ![0, 0] ![128, 128] inb_S128x128_S128x128_0_0).toLoadRect X10)
    (fQ : ∀ j, Fin' (Q j)) (fQB : ∀ j, Fin' (QB j)) (fKM : ∀ j, Fin' (KM j)) (fKBM : ∀ j, Fin' (KBM j))
    (fK : ∀ j, Fin' (arg5.view.read (Elt Ideal) X5 j)) (fKB : ∀ j, Fin' (arg6.view.read (Elt Ideal) X6 j)) :
    arg11.view.read (Elt Ideal) (arg11.view.writes (Elt Ideal) f11 ((foxRun (F := Ideal) c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10).1 f11 f12 f13 f14 f15 f16)) (ix2 r l)
      = att (scoreOf (at2 Q r.val) (at2 QB r.val) (at2 (arg5.view.read (Elt Ideal) X5 : S4096x128.Idx → EReal))
        (at2 (arg6.view.read (Elt Ideal) X6 : S4096x128.Idx → EReal)) (at2 KM) (at2 KBM) (l.val / 64) (512 * (i 2).val + r.val))
        (fun k => keyAt (at2 (arg7.view.read (Elt Ideal) X7 : S4096x128.Idx → EReal)) (at2 VM) k l.val) := by
  have aQ := at2_fin Q fQ
  have aQB := at2_fin QB fQB
  have aKM := at2_fin KM fKM
  have aKBM := at2_fin KBM fKBM
  have aK := at2_fin (arg5.view.read (Elt Ideal) X5 : S4096x128.Idx → EReal) fK
  have aKB := at2_fin (arg6.view.read (Elt Ideal) X6 : S4096x128.Idx → EReal) fKB
  have hsm : ∀ hh x, smOf Q QB KM KBM hh r x ≠ ⊤ ∧ (x.val < 16 → Fin' (smOf Q QB KM KBM hh r x)) := fun hh x => by
    have h := fin_dotS (at2 Q r.val) (at2 QB r.val) (at2 KM x.val) (at2 KBM x.val) hh.val hh.isLt (fun _ _ => aQ _ _) (fun _ _ => aQB _ _) (fun _ _ => aKM _ _) (fun _ _ => aKBM _ _)
    rw [sm_at]
    split
    · exact ⟨h.2, fun _ => h⟩
    · exact ⟨bot_ne_top, fun h' => absurd h' ‹_›⟩
  have hsd : ∀ hh x, sdOf Q QB (View.readAt (Elt Ideal) arg5.view (Rect.unit (s := S4096x128) (k0_off1 i) S512x128.size (k0_off1_inb i)).toLoadRect X5)
      (View.readAt (Elt Ideal) arg6.view (Rect.unit (s := S4096x128) (k0_off1 i) S512x128.size (k0_off1_inb i)).toLoadRect X6) hh r x ≠ ⊤ := fun hh x => by
    rw [sd_at, at2_block X5 _ (i2_lt i) (off1_eq i), at2_block X6 _ (i2_lt i) (off1_eq i)]
    split
    · exact (fin_dotS _ _ _ _ hh.val hh.isLt (fun _ _ => aQ _ _) (fun _ _ => aQB _ _) (fun _ _ => aK _ _) (fun _ _ => aKB _ _)).2
    · exact bot_ne_top
  have hsc : ∀ hh j x, Fin' (scB X5 X6 (qOf (k0_pay436 Q QB) (k0_pay437 Q QB) hh) r j x) := fun hh j x => by
    by_cases hj : j < 8
    · rw [scB_at X5 X6 Q QB hh r x hj]
      exact fin_dotS _ _ _ _ hh.val hh.isLt (fun _ _ => aQ _ _) (fun _ _ => aQB _ _) (fun _ _ => aK _ _) (fun _ _ => aKB _ _)
    · unfold scB; rw [dif_neg hj]; exact fin_coe 0
  obtain ⟨mm, hmm, e⟩ := foxRun_read c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10 f11 f12 f13 f14 f15 f16 r l
    Q QB KM KBM VM _ _ hQ hQB hKM hKBM hVM rfl rfl (fun hh x => (hsm hh x).1) hsd hsc
    (fun hh => firstMax_fin _ _ (fun x => (hsm hh x).1) (hsd hh) ((hsm hh 0).2 (by decide)))
  rw [e, own0, select_ofBool]
  have hac : (across l).val = (l.val + 64) % 128 := by show (l.val + 128 - 64) % 128 = _; omega
  have main : ∀ hh : Fin 2, l.val / 64 = hh.val → Ideal.div
      (totAt X5 X6 X7 Q QB KM KBM VM (View.readAt (Elt Ideal) arg5.view (Rect.unit (s := S4096x128) (k0_off1 i) S512x128.size (k0_off1_inb i)).toLoadRect X5)
      (View.readAt (Elt Ideal) arg6.view (Rect.unit (s := S4096x128) (k0_off1 i) S512x128.size (k0_off1_inb i)).toLoadRect X6) (i 2).val hh r l (mm hh))
      (totAt X5 X6 X7 Q QB KM KBM VM (View.readAt (Elt Ideal) arg5.view (Rect.unit (s := S4096x128) (k0_off1 i) S512x128.size (k0_off1_inb i)).toLoadRect X5)
      (View.readAt (Elt Ideal) arg6.view (Rect.unit (s := S4096x128) (k0_off1 i) S512x128.size (k0_off1_inb i)).toLoadRect X6) (i 2).val hh r (across l) (mm hh))
      = att (scoreOf (at2 Q r.val) (at2 QB r.val) (at2 (arg5.view.read (Elt Ideal) X5 : S4096x128.Idx → EReal))
        (at2 (arg6.view.read (Elt Ideal) X6 : S4096x128.Idx → EReal)) (at2 KM) (at2 KBM) (l.val / 64) (512 * (i 2).val + r.val))
        (fun k => keyAt (at2 (arg7.view.read (Elt Ideal) X7 : S4096x128.Idx → EReal)) (at2 VM) k l.val) := by
    intro hh hl
    have hl' : ¬ (across l).val / 64 = hh.val := by have := hh.isLt; omega
    have hs := fun k => scoreOf_ne_top hh.val hh.isLt (512 * (i 2).val + r.val) k (aQ r.val) (aQB r.val) aK aKB aKM aKBM
    rw [totAt_eq X5 X6 X7 Q QB KM KBM VM _ _ (i2_lt i) (off1_eq i), totAt_eq X5 X6 X7 Q QB KM KBM VM _ _ (i2_lt i) (off1_eq i), hl]
    simp only [if_neg hl', if_true]
    exact att_at _ (fun k => keyAt (at2 (arg7.view.read (Elt Ideal) X7 : S4096x128.Idx → EReal)) (at2 VM) k l.val) (fun k => (hs k).1) ((hs 0).2 (by omega)) (hmm hh)
  by_cases h : l.val < 64
  · rw [if_pos h]; exact main 0 (by show _ = 0; omega)
  · rw [if_neg h]; exact main 1 (by show _ = 1; omega)

end Cert.KernelIdeal.Hand

end
-- ==== Proof.FoxSpec.lean ====
/- The attention both programs compute, entry by entry. -/
module

public import proofs.«01_k».proof.Proof.FoxScore
public import proofs.«01_k».proof.Proof.FoxBlock

@[expose] public section

set_option maxRecDepth 16384

noncomputable section

namespace Cert.Fox

open Idealize.ShloMosaic Idealize.ShloMosaic.TcCoe
open scoped BigOperators

/-- The entry of row `t` and column `q`: the head's scores of the row, and the column's values. -/
def spec (fq qb fk kb fv : Shape.Idx ⟨2, ![32768, 512]⟩ → EReal) (km kbm vm : Shape.Idx ⟨2, ![128, 512]⟩ → EReal) (t q : ℕ) : EReal :=
  att (scoreOf (fun x => at2 fq t (128 * (q / 128) + x)) (fun x => at2 qb t (128 * (q / 128) + x))
      (fun i x => at2 fk (4096 * (t / 4096) + i) (128 * (q / 128) + x)) (fun i x => at2 kb (4096 * (t / 4096) + i) (128 * (q / 128) + x))
      (fun i x => at2 km i (128 * (q / 128) + x)) (fun i x => at2 kbm i (128 * (q / 128) + x)) (q / 64 % 2) (t % 4096))
    (fun k => keyAt (fun i x => at2 fv (4096 * (t / 4096) + i) x) (at2 vm) k q)

theorem at2_mk {a b : ℕ} (A : Shape.Idx ⟨2, ![a, b]⟩ → EReal) (i j : ℕ) (hi : i < a) (hj : j < b) : at2 A i j = A (ix2 ⟨i, hi⟩ ⟨j, hj⟩) :=
  dif_pos ⟨hi, hj⟩

theorem dotS_congr {q q' qb qb' k k' kb kb' : ℕ → EReal} {hh : ℕ} (hhh : hh < 2) (hq : ∀ x < 128, q x = q' x) (hqb : ∀ x < 128, qb x = qb' x)
    (hk : ∀ x < 128, k x = k' x) (hkb : ∀ x < 128, kb x = kb' x) : dotS q qb k kb hh = dotS q' qb' k' kb' hh := by
  unfold dotS
  refine congrArg₂ (· + ·) (Finset.sum_congr rfl fun d _ => ?_) (Finset.sum_congr rfl fun d _ => ?_)
  · rw [hq _ (by omega), hk _ (by omega)]
  · rw [hqb _ (by omega), hkb _ (by omega)]

theorem keyAt_congr {K K' M M' : ℕ → ℕ → EReal} {k x : ℕ} (hk : k < 4112) (hK : ∀ i < 4096, K i x = K' i x) (hM : ∀ i < 128, M i x = M' i x) :
    keyAt K M k x = keyAt K' M' k x := by
  unfold keyAt
  split
  · exact hM _ (by omega)
  · exact hK _ (by omega)

theorem score_congr {q q' qb qb' : ℕ → EReal} {K K' KB KB' KM KM' KBM KBM' : ℕ → ℕ → EReal} {hh row k : ℕ} (hhh : hh < 2) (hk : k < 4112)
    (hq : ∀ x < 128, q x = q' x) (hqb : ∀ x < 128, qb x = qb' x) (hK : ∀ x < 128, ∀ i < 4096, K i x = K' i x) (hKB : ∀ x < 128, ∀ i < 4096, KB i x = KB' i x)
    (hKM : ∀ x < 128, ∀ i < 128, KM i x = KM' i x) (hKBM : ∀ x < 128, ∀ i < 128, KBM i x = KBM' i x) :
    scoreOf q qb K KB KM KBM hh row k = scoreOf q' qb' K' KB' KM' KBM' hh row k := by
  unfold scoreOf
  rw [dotS_congr hhh hq hqb (fun x hx => keyAt_congr hk (hK x hx) (hKM x hx)) (fun x hx => keyAt_congr hk (hKB x hx) (hKBM x hx))]

theorem att_congr {S S' W W' : ℕ → EReal} (hS : ∀ k < 4112, S k = S' k) (hW : ∀ k < 4112, W k = W' k) : att S W = att S' W' := by
  have e : (fun k : Fin 4112 => S k.val) = fun k => S' k.val := funext fun k => hS _ k.isLt
  have e' : (fun k : Fin 4112 => W k.val) = fun k => W' k.val := funext fun k => hW _ k.isLt
  unfold att
  rw [e, e']

end Cert.Fox

end
-- ==== Proof.FoxValue.lean ====
/- What the attention call leaves in its result array: the attention of its arguments. -/
module

public import proofs.«01_k».proof.Proof.FoxFrameIdeal
public import proofs.«01_k».proof.Proof.FoxSpec
public import Idealize.ShloMosaic.Lib.Pipeline.ValueKit
public import Idealize.ShloMosaic.Lib.WholeRead
public import Idealize.ShloMosaic.Lib.Claim

@[expose] public section

set_option maxRecDepth 16384

noncomputable section

namespace Cert.KernelIdeal.FoxVal

open Cert.Fox
open Cert.KernelIdeal.Hand hiding frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block the body leaves, of its eight input blocks, at the place `n` in the third grid axis. -/
def outOf (n : ℕ) (x0 : Vec Ideal S512x128 .bf16) (x1 : Vec Ideal S512x128 .bf16) (x2 : Vec Ideal S4096x128 .bf16) (x3 : Vec Ideal S4096x128 .bf16) (x4 : Vec Ideal S4096x128 .bf16) (x5 : Vec Ideal S128x128 .bf16) (x6 : Vec Ideal S128x128 .bf16) (x7 : Vec Ideal S128x128 .bf16) : Vec Ideal S512x128 .bf16 := fun j =>
  att (scoreOf (at2 (x0 : S512x128.Idx → EReal) (j 0).val) (at2 (x1 : S512x128.Idx → EReal) (j 0).val) (at2 (x2 : S4096x128.Idx → EReal))
      (at2 (x3 : S4096x128.Idx → EReal)) (at2 (x5 : S128x128.Idx → EReal)) (at2 (x6 : S128x128.Idx → EReal)) ((j 1).val / 64) (512 * n + (j 0).val))
    (fun k => keyAt (at2 (x4 : S4096x128.Idx → EReal)) (at2 (x7 : S128x128.Idx → EReal)) k (j 1).val)

theorem read_all {a b : ℕ} {M : Memref sig .tc .vmem ⟨2, ![a, b]⟩ .bf16} (hM : M.IsWhole) (X : Vec Ideal ⟨2, ![a, b]⟩ .bf16) (inb) :
    X = View.readAt (Elt Ideal) M.view (Rect.unit (s := ⟨2, ![a, b]⟩) ![0, 0] ![a, b] inb).toLoadRect (hM.unread X) := by
  funext x
  rw [hM.readAt_unread]
  refine congrArg X ?_
  funext e; apply Fin.ext; fin_cases e <;> simp [Rect.unit]

theorem block_val (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole)
    (x0 : Vec Ideal S512x128 .bf16) (x1 : Vec Ideal S512x128 .bf16) (x2 : Vec Ideal S4096x128 .bf16) (x3 : Vec Ideal S4096x128 .bf16) (x4 : Vec Ideal S4096x128 .bf16) (x5 : Vec Ideal S128x128 .bf16) (x6 : Vec Ideal S128x128 .bf16) (x7 : Vec Ideal S128x128 .bf16) (fQ : ∀ j, Fin' (x0 j : EReal)) (fQB : ∀ j, Fin' (x1 j : EReal)) (fK : ∀ j, Fin' (x2 j : EReal)) (fKB : ∀ j, Fin' (x3 j : EReal)) (fKM : ∀ j, Fin' (x5 j : EReal)) (fKBM : ∀ j, Fin' (x6 j : EReal))
    (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) :
    arg11.view.read (Elt Ideal) (arg11.view.writes (Elt Ideal) f11 ((foxRun (F := Ideal) c i arg3 harg3 arg4 harg4 arg5 harg5 arg6 harg6 arg7 harg7 arg8 harg8 arg9 harg9 arg10 harg10 arg11 harg11 arg12 harg12 arg13 harg13 arg14 harg14 arg15 harg15 arg16 harg16 (harg3.unread x0) (harg4.unread x1) (harg5.unread x2) (harg6.unread x3) (harg7.unread x4) (harg8.unread x5) (harg9.unread x6) (harg10.unread x7)).1 f11 f12 f13 f14 f15 f16)) = outOf (i 2).val x0 x1 x2 x3 x4 x5 x6 x7 := by
  funext j
  obtain ⟨r, l, rfl⟩ : ∃ (r : Fin 512) (l : Fin 128), j = ix2 r l := ⟨j 0, j 1, by funext a; fin_cases a <;> rfl⟩
  refine (block_at c i arg3 harg3 arg4 harg4 arg5 harg5 arg6 harg6 arg7 harg7 arg8 harg8 arg9 harg9 arg10 harg10 arg11 harg11 arg12 harg12 arg13 harg13 arg14 harg14 arg15 harg15 arg16 harg16 (harg3.unread x0) (harg4.unread x1) (harg5.unread x2) (harg6.unread x3) (harg7.unread x4) (harg8.unread x5) (harg9.unread x6) (harg10.unread x7) f11 f12 f13 f14 f15 f16 r l x0 x1 x5 x6 x7 (read_all harg3 x0 _) (read_all harg4 x1 _) (read_all harg8 x5 _) (read_all harg9 x6 _) (read_all harg10 x7 _)
    fQ fQB fKM fKBM (fun j => by rw [harg5.read_unread]; exact fK j) (fun j => by rw [harg6.read_unread]; exact fKB j)).trans ?_
  rw [harg5.read_unread, harg6.read_unread, harg7.read_unread]
  rfl

/-- The body at any buffers, its inputs' holding finite queries and keys. -/
theorem valueRun (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x128 .bf16) (harg11 : arg11.IsWhole) (arg12 : Memref sig .tc .vmem S2x2x512x512 .f32) (harg12 : arg12.IsWhole) (arg13 : Memref sig .tc .vmem S2x2x512x512 .bf16) (harg13 : arg13.IsWhole) (arg14 : Memref sig .tc .vmem S2x512x1 .f32) (harg14 : arg14.IsWhole) (arg15 : Memref sig .tc .vmem S2x512x1 .f32) (harg15 : arg15.IsWhole) (arg16 : Memref sig .tc .vmem S2x512x128 .f32) (harg16 : arg16.IsWhole)
    (x0 : Vec Ideal S512x128 .bf16) (x1 : Vec Ideal S512x128 .bf16) (x2 : Vec Ideal S4096x128 .bf16) (x3 : Vec Ideal S4096x128 .bf16) (x4 : Vec Ideal S4096x128 .bf16) (x5 : Vec Ideal S128x128 .bf16) (x6 : Vec Ideal S128x128 .bf16) (x7 : Vec Ideal S128x128 .bf16) (fQ : ∀ j, Fin' (x0 j : EReal)) (fQB : ∀ j, Fin' (x1 j : EReal)) (fK : ∀ j, Fin' (x2 j : EReal)) (fKB : ∀ j, Fin' (x3 j : EReal)) (fKM : ∀ j, Fin' (x5 j : EReal)) (fKBM : ∀ j, Fin' (x6 j : EReal)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf (i 2).val x0 x1 x2 x3 x4 x5 x6 x7) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) Set.univ (cc0_fox i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10
  have hr := (foxRun (F := Ideal) c i arg3 harg3 arg4 harg4 arg5 harg5 arg6 harg6 arg7 harg7 arg8 harg8 arg9 harg9 arg10 harg10 arg11 harg11 arg12 harg12 arg13 harg13 arg14 harg14 arg15 harg15 arg16 harg16 (harg3.unread x0) (harg4.unread x1) (harg5.unread x2) (harg6.unread x3) (harg7.unread x4) (harg8.unread x5) (harg9.unread x6) (harg10.unread x7)).2 Set.univ f11 f12 f13 f14 f15 f16
  have hv := block_val c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 fQ fQB fK fKB fKM fKBM f11 f12 f13 f14 f15 f16
  have hw := (sep_mono_left (Q := iprop(∀ a, _ -∗ K a)) hr).trans (wp_wand_r frame (wpE (defs₀ (F := Ideal)) Variants.none c none) Set.univ)
  iapply hw
  isplitl [H3 H4 H5 H6 H7 H8 H9 H10 H11 H12 H13 H14 H15 H16]

  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %a
  iintro ⟨H3, H4, H5, H6, H7, H8, H9, H10, H11, ⟨%e12, H12⟩, ⟨%e13, H13⟩, ⟨%e14, H14⟩, ⟨%e15, H15⟩, ⟨%e16, H16⟩⟩
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro; exact hv
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

/-! ## The grid and the blocks -/

theorem idx : ∀ t : Fin cfg0.N, win0_0.index t = ![t.val / 32 * 8 + t.val % 8, t.val / 8 % 4] ∧ win0_1.index t = ![t.val / 32 * 8 + t.val % 8, t.val / 8 % 4]
    ∧ win0_2.index t = ![t.val / 32, t.val / 8 % 4] ∧ win0_3.index t = ![t.val / 32, t.val / 8 % 4] ∧ win0_4.index t = ![t.val / 32, t.val / 8 % 4]
    ∧ win0_5.index t = ![0, t.val / 8 % 4] ∧ win0_6.index t = ![0, t.val / 8 % 4] ∧ win0_7.index t = ![0, t.val / 8 % 4]
    ∧ win0_8.index t = ![t.val / 32 * 8 + t.val % 8, t.val / 8 % 4] ∧ (grid0.coords t 2).val = t.val % 8 :=
  (by decide +kernel : ∀ t : Fin grid0.N, _)

theorem pt (t : Fin cfg0.N) : t.val < 256 := t.isLt

theorem blk_0 (c : Dev nD) (t : Fin cfg0.N) (i x : ℕ) (hi : i < 512) (hx : x < 128) :
    at2 (iblk m c 0 t : Shape.Idx ⟨2, ![512, 128]⟩ → EReal) i x
      = at2 (m ((c : Thread nD τ).loc main_arg0) : Shape.Idx ⟨2, ![32768, 512]⟩ → EReal) (512 * (t.val / 32 * 8 + t.val % 8) + i) (128 * (t.val / 8 % 4) + x) := by
  have ht := pt t
  rw [at2_mk _ i x hi hx, at2_mk _ _ _ (by omega) (by omega)]
  have he : ((cfg0.win 0).blk t).view.emb (ix2 ⟨i, hi⟩ ⟨x, hx⟩) = (ix2 ⟨512 * (t.val / 32 * 8 + t.val % 8) + i, by omega⟩ ⟨128 * (t.val / 8 % 4) + x, by omega⟩ : Shape.Idx ⟨2, ![32768, 512]⟩) := by
    blk_ext [idx t]
  exact congrArg (V m c main_arg0) he

theorem blk_1 (c : Dev nD) (t : Fin cfg0.N) (i x : ℕ) (hi : i < 512) (hx : x < 128) :
    at2 (iblk m c 1 t : Shape.Idx ⟨2, ![512, 128]⟩ → EReal) i x
      = at2 (m ((c : Thread nD τ).loc main_arg1) : Shape.Idx ⟨2, ![32768, 512]⟩ → EReal) (512 * (t.val / 32 * 8 + t.val % 8) + i) (128 * (t.val / 8 % 4) + x) := by
  have ht := pt t
  rw [at2_mk _ i x hi hx, at2_mk _ _ _ (by omega) (by omega)]
  have he : ((cfg0.win 1).blk t).view.emb (ix2 ⟨i, hi⟩ ⟨x, hx⟩) = (ix2 ⟨512 * (t.val / 32 * 8 + t.val % 8) + i, by omega⟩ ⟨128 * (t.val / 8 % 4) + x, by omega⟩ : Shape.Idx ⟨2, ![32768, 512]⟩) := by
    blk_ext [idx t]
  exact congrArg (V m c main_arg1) he

theorem blk_2 (c : Dev nD) (t : Fin cfg0.N) (i x : ℕ) (hi : i < 4096) (hx : x < 128) :
    at2 (iblk m c 2 t : Shape.Idx ⟨2, ![4096, 128]⟩ → EReal) i x
      = at2 (m ((c : Thread nD τ).loc main_arg2) : Shape.Idx ⟨2, ![32768, 512]⟩ → EReal) (4096 * (t.val / 32) + i) (128 * (t.val / 8 % 4) + x) := by
  have ht := pt t
  rw [at2_mk _ i x hi hx, at2_mk _ _ _ (by omega) (by omega)]
  have he : ((cfg0.win 2).blk t).view.emb (ix2 ⟨i, hi⟩ ⟨x, hx⟩) = (ix2 ⟨4096 * (t.val / 32) + i, by omega⟩ ⟨128 * (t.val / 8 % 4) + x, by omega⟩ : Shape.Idx ⟨2, ![32768, 512]⟩) := by
    blk_ext [idx t]
  exact congrArg (V m c main_arg2) he

theorem blk_3 (c : Dev nD) (t : Fin cfg0.N) (i x : ℕ) (hi : i < 4096) (hx : x < 128) :
    at2 (iblk m c 3 t : Shape.Idx ⟨2, ![4096, 128]⟩ → EReal) i x
      = at2 (m ((c : Thread nD τ).loc main_arg3) : Shape.Idx ⟨2, ![32768, 512]⟩ → EReal) (4096 * (t.val / 32) + i) (128 * (t.val / 8 % 4) + x) := by
  have ht := pt t
  rw [at2_mk _ i x hi hx, at2_mk _ _ _ (by omega) (by omega)]
  have he : ((cfg0.win 3).blk t).view.emb (ix2 ⟨i, hi⟩ ⟨x, hx⟩) = (ix2 ⟨4096 * (t.val / 32) + i, by omega⟩ ⟨128 * (t.val / 8 % 4) + x, by omega⟩ : Shape.Idx ⟨2, ![32768, 512]⟩) := by
    blk_ext [idx t]
  exact congrArg (V m c main_arg3) he

theorem blk_4 (c : Dev nD) (t : Fin cfg0.N) (i x : ℕ) (hi : i < 4096) (hx : x < 128) :
    at2 (iblk m c 4 t : Shape.Idx ⟨2, ![4096, 128]⟩ → EReal) i x
      = at2 (m ((c : Thread nD τ).loc main_arg4) : Shape.Idx ⟨2, ![32768, 512]⟩ → EReal) (4096 * (t.val / 32) + i) (128 * (t.val / 8 % 4) + x) := by
  have ht := pt t
  rw [at2_mk _ i x hi hx, at2_mk _ _ _ (by omega) (by omega)]
  have he : ((cfg0.win 4).blk t).view.emb (ix2 ⟨i, hi⟩ ⟨x, hx⟩) = (ix2 ⟨4096 * (t.val / 32) + i, by omega⟩ ⟨128 * (t.val / 8 % 4) + x, by omega⟩ : Shape.Idx ⟨2, ![32768, 512]⟩) := by
    blk_ext [idx t]
  exact congrArg (V m c main_arg4) he

theorem blk_5 (c : Dev nD) (t : Fin cfg0.N) (i x : ℕ) (hi : i < 128) (hx : x < 128) :
    at2 (iblk m c 5 t : Shape.Idx ⟨2, ![128, 128]⟩ → EReal) i x
      = at2 (m ((c : Thread nD τ).loc main_arg5) : Shape.Idx ⟨2, ![128, 512]⟩ → EReal) (0 + i) (128 * (t.val / 8 % 4) + x) := by
  have ht := pt t
  rw [at2_mk _ i x hi hx, at2_mk _ _ _ (by omega) (by omega)]
  have he : ((cfg0.win 5).blk t).view.emb (ix2 ⟨i, hi⟩ ⟨x, hx⟩) = (ix2 ⟨0 + i, by omega⟩ ⟨128 * (t.val / 8 % 4) + x, by omega⟩ : Shape.Idx ⟨2, ![128, 512]⟩) := by
    blk_ext [idx t]
  exact congrArg (V m c main_arg5) he

theorem blk_6 (c : Dev nD) (t : Fin cfg0.N) (i x : ℕ) (hi : i < 128) (hx : x < 128) :
    at2 (iblk m c 6 t : Shape.Idx ⟨2, ![128, 128]⟩ → EReal) i x
      = at2 (m ((c : Thread nD τ).loc main_arg6) : Shape.Idx ⟨2, ![128, 512]⟩ → EReal) (0 + i) (128 * (t.val / 8 % 4) + x) := by
  have ht := pt t
  rw [at2_mk _ i x hi hx, at2_mk _ _ _ (by omega) (by omega)]
  have he : ((cfg0.win 6).blk t).view.emb (ix2 ⟨i, hi⟩ ⟨x, hx⟩) = (ix2 ⟨0 + i, by omega⟩ ⟨128 * (t.val / 8 % 4) + x, by omega⟩ : Shape.Idx ⟨2, ![128, 512]⟩) := by
    blk_ext [idx t]
  exact congrArg (V m c main_arg6) he

theorem blk_7 (c : Dev nD) (t : Fin cfg0.N) (i x : ℕ) (hi : i < 128) (hx : x < 128) :
    at2 (iblk m c 7 t : Shape.Idx ⟨2, ![128, 128]⟩ → EReal) i x
      = at2 (m ((c : Thread nD τ).loc main_arg7) : Shape.Idx ⟨2, ![128, 512]⟩ → EReal) (0 + i) (128 * (t.val / 8 % 4) + x) := by
  have ht := pt t
  rw [at2_mk _ i x hi hx, at2_mk _ _ _ (by omega) (by omega)]
  have he : ((cfg0.win 7).blk t).view.emb (ix2 ⟨i, hi⟩ ⟨x, hx⟩) = (ix2 ⟨0 + i, by omega⟩ ⟨128 * (t.val / 8 % 4) + x, by omega⟩ : Shape.Idx ⟨2, ![128, 512]⟩) := by
    blk_ext [idx t]
  exact congrArg (V m c main_arg7) he

/-- The whole result. -/
def G (c : Dev nD) : Shape.Idx ⟨2, ![32768, 512]⟩ → EReal := fun j =>
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (j 0).val (j 1).val

def outAt (c : Dev nD) (t : Fin cfg0.N) : Vec Ideal S512x128 .bf16 :=
  outOf (grid0.coords t 2).val (iblk m c 0 t) (iblk m c 1 t) (iblk m c 2 t) (iblk m c 3 t) (iblk m c 4 t) (iblk m c 5 t) (iblk m c 6 t) (iblk m c 7 t)

theorem outAt_at (c : Dev nD) (t : Fin cfg0.N) (r : Fin 512) (l : Fin 128) :
    (outAt m c t (ix2 r l) : EReal) = G m c (ix2 ⟨512 * (t.val / 32 * 8 + t.val % 8) + r.val, by have := pt t; omega⟩ ⟨128 * (t.val / 8 % 4) + l.val, by omega⟩) := by
  have ht := pt t
  have hl := l.isLt
  have hr := r.isLt
  have hi : (grid0.coords t 2).val = t.val % 8 := (idx t).2.2.2.2.2.2.2.2.2
  have e1 : (512 * (t.val / 32 * 8 + t.val % 8) + r.val) / 4096 = t.val / 32 := by omega
  have e2 : (512 * (t.val / 32 * 8 + t.val % 8) + r.val) % 4096 = 512 * (t.val % 8) + r.val := by omega
  have e3 : (128 * (t.val / 8 % 4) + l.val) / 128 = t.val / 8 % 4 := by omega
  have e4 : (128 * (t.val / 8 % 4) + l.val) / 64 % 2 = l.val / 64 := by omega
  show att (scoreOf (at2 (iblk m c 0 t : S512x128.Idx → EReal) r.val) (at2 (iblk m c 1 t : S512x128.Idx → EReal) r.val) (at2 (iblk m c 2 t : S4096x128.Idx → EReal))
      (at2 (iblk m c 3 t : S4096x128.Idx → EReal)) (at2 (iblk m c 5 t : S128x128.Idx → EReal)) (at2 (iblk m c 6 t : S128x128.Idx → EReal)) (l.val / 64) (512 * (grid0.coords t 2).val + r.val))
    (fun k => keyAt (at2 (iblk m c 4 t : S4096x128.Idx → EReal)) (at2 (iblk m c 7 t : S128x128.Idx → EReal)) k l.val)
    = spec _ _ _ _ _ _ _ _ (512 * (t.val / 32 * 8 + t.val % 8) + r.val) (128 * (t.val / 8 % 4) + l.val)
  unfold spec
  rw [e1, e2, e3, e4, hi]
  refine att_congr (fun k hk => score_congr (by omega) hk (fun x hx => blk_0 m c t _ x hr hx) (fun x hx => blk_1 m c t _ x hr hx)
    (fun x hx i hi => blk_2 m c t i x hi hx) (fun x hx i hi => blk_3 m c t i x hi hx)
    (fun x hx i hi => (blk_5 m c t i x hi hx).trans (by rw [Nat.zero_add])) (fun x hx i hi => (blk_6 m c t i x hi hx).trans (by rw [Nat.zero_add]))) (fun k hk => ?_)
  unfold keyAt
  split
  · exact (blk_7 m c t k l.val (by omega) hl).trans (by rw [Nat.zero_add])
  · exact blk_4 m c t (k - 16) l.val (by omega) hl

/-! ## The proof data, the body and the launch -/

def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem vA_eq (c : Dev nD) (w : Fin cfg0.W) : (vdats m 0 c).A w = V m c (Pipeline.arrRef spec0 w) := by dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = iblk m c 7 t := by dsimp only [vdats]
theorem vafter_8 (c : Dev nD) (t : Fin cfg0.N) : (vdats m 0 c).after 8 t = outAt m c t := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d
theorem vbefore_7 (c : Dev nD) (t : Fin cfg0.N) (d) : (vdats m 0 c).before 7 t d = iblk m c 7 t :=
  before0_7_of m (vdats m 0 c) (vA_eq m c 7) (vafter_7 m c) t d

/-- What the body is called with at point `t`, the windows one by one, -/
def vPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d)))

/-- and what it returns. -/
def vPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t)
    ∗ owns (c : Thread nD τ) (st0_8 t) fullShare ((vdats m 0 c).after 8 t))

/-- The queries and keys are finite. -/
def FinArgs (c : Dev nD) : Prop :=
  (∀ j, Fin' (m ((c : Thread nD τ).loc main_arg0) j : EReal)) ∧ (∀ j, Fin' (m ((c : Thread nD τ).loc main_arg1) j : EReal)) ∧ (∀ j, Fin' (m ((c : Thread nD τ).loc main_arg2) j : EReal))
  ∧ (∀ j, Fin' (m ((c : Thread nD τ).loc main_arg3) j : EReal)) ∧ (∀ j, Fin' (m ((c : Thread nD τ).loc main_arg5) j : EReal)) ∧ (∀ j, Fin' (m ((c : Thread nD τ).loc main_arg6) j : EReal))

variable (hF : ∀ c, FinArgs m c)
include hF

set_option maxHeartbeats 800000 in
theorem vsound (c : Dev nD) (t : Fin cfg0.N) :
    vPre m c t ⊢ wp frame (wpE (defs₀ (F := Ideal)) Variants.none c none) Set.univ (bodyAt0 t) (fun _ => vPost m c t) := by
  obtain ⟨F0, F1, F2, F3, F5, F6⟩ := hF c
  unfold vPre vPost bodyAt0
  simp only [vbefore_0, vbefore_1, vbefore_2, vbefore_3, vbefore_4, vbefore_5, vbefore_6, vbefore_7]
  rw [show (vdats m 0 c).Φ t.succ = (vdats m 0 c).Φ t.castSucc from rfl,
    show (vdats m 0 c).owesAt () t.succ = (vdats m 0 c).owesAt () t.castSucc from rfl,
    vafter_0, vafter_1, vafter_2, vafter_3, vafter_4, vafter_5, vafter_6, vafter_7, vafter_8]
  rw [show (vdats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (valueRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    (fun j => F0 _) (fun j => F1 _) (fun j => F2 _) (fun j => F3 _) (fun j => F5 _) (fun j => F6 _) _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem vbody (c : Dev nD) : BodyObligation (vdats m 0 c) (defs₀ (F := Ideal)) Variants.none () Set.univ := fun t => by
  rw [bigSep_W0, bigSep_W0, defs₀_row]
  exact triple_restated (vsound m hF c t) rfl .rfl fun _ => .rfl

set_option backward.isDefEq.respectTransparency.types false in
theorem vrun : θ_run defs (onTc (τ := τ) (main (F := Ideal))) (s₀ m ρ) (Pipeline.FramePost cfgs (vdats m) 0 (V m)) :=
  Pipeline.θ_run_frame cfgs (vdats m) (0 : Fin 1) launch0 defs₀ Variants.none m ρ main
    (hbody := fun c => (vbody m hF c).loose) (hshare := fun c => (vdats m 0 c).share_full fun _ => rfl)
    (howed := fun _ _ => rfl) (V := V m) (hmain := hmain m Variants.none) (hA := vA_eq m) (hΦ := fun _ _ => rfl)

omit hF in
theorem final (c : Dev nD) : (vdats m 0 c).arrAt 8 cfg0.N = G m c := by
  refine (vdats m 0 c).arrAt_eq_of_covers 8 _ (by decide +kernel) fun t _ y => ?_
  blk_simp
  obtain ⟨r, l, rfl⟩ : ∃ (r : Fin 512) (l : Fin 128), y = ix2 r l := ⟨y 0, y 1, by funext a; fin_cases a <;> rfl⟩
  rw [vafter_8]
  refine (outAt_at m c t r l).trans ?_
  have he : ((cfg0.win 8).blk t).view.emb (ix2 r l) = (ix2 ⟨512 * (t.val / 32 * 8 + t.val % 8) + r.val, by have := pt t; omega⟩ ⟨128 * (t.val / 8 % 4) + l.val, by omega⟩ : S32768x512.Idx) := by
    blk_ext [idx t]
  exact (congrArg (G m c) he).symm

theorem value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(Pipeline.FramePost.out_eq h c 8).trans (final m c), (Pipeline.FramePost.in_eq h c 0 rfl).trans (vA_eq m c 0), (Pipeline.FramePost.in_eq h c 1 rfl).trans (vA_eq m c 1), (Pipeline.FramePost.in_eq h c 2 rfl).trans (vA_eq m c 2), (Pipeline.FramePost.in_eq h c 3 rfl).trans (vA_eq m c 3), (Pipeline.FramePost.in_eq h c 4 rfl).trans (vA_eq m c 4), (Pipeline.FramePost.in_eq h c 5 rfl).trans (vA_eq m c 5), (Pipeline.FramePost.in_eq h c 6 rfl).trans (vA_eq m c 6), (Pipeline.FramePost.in_eq h c 7 rfl).trans (vA_eq m c 7)⟩) (vrun m ρ hF)

end Cert.KernelIdeal.FoxVal

end
-- ==== Proof.FoxRef.lean ====
/- The reference's attention, stage by stage, each read at an index. -/
module

public import proofs.«01_k».proof.Proof.Gen.ReferenceIdeal.Run
public import proofs.«01_k».proof.Proof.FoxMath
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Fox
open Idealize.ShloMosaic Idealize.ShloMosaic.TcCoe Idealize.ShloMosaic.Tactic
open scoped BigOperators

/-- The sixteen meta rows of a batch, then its own rows. -/
def rK (A : FVec Ideal S32768x512 .bf16) (M : FVec Ideal S128x512 .bf16) : FVec Ideal S8x4112x512 .f32 :=
  concatenate S8x4112x512 1 [⟨S8x16x512, (broadcastInDim S8x16x512 ![0, 1, 2] bcast_S1x16x512_S8x16x512_0_1_2 (extf .f32 (broadcastInDim S1x16x512 ![1, 2] bcast_S16x512_S1x16x512_1_2 (extractStridedSlice S16x512 ![0, 0] M slices_S128x512_S16x512_0_0)) bitsLt_bf16_f32))⟩, ⟨S8x4096x512, (shapeCast _ (extf .f32 A bitsLt_bf16_f32) shapeCasts_S32768x512_S8x4096x512)⟩] concatenates_S8x16x512_S8x4096x512_S8x4112x512_d1

/-- The scores before the mask. -/
def rS (fq qb : FVec Ideal S32768x512 .bf16) (K KB : FVec Ideal S8x4112x512 .f32) : FVec Ideal S8x8x4096x4112 .f32 :=
  addf (Host.dotGeneral dot_S8x4096x8x64_S8x4112x8x64_S8x8x4096x4112_3_3_1_1_02_02 none (shapeCast _ (extf .f32 fq bitsLt_bf16_f32) shapeCasts_S32768x512_S8x4096x8x64) (shapeCast _ K shapeCasts_S8x4112x512_S8x4112x8x64))
    (Host.dotGeneral dot_S8x4096x8x8_S8x4112x8x8_S8x8x4096x4112_3_3_1_1_02_02 none (shapeCast _ (extractStridedSlice S8x4096x4x16 ![0, 0, 0, 0] (shapeCast _ (extf .f32 qb bitsLt_bf16_f32) shapeCasts_S32768x512_S8x4096x4x128) slices_S8x4096x4x128_S8x4096x4x16_0_0_0_0) shapeCasts_S8x4096x4x16_S8x4096x8x8) (shapeCast _ (extractStridedSlice S8x4112x4x16 ![0, 0, 0, 0] (shapeCast _ KB shapeCasts_S8x4112x512_S8x4112x4x128) slices_S8x4112x4x128_S8x4112x4x16_0_0_0_0) shapeCasts_S8x4112x4x16_S8x4112x8x8))

/-- The scores after the mask, in natural units. -/
def rM (s : FVec Ideal S8x8x4096x4112 .f32) : FVec Ideal S8x8x4096x4112 .f32 :=
  mulf (select (broadcastInDim S8x8x4096x4112 ![2, 3] bcast_S4096x4112_S8x8x4096x4112_2_3 (cmpi .sge (broadcastInDim S4096x4112 ![0, 1] bcast_S4096x1_S4096x4112_0_1 (broadcastInDim S4096x1 ![0] bcast_S4096_S4096x1_0 (addi (broadcastInDim S4096 ![] bcast_S_S4096 (constantI S_ 32 16#32)) (iotaInDim S4096 32 0)))) (broadcastInDim S4096x4112 ![0, 1] bcast_S1x4112_S4096x4112_0_1 (broadcastInDim S1x4112 ![1] bcast_S4112_S1x4112_1 (iotaInDim S4112 32 0))))) s
    (broadcastInDim S8x8x4096x4112 ![] bcast_S_S8x8x4096x4112 (id (constant S_ .f32 0xFF800000#32)))) (broadcastInDim S8x8x4096x4112 ![] bcast_S_S8x8x4096x4112 (Host.log (constant S_ .f32 0x40000000#32)))

/-- A row's largest score. -/
def rX (s : FVec Ideal S8x8x4096x4112 .f32) : FVec Ideal S8x8x4096 .f32 :=
  maximumf (broadcastInDim S8x8x4096 ![] bcast_S_S8x8x4096 (constant S_ .f32 0xFF800000#32)) (Host.reduce FloatOps.maximumf s (constant S_ .f32 0xFF800000#32) reducesTo_S8x8x4096x4112_S8x8x4096_d3 h_S_)

/-- The powers of e of the scores under a row's bound. -/
def rE (s : FVec Ideal S8x8x4096x4112 .f32) (x : FVec Ideal S8x8x4096 .f32) : FVec Ideal S8x8x4096x4112 .f32 :=
  Host.exp (subf s (broadcastInDim S8x8x4096x4112 ![0, 1, 2, 3] bcast_S8x8x4096x1_S8x8x4096x4112_0_1_2_3 (broadcastInDim S8x8x4096x1 ![0, 1, 2] bcast_S8x8x4096_S8x8x4096x1_0_1_2 x)))

/-- Each of them over the row's sum. -/
def rP (e : FVec Ideal S8x8x4096x4112 .f32) : FVec Ideal S8x8x4096x4112 .f32 :=
  Host.divf e (broadcastInDim S8x8x4096x4112 ![0, 1, 2, 3] bcast_S8x8x4096x1_S8x8x4096x4112_0_1_2_3 (broadcastInDim S8x8x4096x1 ![0, 1, 2] bcast_S8x8x4096_S8x8x4096x1_0_1_2 (Host.reduceAdd e (constant S_ .f32 0x00000000#32) reducesTo_S8x8x4096x4112_S8x8x4096_d3 h_S_)))

/-- The weighted values. -/
def rO (V : FVec Ideal S8x4112x512 .f32) (p : FVec Ideal S8x8x4096x4112 .f32) : FVec Ideal S32768x512 .bf16 :=
  truncf .bf16 (shapeCast _ (transpose S8x4096x8x64 [0, 3, 1, 2] (Host.dotGeneral dot_S8x4112x8x64_S8x8x4096x4112_S8x8x64x4096_1_3_3_2_02_01 none (shapeCast _ V shapeCasts_S8x4112x512_S8x4112x8x64) p) transposes_S8x8x64x4096_S8x4096x8x64_0_3_1_2) shapeCasts_S8x4096x8x64_S32768x512) bitsLt_bf16_f32

theorem res_eq (m : (ℓ : Loc nD τ sig) → Buf (Elt Ideal) ℓ) (c : Dev nD) :
    res_main_v62 (F := Ideal) m c = rO (rK (m ((c.tc : Thread nD τ).loc main_arg4)) (m ((c.tc : Thread nD τ).loc main_arg7)))
      (rP (rE (rM (rS (m ((c.tc : Thread nD τ).loc main_arg0)) (m ((c.tc : Thread nD τ).loc main_arg1))
          (rK (m ((c.tc : Thread nD τ).loc main_arg2)) (m ((c.tc : Thread nD τ).loc main_arg5)))
          (rK (m ((c.tc : Thread nD τ).loc main_arg3)) (m ((c.tc : Thread nD τ).loc main_arg6)))))
        (rX (rM (rS (m ((c.tc : Thread nD τ).loc main_arg0)) (m ((c.tc : Thread nD τ).loc main_arg1))
          (rK (m ((c.tc : Thread nD τ).loc main_arg2)) (m ((c.tc : Thread nD τ).loc main_arg5)))
          (rK (m ((c.tc : Thread nD τ).loc main_arg3)) (m ((c.tc : Thread nD τ).loc main_arg6)))))))) := by
  unfold res_main_v62 rO rP rE rX rM rS rK
  rfl

theorem rK_at (A : FVec Ideal S32768x512 .bf16) (M : FVec Ideal S128x512 .bf16) (b : Fin 8) (k : Fin 4112) (q : Fin 512) :
    (rK A M (ix3 b k q) : EReal) = if h : k.val < 16 then M (ix2 ⟨k.val, by omega⟩ q) else A (ix2 ⟨b.val * 4096 + (k.val - 16), by omega⟩ q) := by
  unfold rK; pointwise []

theorem rS_at (fq qb : FVec Ideal S32768x512 .bf16) (K KB : FVec Ideal S8x4112x512 .f32) (b h : Fin 8) (q : Fin 4096) (k : Fin 4112) :
    (rS fq qb K KB (ix4 b h q k) : EReal) = (∑ x : Fin 64, (fq (ix2 ⟨b.val * 4096 + q.val, by omega⟩ ⟨h.val * 64 + x.val, by omega⟩) : EReal) * K (ix3 b k ⟨h.val * 64 + x.val, by omega⟩))
      + ∑ x : Fin 8, (qb (ix2 ⟨b.val * 4096 + q.val, by omega⟩ ⟨h.val / 2 * 128 + (h.val % 2 * 8 + x.val), by omega⟩) : EReal) * KB (ix3 b k ⟨h.val / 2 * 128 + (h.val % 2 * 8 + x.val), by omega⟩) := by
  unfold rS; pointwise []

theorem rM_at (s : FVec Ideal S8x8x4096x4112 .f32) (b h : Fin 8) (q : Fin 4096) (k : Fin 4112) :
    (rM s (ix4 b h q k) : EReal) = Scalar.select (IntOp.cmpi CmpIPredicate.sge (IntOp.addi (16#32) (BitVec.ofNat 32 q.val)) (BitVec.ofNat 32 k.val))
        (s (ix4 b h q k)) (Ideal.ofBits FTy.f32 4286578688#32) * Ideal.log (Ideal.ofBits FTy.f32 1073741824#32) := by
  unfold rM; pointwise []; rfl

theorem rE_at (s : FVec Ideal S8x8x4096x4112 .f32) (x : FVec Ideal S8x8x4096 .f32) (b h : Fin 8) (q : Fin 4096) (k : Fin 4112) :
    (rE s x (ix4 b h q k) : EReal) = Ideal.exp (s (ix4 b h q k) - x (ix3 b h q)) := by
  unfold rE; pointwise []

theorem rP_at (e : FVec Ideal S8x8x4096x4112 .f32) (b h : Fin 8) (q : Fin 4096) (k : Fin 4112) :
    (rP e (ix4 b h q k) : EReal) = Ideal.div (e (ix4 b h q k)) (∑ x : Fin 4112, (e (ix4 b h q x) : EReal)) := by
  unfold rP; pointwise []

theorem rO_at (V : FVec Ideal S8x4112x512 .f32) (p : FVec Ideal S8x8x4096x4112 .f32) (t : Fin 32768) (q : Fin 512) :
    (rO V p (ix2 t q) : EReal) = ∑ x : Fin 4112, (V (ix3 ⟨t.val / 4096, by omega⟩ x q) : EReal) * p (ix4 ⟨t.val / 4096, by omega⟩ ⟨q.val / 64, by omega⟩ ⟨t.val % 4096, by omega⟩ x) := by
  unfold rO; pointwise []

end Cert.ReferenceIdeal.Hand

end
-- ==== Proof.FoxMax.lean ====
/- The reference's attention, whose largest scores are finite. -/
module

public import proofs.«01_k».proof.Proof.FoxRef
public import proofs.«01_k».proof.Proof.FoxMath
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Fox
open Idealize.ShloMosaic Idealize.ShloMosaic.TcCoe Idealize.ShloMosaic.Tactic
open scoped BigOperators

theorem bits_bot : Ideal.ofBits FTy.f32 4286578688#32 = (⊥ : EReal) := by
  norm_num [Ideal.ofBits, Ideal.ieee]
  rw [if_pos (by decide), if_pos (by decide)]

/-- A maximum over an axis is finite when one entry is and none is infinite. -/
theorem red_fin {s t u : Shape} {axes : List (Fin s.rank)} (x : FVec Ideal s .f32) (init : FVec Ideal u .f32) (h : s.ReducesTo axes t)
    (hu : 0 < u.numel) (j : t.Idx) (hi : ∀ i, (init i : EReal) = ⊥) (hx : ∀ i, (x i : EReal) ≠ ⊤) (i0 : s.Idx) (hd : h.drop i0 = j) (h0 : (x i0 : EReal) ≠ ⊥) :
    Fin' (max (⊥ : EReal) (Host.reduce (FloatOps.maximumf : Ideal .f32 → Ideal .f32 → Ideal .f32) x init h hu j)) := by
  rw [max_eq_right bot_le]
  have e : Host.reduce (FloatOps.maximumf : Ideal .f32 → Ideal .f32 → Ideal .f32) x init h hu j = (Finset.univ.filter fun i => h.drop i = j).fold (max : EReal → EReal → EReal) ⊥ x := by
    rw [← hi (Shape.Idx.first hu)]
    exact Host.reduce_eq_fold (max : EReal → EReal → EReal) x init h hu j
  rw [e]
  constructor
  · refine ne_of_gt (lt_of_lt_of_le (bot_lt_iff_ne_bot.mpr h0) ?_)
    exact (Finset.le_fold_max _).mpr (Or.inr ⟨i0, Finset.mem_filter.mpr ⟨Finset.mem_univ _, hd⟩, le_rfl⟩)
  · exact ne_of_lt ((Finset.fold_max_lt _).mpr ⟨bot_lt_top, fun x' _ => lt_top_iff_ne_top.mpr (hx x')⟩)

theorem max_at {s : Shape} (a b : FVec Ideal s .f32) (j : s.Idx) : (maximumf a b j : EReal) = max (a j : EReal) (b j) := rfl

theorem bc_at {s : Shape} (f) (h : S_.BroadcastsInDim s f) (j : s.Idx) :
    (broadcastInDim s f h (constant (F := Ideal) S_ .f32 0xFF800000#32) j : EReal) = ⊥ := bits_bot

theorem drop_at {a b c d : ℕ} (h : (⟨4, ![a, b, c, d]⟩ : Shape).ReducesTo [3] ⟨3, ![a, b, c]⟩) (x : Fin a) (y : Fin b) (z : Fin c) (w : Fin d) :
    h.drop (ix4 x y z w) = ix3 x y z := by
  funext e; fin_cases e <;> rfl

theorem rX_fin (s : FVec Ideal S8x8x4096x4112 .f32) (b h : Fin 8) (q : Fin 4096) (hx : ∀ i, (s i : EReal) ≠ ⊤) (h0 : (s (ix4 b h q 0) : EReal) ≠ ⊥) :
    Fin' (rX s (ix3 b h q)) := by
  unfold rX
  rw [max_at, bc_at]
  exact red_fin s _ _ _ _ (fun i => bits_bot) hx (ix4 b h q 0) (drop_at _ _ _ _ _) h0

end Cert.ReferenceIdeal.Hand

end
-- ==== Proof.FoxRefVal.lean ====
/- The reference's attention is the one both programs compute. -/
module

public import proofs.«01_k».proof.Proof.FoxMax
public import proofs.«01_k».proof.Proof.FoxSpec

@[expose] public section

set_option maxRecDepth 16384

noncomputable section

namespace Cert.ReferenceIdeal.Hand

open Cert.ReferenceIdeal Cert.ReferenceIdeal.Gen Cert.ReferenceIdeal.Value Cert.Fox
open Idealize.ShloMosaic Idealize.ShloMosaic.TcCoe Idealize.ShloMosaic.Tactic Idealize.ShloMosaic.WordCmp
open scoped BigOperators

theorem log_two : Ideal.log (Ideal.ofBits FTy.f32 1073741824#32) = ((Real.log 2 : ℝ) : EReal) := by
  have e : Ideal.ofBits FTy.f32 1073741824#32 = ((2 : ℝ) : EReal) := by
    have h1 : (1073741824 >>> 23 % 256 : ℕ) = 128 := by decide
    have h2 : BitVec.extractLsb' 31 1 1073741824#32 = 0#1 := by decide
    norm_num [Ideal.ofBits, Ideal.ieee, h1, h2]
  rw [e]
  show (if (2 : ℝ) ≤ 0 then (⊥ : EReal) else (Real.log 2 : EReal)) = _
  rw [if_neg (by norm_num)]

theorem log_pos : 0 < Real.log 2 := Real.log_pos (by norm_num)

theorem bot_log : (⊥ : EReal) * ((Real.log 2 : ℝ) : EReal) = ⊥ := EReal.bot_mul_coe_of_pos log_pos

/-- A power of the base of the natural logarithm, as a power of two. -/
theorem exp_ex2 {s : EReal} (hs : s ≠ ⊤) (M : ℝ) :
    Ideal.exp (s * ((Real.log 2 : ℝ) : EReal) - (M : EReal)) = ex2 (s - ((M / Real.log 2 : ℝ) : EReal)) := by
  induction s with
  | bot => rw [bot_log, EReal.bot_sub, EReal.bot_sub, ex2_bot]; rfl
  | coe a =>
    rw [← EReal.coe_mul, ← EReal.coe_sub, ← EReal.coe_sub, ex2_coe]
    show ((Real.exp _ : ℝ) : EReal) = _
    rw [Real.rpow_def_of_pos (by norm_num)]
    congr 2
    have := log_pos.ne'
    field_simp
  | top => exact absurd rfl hs

theorem rK_key (A : FVec Ideal S32768x512 .bf16) (M : FVec Ideal S128x512 .bf16) (b : Fin 8) (k : Fin 4112) (q : Fin 512) (c0 x : ℕ) (h : q.val = c0 + x) :
    (rK A M (ix3 b k q) : EReal) = keyAt (fun i x => at2 (A : S32768x512.Idx → EReal) (4096 * b.val + i) (c0 + x)) (fun i x => at2 (M : S128x512.Idx → EReal) i (c0 + x)) k.val x := by
  rw [rK_at]
  unfold keyAt
  have hq := q.isLt
  have hk := k.isLt
  by_cases h' : k.val < 16
  · rw [dif_pos h', if_pos h']
    refine Eq.trans ?_ (at2_mk (M : S128x512.Idx → EReal) k.val (c0 + x) (by omega) (by omega)).symm
    exact congrArg (fun z : Fin 512 => (M (ix2 ⟨k.val, by omega⟩ z) : EReal)) (Fin.ext h)
  · rw [dif_neg h', if_neg h']
    refine Eq.trans ?_ (at2_mk (A : S32768x512.Idx → EReal) (4096 * b.val + (k.val - 16)) (c0 + x) (by omega) (by omega)).symm
    exact congrArg₂ (fun y z => (A (ix2 y z) : EReal)) (Fin.ext (by show b.val * 4096 + (k.val - 16) = 4096 * b.val + (k.val - 16); omega)) (Fin.ext h)

variable (fq qb fk kb : FVec Ideal S32768x512 .bf16) (km kbm : FVec Ideal S128x512 .bf16)

/-- The scores of the row `(b, q)` in head `h`. -/
def sc (b h q : ℕ) : ℕ → EReal :=
  scoreOf (fun x => at2 (fq : S32768x512.Idx → EReal) (4096 * b + q) (128 * (h / 2) + x)) (fun x => at2 (qb : S32768x512.Idx → EReal) (4096 * b + q) (128 * (h / 2) + x))
    (fun i x => at2 (fk : S32768x512.Idx → EReal) (4096 * b + i) (128 * (h / 2) + x)) (fun i x => at2 (kb : S32768x512.Idx → EReal) (4096 * b + i) (128 * (h / 2) + x))
    (fun i x => at2 (km : S128x512.Idx → EReal) i (128 * (h / 2) + x)) (fun i x => at2 (kbm : S128x512.Idx → EReal) i (128 * (h / 2) + x)) (h % 2) q

theorem rS_dot (b h : Fin 8) (q : Fin 4096) (k : Fin 4112) :
    (rS fq qb (rK fk km) (rK kb kbm) (ix4 b h q k) : EReal)
      = dotS (fun x => at2 (fq : S32768x512.Idx → EReal) (4096 * b.val + q.val) (128 * (h.val / 2) + x)) (fun x => at2 (qb : S32768x512.Idx → EReal) (4096 * b.val + q.val) (128 * (h.val / 2) + x))
        (keyAt (fun i x => at2 (fk : S32768x512.Idx → EReal) (4096 * b.val + i) (128 * (h.val / 2) + x)) (fun i x => at2 (km : S128x512.Idx → EReal) i (128 * (h.val / 2) + x)) k.val)
        (keyAt (fun i x => at2 (kb : S32768x512.Idx → EReal) (4096 * b.val + i) (128 * (h.val / 2) + x)) (fun i x => at2 (kbm : S128x512.Idx → EReal) i (128 * (h.val / 2) + x)) k.val) (h.val % 2) := by
  have hb := b.isLt
  have hh := h.isLt
  have hq := q.isLt
  rw [rS_at]
  unfold dotS
  refine congrArg₂ (· + ·) (Finset.sum_congr rfl fun d _ => ?_) (Finset.sum_congr rfl fun d _ => ?_)
  · have hd := d.isLt
    refine congrArg₂ (· * ·) ?_ (rK_key fk km b k _ _ _ (by show h.val * 64 + d.val = _; omega))
    refine Eq.trans ?_ (at2_mk (fq : S32768x512.Idx → EReal) _ _ (by omega) (by omega)).symm
    exact congrArg₂ (fun y z => (fq (ix2 y z) : EReal)) (Fin.ext (by show b.val * 4096 + q.val = 4096 * b.val + q.val; omega)) (Fin.ext (by show h.val * 64 + d.val = 128 * (h.val / 2) + (64 * (h.val % 2) + d.val); omega))
  · have hd := d.isLt
    refine congrArg₂ (· * ·) ?_ (rK_key kb kbm b k _ _ _ (by show h.val / 2 * 128 + (h.val % 2 * 8 + d.val) = _; omega))
    refine Eq.trans ?_ (at2_mk (qb : S32768x512.Idx → EReal) _ _ (by omega) (by omega)).symm
    exact congrArg₂ (fun y z => (qb (ix2 y z) : EReal)) (Fin.ext (by show b.val * 4096 + q.val = 4096 * b.val + q.val; omega)) (Fin.ext (by show h.val / 2 * 128 + (h.val % 2 * 8 + d.val) = 128 * (h.val / 2) + (8 * (h.val % 2) + d.val); omega))

theorem rM_sc (b h : Fin 8) (q : Fin 4096) (k : Fin 4112) :
    (rM (rS fq qb (rK fk km) (rK kb kbm)) (ix4 b h q k) : EReal) = sc fq qb fk kb km kbm b.val h.val q.val k.val * ((Real.log 2 : ℝ) : EReal) := by
  have hq := q.isLt
  have hk := k.isLt
  have e : IntOp.addi (16#32) (BitVec.ofNat 32 q.val) = BitVec.ofNat 32 (16 + q.val) := by
    show 16#32 + BitVec.ofNat 32 q.val = _
    rw [← BitVec.ofNat_add]
  rw [rM_at, log_two, bits_bot, e, cmpi_sge_ofNat (by omega) (by omega), select_ofBool, rS_dot]
  unfold sc scoreOf
  simp only [ge_iff_le, decide_eq_true_eq]

variable (hfq : ∀ j, Fin' (fq j : EReal)) (hqb : ∀ j, Fin' (qb j : EReal)) (hfk : ∀ j, Fin' (fk j : EReal)) (hkb : ∀ j, Fin' (kb j : EReal))
  (hkm : ∀ j, Fin' (km j : EReal)) (hkbm : ∀ j, Fin' (kbm j : EReal))
include hfq hqb hfk hkb hkm hkbm

theorem sc_fin (b h q k : ℕ) : sc fq qb fk kb km kbm b h q k ≠ ⊤ ∧ (k ≤ 16 + q → Fin' (sc fq qb fk kb km kbm b h q k)) :=
  Cert.KernelIdeal.Hand.scoreOf_ne_top (h % 2) (Nat.mod_lt _ (by omega)) q k (fun x => at2_fin _ hfq _ _) (fun x => at2_fin _ hqb _ _) (fun i x => at2_fin _ hfk _ _)
    (fun i x => at2_fin _ hkb _ _) (fun i x => at2_fin _ hkm _ _) (fun i x => at2_fin _ hkbm _ _)

theorem top_fin (b h : Fin 8) (q : Fin 4096) : Fin' (rX (rM (rS fq qb (rK fk km) (rK kb kbm))) (ix3 b h q) : EReal) := by
  refine rX_fin _ b h q (fun i => ?_) ?_
  · obtain ⟨b, h, q, k, rfl⟩ : ∃ (b h : Fin 8) (q : Fin 4096) (k : Fin 4112), i = ix4 b h q k := ⟨i 0, i 1, i 2, i 3, by funext a; fin_cases a <;> rfl⟩
    rw [rM_sc]
    have := (sc_fin fq qb fk kb km kbm hfq hqb hfk hkb hkm hkbm b.val h.val q.val k.val).1
    generalize sc fq qb fk kb km kbm b.val h.val q.val k.val = s at this ⊢
    induction s with
    | bot => rw [bot_log]; exact bot_ne_top
    | coe a => rw [← EReal.coe_mul]; exact EReal.coe_ne_top _
    | top => exact absurd rfl this
  · rw [rM_sc]
    obtain ⟨a, e⟩ := ((sc_fin fq qb fk kb km kbm hfq hqb hfk hkb hkm hkbm b.val h.val q.val (0 : Fin 4112).val).2 (Nat.zero_le _)).coe
    rw [e, ← EReal.coe_mul]
    exact EReal.coe_ne_bot _

theorem ref_eq (fv : FVec Ideal S32768x512 .bf16) (vm : FVec Ideal S128x512 .bf16) (t : Fin 32768) (q : Fin 512) :
    (rO (rK fv vm) (rP (rE (rM (rS fq qb (rK fk km) (rK kb kbm))) (rX (rM (rS fq qb (rK fk km) (rK kb kbm)))))) (ix2 t q) : EReal)
      = spec fq qb fk kb fv km kbm vm t.val q.val := by
  have ht := t.isLt
  have hq := q.isLt
  rw [rO_at]
  obtain ⟨M, hM⟩ := (top_fin fq qb fk kb km kbm hfq hqb hfk hkb hkm hkbm ⟨t.val / 4096, by omega⟩ ⟨q.val / 64, by omega⟩ ⟨t.val % 4096, by omega⟩).coe
  have hs := fun k => sc_fin fq qb fk kb km kbm hfq hqb hfk hkb hkm hkbm (t.val / 4096) (q.val / 64) (t.val % 4096) k
  have hE : ∀ x : Fin 4112, (rE (rM (rS fq qb (rK fk km) (rK kb kbm))) (rX (rM (rS fq qb (rK fk km) (rK kb kbm))))
      (ix4 ⟨t.val / 4096, by omega⟩ ⟨q.val / 64, by omega⟩ ⟨t.val % 4096, by omega⟩ x) : EReal)
        = ex2 (sc fq qb fk kb km kbm (t.val / 4096) (q.val / 64) (t.val % 4096) x.val - ((M / Real.log 2 : ℝ) : EReal)) := fun x => by
    rw [rE_at, rM_sc, hM]
    exact exp_ex2 (hs x.val).1 M
  have e : spec fq qb fk kb fv km kbm vm t.val q.val = att (sc fq qb fk kb km kbm (t.val / 4096) (q.val / 64) (t.val % 4096))
      (fun k => keyAt (fun i x => at2 (fv : S32768x512.Idx → EReal) (4096 * (t.val / 4096) + i) x) (at2 (vm : S128x512.Idx → EReal)) k q.val) := by
    unfold spec sc
    have e1 : q.val / 64 / 2 = q.val / 128 := by omega
    have e2 : 4096 * (t.val / 4096) + t.val % 4096 = t.val := by omega
    rw [e1, e2]
  rw [e]
  unfold att
  refine Eq.trans ?_ (quot Finset.univ (fun k : Fin 4112 => sc fq qb fk kb km kbm (t.val / 4096) (q.val / 64) (t.val % 4096) k.val)
    (fun k : Fin 4112 => keyAt (fun i x => at2 (fv : S32768x512.Idx → EReal) (4096 * (t.val / 4096) + i) x) (at2 (vm : S128x512.Idx → EReal)) k.val q.val)
    (fin_coe 0) (fin_coe (M / Real.log 2)) (fun x _ => (hs x.val).1) 0 (Finset.mem_univ _) ((hs 0).2 (Nat.zero_le _))).symm
  refine Finset.sum_congr rfl fun x _ => ?_
  rw [rP_at, mul_comm]
  refine congrArg₂ (· * ·) ?_ ?_
  · simp only [hE]
    unfold wsum
    simp only [mul_one]
  · refine (rK_key fv vm _ x q 0 q.val (by omega)).trans ?_
    simp only [Nat.zero_add]

end Cert.ReferenceIdeal.Hand

end
-- ==== Proof.FoxFinite.lean ====
/- What the precondition says of every entry, and the claim of the attention call. -/
module

public import proofs.«01_k».proof.Defs
public import proofs.«01_k».proof.Proof.FoxValue
public import proofs.«01_k».proof.Proof.FoxRefVal
public import proofs.«01_k».proof.Proof.Gen.ReferenceIdeal.Run
public import Idealize.ShloMosaic.Lib.ReduceAll
public import Idealize.ShloMosaic.Adequacy
public import Idealize.ShloMosaic.Init

@[expose] public section

set_option maxRecDepth 16384

noncomputable section

namespace Cert.FoxClaim

open Idealize.ShloMosaic Idealize.ShloMosaic.TcCoe Idealize.SL.Sem Cert.Fox

theorem facts : Cert.Pre_finite.Facts where
  bitsLt_bf16_f32 := by decide
  bcast_S_S32768x512 := by decide
  reducesTo_S32768x512_S_d0_1 := by decide
  h_S_ := by decide
  bcast_S_S128x512 := by decide
  reducesTo_S128x512_S_d0_1 := by decide

theorem bits_top : Ideal.ofBits FTy.f32 2139095040#32 = (⊤ : EReal) := by
  have h1 : (2139095040 >>> 23 % 256 : ℕ) = 255 := by decide
  have h2 : BitVec.extractLsb' 31 1 2139095040#32 = 0#1 := by decide
  norm_num [Ideal.ofBits, Ideal.ieee, h1, h2]

/-- An entry whose absolute value is below infinity is finite. -/
theorem abs_fin {x : EReal} (h : Ideal.cmp .olt (max x (-x)) (Ideal.ofBits FTy.f32 2139095040#32) = 1#1) : Fin' x := by
  rw [bits_top] at h
  have h' : max x (-x) < ⊤ := by
    by_contra hn
    have : Ideal.cmp .olt (max x (-x)) ⊤ = 0#1 := by simp [Ideal.cmp, hn]
    rw [this] at h
    exact absurd h (by decide)
  constructor
  · rintro rfl
    simp at h'
  · rintro rfl
    simp at h'

/-- A row of ones over an array says that every entry is finite. -/
theorem all_fin {s : Shape} {axes : List (Fin s.rank)} (x : FVec Ideal s .bf16) (hl) (hb) (hr : s.ReducesTo axes Cert.Pre_finite.S_) (hu : 0 < Cert.Pre_finite.S_.numel) (j : Cert.Pre_finite.S_.Idx)
    (h : Host.reduce IntOp.andi (cmpf .olt (Host.absf (extf .f32 x hl)) (broadcastInDim s ![] hb (constant Cert.Pre_finite.S_ .f32 0x7F800000#32)))
      (constantI Cert.Pre_finite.S_ 1 1#1) hr hu j = 1#1) (i : s.Idx) : Fin' (x i : EReal) :=
  abs_fin (Host.reduce_andi_eq_one _ _ hr hu j h i (funext fun a => a.elim0))

theorem fin_args (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : Cert.KernelIdeal.FoxVal.FinArgs m c := by
  have e := congrFun (h c) (fun a => a.elim0)
  unfold Cert.Pre_finite.fn Cert.Pre_finite.fn_part1 at e
  obtain ⟨e, e6⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_fin _ _ _ _ _ _ e0, all_fin _ _ _ _ _ _ e1, all_fin _ _ _ _ _ _ e2, all_fin _ _ _ _ _ _ e3, all_fin _ _ _ _ _ _ e5, all_fin _ _ _ _ _ _ e6⟩

/-- The attention call against the attention of the layer. -/
theorem algebraic1 : Cert.algebraic_KernelIdeal_ReferenceIdeal_pre_finite (hKernelIdeal := Cert.KernelIdeal.Gen.facts)
    (hReferenceIdeal := Cert.ReferenceIdeal.Gen.facts) (hPre_finite := facts) := by
  intro m g m' g' hp he
  have hF := fin_args m hp
  refine ⟨fun c => Cert.KernelIdeal.FoxVal.G m c, ?_, ?_⟩
  · exact Cert.KernelIdeal.FoxVal.value m g hF
  · refine (θ_run Cert.ReferenceIdeal.defs _ _).mono (fun r h c => ?_) (Cert.ReferenceIdeal.Value.run (F := Ideal) m' g')
    obtain ⟨e0, e1, e2, e3, e4, e5, e6, e7⟩ := he c
    obtain ⟨F0, F1, F2, F3, F5, F6⟩ := hF c
    refine ⟨(h c).1.trans ?_, (h c).2⟩
    refine (Cert.ReferenceIdeal.Hand.res_eq m' c).trans ?_
    rw [e0, e1, e2, e3, e4, e5, e6, e7]
    funext j
    obtain ⟨t, q, rfl⟩ : ∃ (t : Fin 32768) (q : Fin 512), j = ix2 t q := ⟨j 0, j 1, by funext a; fin_cases a <;> rfl⟩
    exact Cert.ReferenceIdeal.Hand.ref_eq _ _ _ _ _ _ F0 F1 F2 F3 F5 F6 _ _ t q

end Cert.FoxClaim

end
-- ==== Proof.FfnRow.lean ====
/- The output projection and the feed-forward block as functions of one row, and the two programs' operations read at one
   row: the kernel's payloads over the blocks, the reference's operations over the whole arrays. -/
module

public import proofs.«01_k».proof.Proof.Gen.Kernel2Ideal.Skeleton
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Ffn

/-- The output projection added to the residual row: the first half of the weights' rows meets one head group, the second half the other. -/
def hRow (x : Fin 1024 → EReal) (g f : Fin 512 → EReal) (wo : Fin 1024 → Fin 1024 → EReal) (j : Fin 1024) : EReal :=
  x j + (∑ k : Fin 512, g k * wo ⟨k, by omega⟩ j) + ∑ k : Fin 512, f k * wo ⟨512 + k, by omega⟩ j

/-- A row divided by its root mean square, times the norm's weights. -/
def normRow (h w : Fin 1024 → EReal) (j : Fin 1024) : EReal :=
  h j * Ideal.rsqrt (Ideal.div (∑ k : Fin 1024, h k * h k) (Ideal.ofBits .f32 0x44800000#32) + Ideal.ofBits .f32 0x358637BD#32) * w j

/-- One matrix product of a row. -/
def dotRow {n p : ℕ} (u : Fin n → EReal) (w : Fin n → Fin p → EReal) (c : Fin p) : EReal := ∑ k : Fin n, u k * w k c

/-- The gated activation of two numbers. -/
def swiglu (a b : EReal) : EReal := a * Ideal.div 1 (1 + Ideal.exp (-a)) * b

/-- The whole last part of the layer on one row. -/
def outRow (x : Fin 1024 → EReal) (g f : Fin 512 → EReal) (wo : Fin 1024 → Fin 1024 → EReal) (nf : Fin 1024 → EReal)
    (wg wu : Fin 1024 → Fin 2816 → EReal) (wd : Fin 2816 → Fin 1024 → EReal) (nl : Fin 1024 → EReal) : Fin 1024 → EReal :=
  normRow (fun j => hRow x g f wo j
    + dotRow (fun c => swiglu (dotRow (normRow (hRow x g f wo) nf) wg c) (dotRow (normRow (hRow x g f wo) nf) wu c)) wd j) nl

section Kernel
open Cert.Kernel2Ideal Cert.Kernel2Ideal.Gen

theorem pay1_at (x : Vec Ideal S1024x1024 .f32) (g : Vec Ideal S1024x512 .bf16) (wa : Vec Ideal S512x1024 .bf16)
    (f : Vec Ideal S1024x512 .bf16) (wb : Vec Ideal S512x1024 .bf16) (r j : Fin 1024) :
    k0_pay1 (F := Ideal) x g wa f wb (ix2 r j)
      = (x (ix2 r j) : EReal) + (∑ k : Fin 512, g (ix2 r k) * wa (ix2 k j)) + ∑ k : Fin 512, f (ix2 r k) * wb (ix2 k j) := by
  pointwise [k0_pay1]

theorem pay2_at (x : Vec Ideal S1024x1024 .f32) (g : Vec Ideal S1024x512 .bf16) (wa : Vec Ideal S512x1024 .bf16)
    (f : Vec Ideal S1024x512 .bf16) (wb : Vec Ideal S512x1024 .bf16) (n : Vec Ideal S1x1024 .f32) (r j : Fin 1024) :
    k0_pay2 (F := Ideal) x g wa f wb n (ix2 r j)
      = normRow (fun j => k0_pay1 (F := Ideal) x g wa f wb (ix2 r j)) (fun j => n (ix2 0 j)) j := by
  unfold k0_pay2
  generalize k0_pay1 (F := Ideal) x g wa f wb = h
  pointwise [normRow]

/-- One chunk of 256 columns of the gated activation. -/
theorem tile_at (u : FVec Ideal S1024x1024 .bf16) (a b : Vec Ideal S1024x256 .bf16) (r : Fin 1024) (c : Fin 256) :
    k0_pay7 (F := Ideal) u a b (ix2 r c)
      = swiglu (∑ k : Fin 1024, u (ix2 r k) * a (ix2 k c)) (∑ k : Fin 1024, u (ix2 r k) * b (ix2 k c)) := by
  pointwise [k0_pay7, swiglu]
  simp only [zero_sub]

theorem pay26_at (h : FVec Ideal S1024x1024 .f32) (a : Vec Ideal S1024x2816 .bf16) (wd : Vec Ideal S2816x1024 .bf16)
    (n : Vec Ideal S1x1024 .f32) (r j : Fin 1024) :
    k0_pay26 (F := Ideal) h a wd n (ix2 r j)
      = normRow (fun j => h (ix2 r j) + ∑ c : Fin 2816, a (ix2 r c) * wd (ix2 c j)) (fun j => n (ix2 0 j)) j := by
  pointwise [k0_pay26, normRow]

end Kernel

section Reference
open Cert.Reference2Ideal Cert.Reference2Ideal.Gen Cert.Reference2Ideal.Value

/-- The reference's residual after the output projection. -/
def hRef (x : FVec Ideal S32768x1024 .f32) (g f : FVec Ideal S32768x512 .bf16) (wo : FVec Ideal S1x1024x1024 .f32) :
    FVec Ideal S32768x1024 .f32 :=
  addf x (Host.dotGeneral dot_S32768x1024_S1024x1024_S32768x1024_1_0_0_1_n_n none
    (extf .f32 (concatenate S32768x1024 1 [⟨S32768x512, g⟩, ⟨S32768x512, f⟩] concatenates_S32768x512_S32768x512_S32768x1024_d1) bitsLt_bf16_f32)
    (shapeCast _ wo shapeCasts_S1x1024x1024_S1024x1024))

/-- The reference's norm of every row. -/
def normRef (h : FVec Ideal S32768x1024 .f32) (w : FVec Ideal S1024 .f32) : FVec Ideal S32768x1024 .f32 :=
  mulf (mulf h (broadcastInDim S32768x1024 ![0, 1] bcast_S32768x1_S32768x1024_0_1
    (Host.rsqrt (addf (Host.divf (broadcastInDim S32768x1 ![0] bcast_S32768_S32768x1_0
      (Host.reduceAdd (mulf h h) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The reference's product with one of the two wide weight matrices. -/
def wideRef (u : FVec Ideal S32768x1024 .f32) (w : FVec Ideal S1x1024x2816 .f32) : FVec Ideal S32768x2816 .f32 :=
  Host.dotGeneral dot_S32768x1024_S1024x2816_S32768x2816_1_0_0_1_n_n none u (shapeCast _ w shapeCasts_S1x1024x2816_S1024x2816)

/-- The reference's gated activation. -/
def gateRef (a b : FVec Ideal S32768x2816 .f32) : FVec Ideal S32768x2816 .f32 :=
  mulf (mulf a (Host.divf (broadcastInDim S32768x2816 ![] bcast_S_S32768x2816 (constant S_ .f32 0x3F800000#32))
    (addf (broadcastInDim S32768x2816 ![] bcast_S_S32768x2816 (constant S_ .f32 0x3F800000#32)) (Host.exp (Host.negf a))))) b

/-- The reference's residual after the feed-forward block. -/
def downRef (h : FVec Ideal S32768x1024 .f32) (a : FVec Ideal S32768x2816 .f32) (w : FVec Ideal S1x2816x1024 .f32) :
    FVec Ideal S32768x1024 .f32 :=
  addf h (Host.dotGeneral dot_S32768x2816_S2816x1024_S32768x1024_1_0_0_1_n_n none a (shapeCast _ w shapeCasts_S1x2816x1024_S2816x1024))

/-- The reference's composed term, in its stages. -/
def outRef (x : FVec Ideal S32768x1024 .f32) (g f : FVec Ideal S32768x512 .bf16) (wo : FVec Ideal S1x1024x1024 .f32)
    (nf : FVec Ideal S1x1024 .f32) (wg wu : FVec Ideal S1x1024x2816 .f32) (wd : FVec Ideal S1x2816x1024 .f32)
    (nl : FVec Ideal S1024 .f32) : FVec Ideal S32768x1024 .f32 :=
  normRef (downRef (hRef x g f wo)
    (gateRef (wideRef (normRef (hRef x g f wo) (shapeCast _ nf shapeCasts_S1x1024_S1024)) wg)
      (wideRef (normRef (hRef x g f wo) (shapeCast _ nf shapeCasts_S1x1024_S1024)) wu)) wd) nl

theorem res_eq (m : (ℓ : Loc nD τ sig) → Buf (Elt Ideal) ℓ) (c : Dev nD) :
    res_out0 m c = outRef (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

theorem hRef_at (x : FVec Ideal S32768x1024 .f32) (g f : FVec Ideal S32768x512 .bf16) (wo : FVec Ideal S1x1024x1024 .f32)
    (r : Fin 32768) (j : Fin 1024) :
    hRef x g f wo (ix2 r j) = hRow (fun j => x (ix2 r j)) (fun k => g (ix2 r k)) (fun k => f (ix2 r k)) (fun k j => wo (ix3 0 k j)) j := by
  pointwise [hRef, hRow]
  exact (add_assoc _ _ _).symm

theorem normRef_at (h : FVec Ideal S32768x1024 .f32) (w : FVec Ideal S1024 .f32) (r : Fin 32768) (j : Fin 1024) :
    normRef h w (ix2 r j) = normRow (fun j => h (ix2 r j)) (fun j => w (ix1 j)) j := by
  pointwise [normRef, normRow]

theorem wideRef_at (u : FVec Ideal S32768x1024 .f32) (w : FVec Ideal S1x1024x2816 .f32) (r : Fin 32768) (c : Fin 2816) :
    wideRef u w (ix2 r c) = dotRow (fun k => u (ix2 r k)) (fun k c => w (ix3 0 k c)) c := by
  pointwise [wideRef, dotRow]

theorem gateRef_at (a b : FVec Ideal S32768x2816 .f32) (r : Fin 32768) (c : Fin 2816) :
    gateRef a b (ix2 r c) = swiglu (a (ix2 r c)) (b (ix2 r c)) := by
  pointwise [gateRef, swiglu]

theorem downRef_at (h : FVec Ideal S32768x1024 .f32) (a : FVec Ideal S32768x2816 .f32) (w : FVec Ideal S1x2816x1024 .f32)
    (r : Fin 32768) (j : Fin 1024) :
    downRef h a w (ix2 r j) = h (ix2 r j) + dotRow (fun c => a (ix2 r c)) (fun c j => w (ix3 0 c j)) j := by
  pointwise [downRef, dotRow]

theorem castNorm_at (w : FVec Ideal S1x1024 .f32) (j : Fin 1024) :
    shapeCast S1024 w shapeCasts_S1x1024_S1024 (ix1 j) = w (ix2 0 j) := by
  pointwise

theorem outRef_at (x : FVec Ideal S32768x1024 .f32) (g f : FVec Ideal S32768x512 .bf16) (wo : FVec Ideal S1x1024x1024 .f32)
    (nf : FVec Ideal S1x1024 .f32) (wg wu : FVec Ideal S1x1024x2816 .f32) (wd : FVec Ideal S1x2816x1024 .f32)
    (nl : FVec Ideal S1024 .f32) (r : Fin 32768) (j : Fin 1024) :
    outRef x g f wo nf wg wu wd nl (ix2 r j)
      = outRow (fun j => x (ix2 r j)) (fun k => g (ix2 r k)) (fun k => f (ix2 r k)) (fun k j => wo (ix3 0 k j)) (fun j => nf (ix2 0 j))
          (fun k c => wg (ix3 0 k c)) (fun k c => wu (ix3 0 k c)) (fun c j => wd (ix3 0 c j)) (fun j => nl (ix1 j)) j := by
  simp only [outRef, outRow, normRef_at, downRef_at, gateRef_at, wideRef_at, hRef_at, castNorm_at]

end Reference

end Cert.Ffn

end
-- ==== Proof.FfnValue.lean ====
/- The feed-forward call's result array is the reference's, row by row. -/
module

public import proofs.«01_k».proof.Proof.Gen.Kernel2Ideal.Value
public import proofs.«01_k».proof.Proof.FfnRow
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- The activation of a block of rows, all columns. -/
def act (u : FVec Ideal S1024x1024 .bf16) (wg wu : Vec Ideal S1024x2816 .bf16) : Vec Ideal S1024x2816 .bf16 :=
  fun y => swiglu (dotRow (fun k => u (ix2 (y 0) k)) (fun k c => wg (ix2 k c)) (y 1)) (dotRow (fun k => u (ix2 (y 0) k)) (fun k c => wu (ix2 k c)) (y 1))

theorem pay26_congr {h : FVec Ideal S1024x1024 .f32} {a a' : Vec Ideal S1024x2816 .bf16} {wd : Vec Ideal S2816x1024 .bf16}
    {n : Vec Ideal S1x1024 .f32} (e : a = a') : k0_pay26 (F := Ideal) h a wd n = k0_pay26 (F := Ideal) h a' wd n := by rw [e]

/-- A chunk's stored tile is the activation at the chunk's columns. -/
theorem chunk (u : FVec Ideal S1024x1024 .bf16) (wg wu : Vec Ideal S1024x2816 .bf16) (o : ℕ) (ho : ∀ a, (![0, o] : Fin 2 → ℕ) a + (![1024, 256] : Fin 2 → ℕ) a ≤ S1024x2816.size a)
    (x : S1024x256.Idx) (y : S1024x2816.Idx) (h0 : (y 0 : ℕ) = x 0) (h1 : (y 1 : ℕ) = o + x 1) :
    k0_pay7 (F := Ideal) u (View.ld wg (Rect.unit ![0, o] ![1024, 256] ho)) (View.ld wu (Rect.unit ![0, o] ![1024, 256] ho)) x = act u wg wu y := by
  idx_vars x
  idx_vars y
  rw [tile_at]
  have hy : y0 = x0 := Fin.ext h0
  subst hy
  obtain ⟨y1, hy1⟩ := y1
  obtain rfl : y1 = o + x1 := h1
  show _ = swiglu (dotRow _ _ _) (dotRow _ _ _)
  unfold dotRow
  pointwise

theorem scratch (c : Dev nD) (t : Fin cfg0.N) (y) : (dats m 0 c).after 9 t y
    = k0_pay26 (k0_pay1 (iblk m c 0 t) (iblk m c 1 t)
        (View.ld (iblk m c 3 t) (Rect.unit ![0, 0] ![512, 1024] inb_S1024x1024_S512x1024_0_0)) (iblk m c 2 t)
        (View.ld (iblk m c 3 t) (Rect.unit ![512, 0] ![512, 1024] inb_S1024x1024_S512x1024_512_0)))
      (act (k0_pay2 (iblk m c 0 t) (iblk m c 1 t)
        (View.ld (iblk m c 3 t) (Rect.unit ![0, 0] ![512, 1024] inb_S1024x1024_S512x1024_0_0)) (iblk m c 2 t)
        (View.ld (iblk m c 3 t) (Rect.unit ![512, 0] ![512, 1024] inb_S1024x1024_S512x1024_512_0)) (iblk m c 4 t))
        (iblk m c 5 t) (iblk m c 6 t)) (iblk m c 7 t) (iblk m c 8 t) y := by
  rw [after0_9]
  unfold outsAt0
  frame_out
  refine congrFun (pay26_congr ?_) y
  rw [View.readCov_eq_canon']
  funext z
  have e : (Rect.unit ![0, 0] ![1024, 2816] inb_S1024x2816_S1024x2816_0_0).toLoadRect.idx z = z := by
    funext a
    refine Fin.ext ?_
    fin_cases a <;> simp [LoadRect.idx, Rect.toLoadRect, Rect.unit]
  rw [e]
  canon_tiles x h
  all_goals exact chunk _ _ _ _ _ x _ h0 (by omega)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- What a point stores, at one row of its block. -/
theorem block_at (x : Vec Ideal S1024x1024 .f32) (g f : Vec Ideal S1024x512 .bf16) (wo : Vec Ideal S1024x1024 .bf16)
    (nf : Vec Ideal S1x1024 .f32) (wg wu : Vec Ideal S1024x2816 .bf16) (wd : Vec Ideal S2816x1024 .bf16) (nl : Vec Ideal S1x1024 .f32)
    (r j : Fin 1024) :
    k0_pay26 (F := Ideal) (k0_pay1 x g (View.ld wo (Rect.unit ![0, 0] ![512, 1024] inb_S1024x1024_S512x1024_0_0)) f
        (View.ld wo (Rect.unit ![512, 0] ![512, 1024] inb_S1024x1024_S512x1024_512_0)))
      (act (k0_pay2 x g (View.ld wo (Rect.unit ![0, 0] ![512, 1024] inb_S1024x1024_S512x1024_0_0)) f
        (View.ld wo (Rect.unit ![512, 0] ![512, 1024] inb_S1024x1024_S512x1024_512_0)) nf) wg wu) wd nl (ix2 r j)
      = outRow (fun j => x (ix2 r j)) (fun k => g (ix2 r k)) (fun k => f (ix2 r k)) (fun k j => wo (ix2 k j)) (fun j => nf (ix2 0 j))
          (fun k c => wg (ix2 k c)) (fun k c => wu (ix2 k c)) (fun c j => wd (ix2 c j)) (fun j => nl (ix2 0 j)) j := by
  have h1 : ∀ j : Fin 1024, k0_pay1 (F := Ideal) x g (View.ld wo (Rect.unit ![0, 0] ![512, 1024] inb_S1024x1024_S512x1024_0_0)) f
        (View.ld wo (Rect.unit ![512, 0] ![512, 1024] inb_S1024x1024_S512x1024_512_0)) (ix2 r j)
      = hRow (fun j => x (ix2 r j)) (fun k => g (ix2 r k)) (fun k => f (ix2 r k)) (fun k j => wo (ix2 k j)) j := fun j => by
    rw [pay1_at]
    pointwise [hRow]
  rw [pay26_at]
  unfold outRow
  simp only [h1]
  have h2 : ∀ c : Fin 2816, act (k0_pay2 x g (View.ld wo (Rect.unit ![0, 0] ![512, 1024] inb_S1024x1024_S512x1024_0_0)) f
        (View.ld wo (Rect.unit ![512, 0] ![512, 1024] inb_S1024x1024_S512x1024_512_0)) nf) wg wu (ix2 r c)
      = swiglu (dotRow (normRow (hRow (fun j => x (ix2 r j)) (fun k => g (ix2 r k)) (fun k => f (ix2 r k)) (fun k j => wo (ix2 k j)))
            (fun j => nf (ix2 0 j))) (fun k c => wg (ix2 k c)) c)
          (dotRow (normRow (hRow (fun j => x (ix2 r j)) (fun k => g (ix2 r k)) (fun k => f (ix2 r k)) (fun k j => wo (ix2 k j)))
            (fun j => nf (ix2 0 j))) (fun k c => wu (ix2 k c)) c) := fun c => by
    show swiglu (dotRow (fun k => k0_pay2 (F := Ideal) x g _ f _ nf (ix2 r k)) _ c) (dotRow (fun k => k0_pay2 (F := Ideal) x g _ f _ nf (ix2 r k)) _ c) = _
    simp only [pay2_at, h1]
  simp only [h2, dotRow]

theorem outRow_congr {x x' : Fin 1024 → EReal} {g g' f f' : Fin 512 → EReal} {wo wo' : Fin 1024 → Fin 1024 → EReal} {nf nf' : Fin 1024 → EReal}
    {wg wg' wu wu' : Fin 1024 → Fin 2816 → EReal} {wd wd' : Fin 2816 → Fin 1024 → EReal} {nl nl' : Fin 1024 → EReal} (j : Fin 1024)
    (h0 : ∀ j, x j = x' j) (h1 : ∀ j, g j = g' j) (h2 : ∀ j, f j = f' j) (h3 : ∀ k j, wo k j = wo' k j) (h4 : ∀ j, nf j = nf' j)
    (h5 : ∀ k j, wg k j = wg' k j) (h6 : ∀ k j, wu k j = wu' k j) (h7 : ∀ k j, wd k j = wd' k j) (h8 : ∀ j, nl j = nl' j) :
    outRow x g f wo nf wg wu wd nl j = outRow x' g' f' wo' nf' wg' wu' wd' nl' j := by
  obtain rfl := funext h0; obtain rfl := funext h1; obtain rfl := funext h2; obtain rfl := funext fun k => funext (h3 k)
  obtain rfl := funext h4; obtain rfl := funext fun k => funext (h5 k); obtain rfl := funext fun k => funext (h6 k)
  obtain rfl := funext fun k => funext (h7 k); obtain rfl := funext h8; rfl

/-- The kernel's result array is the reference's term of the arguments. -/
theorem final (c : Dev nD) : (dats m 0 c).arrAt 9 cfg0.N
    = outRef (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [scratch]
  obtain ⟨r, j, rfl⟩ : ∃ (r : Fin 1024) (j : Fin 1024), y = ix2 r j := ⟨y 0, y 1, by funext a; fin_cases a <;> rfl⟩
  refine (block_at _ _ _ _ _ _ _ _ _ r j).trans ?_
  have ht : t.val * 1024 + r.val < 32768 := by have := t.isLt; have : t.val < 32 := this; omega
  have he : ((cfg0.win 9).blk t).view.emb (ix2 r j) = (ix2 ⟨t.val * 1024 + r.val, ht⟩ j : S32768x1024.Idx) := by
    blk_ext [idx t]
  refine Eq.trans ?_ (congrArg _ he).symm
  rw [outRef_at]
  refine outRow_congr j (fun _ => ?_) (fun _ => ?_) (fun _ => ?_) (fun _ _ => ?_) (fun _ => ?_) (fun _ _ => ?_) (fun _ _ => ?_) (fun _ _ => ?_) (fun _ => ?_)
  all_goals blk_point [iblk, V, idx t]

end Cert.Ffn

end
-- ==== Proof.InprojRow.lean ====
/- The input projection as functions of one row: the norm, the wide product, the convolution over four positions and its gate;
   and the two programs' operations read at one row. -/
module

public import proofs.«01_k».proof.Proof.FfnRow
public import proofs.«01_k».proof.Proof.Gen.Kernel3Ideal.Skeleton
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Inproj

open Cert.Ffn (normRow dotRow)

/-- Four neighbouring positions weighed and added. -/
def conv4 (w : Fin 4 → EReal) (a b c d : EReal) : EReal := w 0 * a + w 1 * b + w 2 * c + w 3 * d

/-- A number times its logistic. -/
def silu (a : EReal) : EReal := a * Ideal.div 1 (1 + Ideal.exp (-a))

section Kernel
open Cert.Kernel3Ideal Cert.Kernel3Ideal.Gen

theorem pay3_at (x : Vec Ideal S1024x1024 .f32) (n : Vec Ideal S1x1024 .f32) (r j : Fin 1024) :
    k0_pay3 (F := Ideal) x n (ix2 r j) = normRow (fun j => x (ix2 r j)) (fun j => n (ix2 0 j)) j := by
  pointwise [k0_pay3, normRow]

theorem pay4_at (x : Vec Ideal S1024x1024 .f32) (n : Vec Ideal S1x1024 .f32) (w : Vec Ideal S1024x512 .bf16) (r : Fin 1024) (c : Fin 512) :
    k0_pay4 (F := Ideal) x n w (ix2 r c) = dotRow (normRow (fun j => x (ix2 r j)) (fun j => n (ix2 0 j))) (fun k c => w (ix2 k c)) c := by
  unfold dotRow
  simp only [← pay3_at]
  unfold k0_pay4
  generalize k0_pay3 (F := Ideal) x n = u
  pointwise

theorem pay5_at (u : FVec Ideal S1024x1024 .bf16) (w : Vec Ideal S1024x512 .bf16) (r : Fin 1024) (c : Fin 512) :
    k0_pay5 (F := Ideal) u w (ix2 r c) = dotRow (fun k => u (ix2 r k)) (fun k c => w (ix2 k c)) c := by
  pointwise [k0_pay5, dotRow]

theorem pay7_at (u : FVec Ideal S1024x1024 .bf16) (w : Vec Ideal S1024x512 .bf16) (r : Fin 1024) (c : Fin 512) :
    k0_pay7 (F := Ideal) u w (ix2 r c) = dotRow (fun k => u (ix2 r k)) (fun k c => w (ix2 k c)) c := by
  pointwise [k0_pay7, dotRow]

theorem pay8_at (u : FVec Ideal S1024x1024 .bf16) (w : Vec Ideal S1024x512 .bf16) (r : Fin 1024) (c : Fin 512) :
    k0_pay8 (F := Ideal) u w (ix2 r c) = dotRow (fun k => u (ix2 r k)) (fun k c => w (ix2 k c)) c * Ideal.ofBits .f32 0x3E38AA3B#32 := by
  pointwise [k0_pay8, dotRow]

theorem pay11_at (u : FVec Ideal S1024x1024 .bf16) (w : Vec Ideal S1024x512 .bf16) (r : Fin 1024) (c : Fin 512) :
    k0_pay11 (F := Ideal) u w (ix2 r c) = dotRow (fun k => u (ix2 r k)) (fun k c => w (ix2 k c)) c := by
  pointwise [k0_pay11, dotRow]

theorem pay12_at (u : FVec Ideal S1024x1024 .bf16) (w : Vec Ideal S1024x512 .bf16) (r : Fin 1024) (c : Fin 512) :
    k0_pay12 (F := Ideal) u w (ix2 r c) = dotRow (fun k => u (ix2 r k)) (fun k c => w (ix2 k c)) c := by
  pointwise [k0_pay12, dotRow]

theorem pay16_at (u : FVec Ideal S1024x1024 .bf16) (w : Vec Ideal S1024x512 .bf16) (r : Fin 1024) (c : Fin 512) :
    k0_pay16 (F := Ideal) u w (ix2 r c) = dotRow (fun k => u (ix2 r k)) (fun k c => w (ix2 k c)) c := by
  pointwise [k0_pay16, dotRow]

theorem pay17_at (u : FVec Ideal S1024x1024 .bf16) (w : Vec Ideal S1024x128 .bf16) (r : Fin 1024) (c : Fin 128) :
    k0_pay17 (F := Ideal) u w (ix2 r c) = dotRow (fun k => u (ix2 r k)) (fun k c => w (ix2 k c)) c := by
  pointwise [k0_pay17, dotRow]

/-- The first chunk's convolution and gate. -/
theorem conv0_at (w0 w1 w2 w3 : Vec Ideal S1x512 .f32) (a b d e : Vec Ideal S1024x512 .f32) (r : Fin 1024) (c : Fin 512) :
    k0_pay6 (F := Ideal) w0 a w1 b w2 d w3 e (ix2 r c)
      = silu (w0 (ix2 0 c) * a (ix2 r c) + w1 (ix2 0 c) * b (ix2 r c) + w2 (ix2 0 c) * d (ix2 r c) + w3 (ix2 0 c) * e (ix2 r c)) := by
  pointwise [k0_pay6, silu]
  simp only [zero_sub]

/-- The second chunk's. -/
theorem conv1_at (w0 w1 w2 w3 : Vec Ideal S1x512 .f32) (a b d e : Vec Ideal S1024x512 .f32) (r : Fin 1024) (c : Fin 512) :
    k0_pay10 (F := Ideal) (k0_pay9 w0 a w1 b w2 d) w3 e (ix2 r c)
      = silu (w0 (ix2 0 c) * a (ix2 r c) + w1 (ix2 0 c) * b (ix2 r c) + w2 (ix2 0 c) * d (ix2 r c) + w3 (ix2 0 c) * e (ix2 r c)) := by
  pointwise [k0_pay9, k0_pay10, silu]
  simp only [zero_sub]

/-- The third chunk's. -/
theorem conv2_at (w0 w1 w2 w3 : Vec Ideal S1x512 .f32) (a b d e : Vec Ideal S1024x512 .f32) (r : Fin 1024) (c : Fin 512) :
    k0_pay15 (F := Ideal) (k0_pay13 w0 a) (k0_pay14 w1) b w2 d w3 e (ix2 r c)
      = silu (w0 (ix2 0 c) * a (ix2 r c) + w1 (ix2 0 c) * b (ix2 r c) + w2 (ix2 0 c) * d (ix2 r c) + w3 (ix2 0 c) * e (ix2 r c)) := by
  pointwise [k0_pay13, k0_pay14, k0_pay15, silu]
  simp only [zero_sub]

theorem pay1_eq (a : Vec Ideal S8x1536 .f32) : k0_pay1 (F := Ideal) a = a := by
  funext y
  idx_vars y
  pointwise [k0_pay1]

theorem pay2_eq (a : Vec Ideal S8x1536 .f32) : k0_pay2 (F := Ideal) a = a := by
  funext y
  idx_vars y
  pointwise [k0_pay2]

end Kernel

section Reference
open Cert.Reference3Ideal Cert.Reference3Ideal.Gen Cert.Reference3Ideal.Value

/-- The reference's norm and wide product. -/
def projRef (x : FVec Ideal S32768x1024 .f32) (nw : FVec Ideal S1x1024 .f32) (w : FVec Ideal S1x1024x3600 .f32) : FVec Ideal S32768x3600 .f32 :=
  Host.dotGeneral dot_S32768x1024_S1024x3600_S32768x3600_1_0_0_1_n_n none
    (mulf (mulf x (broadcastInDim S32768x1024 ![0, 1] bcast_S32768x1_S32768x1024_0_1
      (Host.rsqrt (addf (Host.divf (broadcastInDim S32768x1 ![0] bcast_S32768_S32768x1_0
        (Host.reduceAdd (mulf x x) (constant S_ .f32 0x00000000#32) reducesTo_S32768x1024_S32768_d1 h_S_))
        (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1
        (shapeCast _ nw shapeCasts_S1x1024_S1024))))
    (shapeCast _ w shapeCasts_S1x1024x3600_S1024x3600)

theorem projRef_at (x : FVec Ideal S32768x1024 .f32) (nw : FVec Ideal S1x1024 .f32) (w : FVec Ideal S1x1024x3600 .f32)
    (r : Fin 32768) (j : Fin 3600) :
    projRef x nw w (ix2 r j) = dotRow (normRow (fun k => x (ix2 r k)) (fun k => nw (ix2 0 k))) (fun k c => w (ix3 0 k c)) j := by
  pointwise [projRef, dotRow, normRow]

/-- The reference's rows to be convolved: each sequence behind the last three rows of the history. -/
def padRef (p : FVec Ideal S32768x3600 .f32) (h : FVec Ideal S8x1536 .f32) : FVec Ideal S8x4099x1536 .f32 :=
  concatenate S8x4099x1536 1 [⟨S8x3x1536, (broadcastInDim S8x3x1536 ![0, 1, 2] bcast_S1x3x1536_S8x3x1536_0_1_2
    (broadcastInDim S1x3x1536 ![1, 2] bcast_S3x1536_S1x3x1536_1_2 (extractStridedSlice S3x1536 ![5, 0] h slices_S8x1536_S3x1536_5_0)))⟩,
    ⟨S8x4096x1536, (shapeCast _ (extractStridedSlice S32768x1536 ![0, 0] p slices_S32768x3600_S32768x1536_0_0) shapeCasts_S32768x1536_S8x4096x1536)⟩]
    concatenates_S8x3x1536_S8x4096x1536_S8x4099x1536_d1

/-- The reference's convolution. -/
def convRef (d : FVec Ideal S8x4099x1536 .f32) (w : FVec Ideal S1x4x1536 .f32) : FVec Ideal S8x4096x1536 .f32 :=
  addf (addf (addf (addf (broadcastInDim S8x4096x1536 ![] bcast_S_S8x4096x1536 (constant S_ .f32 0x00000000#32))
    (mulf (broadcastInDim S8x4096x1536 ![0, 1, 2] bcast_S1x1x1536_S8x4096x1536_0_1_2 (broadcastInDim S1x1x1536 ![2] bcast_S1536_S1x1x1536_2
        (shapeCast _ (extractStridedSlice S1x1x1536 ![0, 0, 0] w slices_S1x4x1536_S1x1x1536_0_0_0) shapeCasts_S1x1x1536_S1536)))
      (extractStridedSlice S8x4096x1536 ![0, 0, 0] d slices_S8x4099x1536_S8x4096x1536_0_0_0)))
    (mulf (broadcastInDim S8x4096x1536 ![0, 1, 2] bcast_S1x1x1536_S8x4096x1536_0_1_2 (broadcastInDim S1x1x1536 ![2] bcast_S1536_S1x1x1536_2
        (shapeCast _ (extractStridedSlice S1x1x1536 ![0, 1, 0] w slices_S1x4x1536_S1x1x1536_0_1_0) shapeCasts_S1x1x1536_S1536)))
      (extractStridedSlice S8x4096x1536 ![0, 1, 0] d slices_S8x4099x1536_S8x4096x1536_0_1_0)))
    (mulf (broadcastInDim S8x4096x1536 ![0, 1, 2] bcast_S1x1x1536_S8x4096x1536_0_1_2 (broadcastInDim S1x1x1536 ![2] bcast_S1536_S1x1x1536_2
        (shapeCast _ (extractStridedSlice S1x1x1536 ![0, 2, 0] w slices_S1x4x1536_S1x1x1536_0_2_0) shapeCasts_S1x1x1536_S1536)))
      (extractStridedSlice S8x4096x1536 ![0, 2, 0] d slices_S8x4099x1536_S8x4096x1536_0_2_0)))
    (mulf (broadcastInDim S8x4096x1536 ![0, 1, 2] bcast_S1x1x1536_S8x4096x1536_0_1_2 (broadcastInDim S1x1x1536 ![2] bcast_S1536_S1x1x1536_2
        (shapeCast _ (extractStridedSlice S1x1x1536 ![0, 3, 0] w slices_S1x4x1536_S1x1x1536_0_3_0) shapeCasts_S1x1x1536_S1536)))
      (extractStridedSlice S8x4096x1536 ![0, 3, 0] d slices_S8x4099x1536_S8x4096x1536_0_3_0))

/-- The reference's gate over the convolution. -/
def siluRef (d : FVec Ideal S8x4096x1536 .f32) : FVec Ideal S8x4096x1536 .f32 :=
  mulf d (Host.divf (broadcastInDim S8x4096x1536 ![] bcast_S_S8x4096x1536 (constant S_ .f32 0x3F800000#32))
    (addf (broadcastInDim S8x4096x1536 ![] bcast_S_S8x4096x1536 (constant S_ .f32 0x3F800000#32)) (Host.exp (Host.negf d))))

theorem convRef_at (d : FVec Ideal S8x4099x1536 .f32) (w : FVec Ideal S1x4x1536 .f32) (b : Fin 8) (p : Fin 4096) (c : Fin 1536) :
    convRef d w (ix3 b p c) = conv4 (fun i => w (ix3 0 i c)) (d (ix3 b ⟨p, by omega⟩ c)) (d (ix3 b ⟨1 + p, by omega⟩ c))
      (d (ix3 b ⟨2 + p, by omega⟩ c)) (d (ix3 b ⟨3 + p, by omega⟩ c)) := by
  pointwise [convRef, conv4]

theorem siluRef_at (d : FVec Ideal S8x4096x1536 .f32) (b : Fin 8) (p : Fin 4096) (c : Fin 1536) :
    siluRef d (ix3 b p c) = silu (d (ix3 b p c)) := by
  pointwise [siluRef, silu]

/-- Before a sequence's first row stands the history. -/
theorem padRef_hist (p : FVec Ideal S32768x3600 .f32) (h : FVec Ideal S8x1536 .f32) (b : Fin 8) (q : Fin 4099) (c : Fin 1536)
    (hq : q.val < 3) : padRef p h (ix3 b q c) = h (ix2 ⟨5 + q, by omega⟩ c) := by
  pointwise [padRef]
  rw [dif_pos hq]

/-- Behind it the sequence's own rows. -/
theorem padRef_seq (p : FVec Ideal S32768x3600 .f32) (h : FVec Ideal S8x1536 .f32) (b : Fin 8) (q : Fin 4099) (c : Fin 1536)
    (r : Fin 32768) (hr : r.val + 3 = 4096 * b.val + q.val) (hq : 3 ≤ q.val) : padRef p h (ix3 b q c) = p (ix2 r ⟨c, by omega⟩) := by
  pointwise [padRef]
  rw [dif_neg (by omega)]
  refine congrArg (fun r => p (ix2 r _)) (Fin.ext ?_)
  show b.val * 4096 + (q.val - 3) = r.val
  omega

/-- The reference's activation. -/
def actRef (p : FVec Ideal S32768x3600 .f32) (w : FVec Ideal S1x4x1536 .f32) (h : FVec Ideal S8x1536 .f32) : FVec Ideal S32768x1536 .f32 :=
  shapeCast _ (siluRef (convRef (padRef p h) w)) shapeCasts_S8x4096x1536_S32768x1536

/-- The reference's output gate. -/
def zRef (p : FVec Ideal S32768x3600 .f32) : FVec Ideal S32768x512 .f32 :=
  extractStridedSlice S32768x512 ![0, 1536] p slices_S32768x3600_S32768x512_0_1536

/-- The reference's scaled queries. -/
def qRef (p : FVec Ideal S32768x3600 .f32) : FVec Ideal S32768x512 .bf16 :=
  truncf .bf16 (mulf (extractStridedSlice S32768x512 ![0, 2056] p slices_S32768x3600_S32768x512_0_2056)
    (broadcastInDim S32768x512 ![] bcast_S_S32768x512 (constant S_ .f32 0x3E38AA3B#32))) bitsLt_bf16_f32

/-- The reference's keys. -/
def kRef (p : FVec Ideal S32768x3600 .f32) : FVec Ideal S32768x512 .bf16 :=
  truncf .bf16 (extractStridedSlice S32768x512 ![0, 2568] p slices_S32768x3600_S32768x512_0_2568) bitsLt_bf16_f32

/-- The reference's values. -/
def vRef (p : FVec Ideal S32768x3600 .f32) : FVec Ideal S32768x512 .bf16 :=
  truncf .bf16 (extractStridedSlice S32768x512 ![0, 3080] p slices_S32768x3600_S32768x512_0_3080) bitsLt_bf16_f32

/-- The reference's narrow columns, filled up with zeros. -/
def gateRef (p : FVec Ideal S32768x3600 .f32) : FVec Ideal S32768x128 .f32 :=
  concatenate S32768x128 1 [⟨S32768x8, extractStridedSlice S32768x8 ![0, 2048] p slices_S32768x3600_S32768x8_0_2048⟩,
    ⟨S32768x8, extractStridedSlice S32768x8 ![0, 3592] p slices_S32768x3600_S32768x8_0_3592⟩,
    ⟨S32768x112, broadcastInDim S32768x112 ![] bcast_S_S32768x112 (constant S_ .f32 0x00000000#32)⟩]
    concatenates_S32768x8_S32768x8_S32768x112_S32768x128_d1

/-- The reference's last eight rows of every 1024. -/
def tailRef (p : FVec Ideal S32768x3600 .f32) : FVec Ideal S256x1536 .f32 :=
  shapeCast _ (extractStridedSlice S32x8x1536 ![0, 1016, 0] (shapeCast _ (extractStridedSlice S32768x1536 ![0, 0] p
    slices_S32768x3600_S32768x1536_0_0) shapeCasts_S32768x1536_S32x1024x1536) slices_S32x1024x1536_S32x8x1536_0_1016_0)
    shapeCasts_S32x8x1536_S256x1536

theorem actRef_at (p : FVec Ideal S32768x3600 .f32) (w : FVec Ideal S1x4x1536 .f32) (h : FVec Ideal S8x1536 .f32) (r : Fin 32768) (c : Fin 1536) :
    actRef p w h (ix2 r c) = silu (convRef (padRef p h) w (ix3 ⟨r / 4096, by omega⟩ ⟨r % 4096, by omega⟩ c)) := by
  rw [← siluRef_at]
  unfold actRef
  generalize siluRef (convRef (padRef p h) w) = d
  pointwise

theorem zRef_at (p : FVec Ideal S32768x3600 .f32) (r : Fin 32768) (c : Fin 512) : zRef p (ix2 r c) = p (ix2 r ⟨1536 + c, by omega⟩) := by
  pointwise [zRef]

theorem qRef_at (p : FVec Ideal S32768x3600 .f32) (r : Fin 32768) (c : Fin 512) :
    qRef p (ix2 r c) = p (ix2 r ⟨2056 + c, by omega⟩) * Ideal.ofBits .f32 0x3E38AA3B#32 := by
  pointwise [qRef]

theorem kRef_at (p : FVec Ideal S32768x3600 .f32) (r : Fin 32768) (c : Fin 512) : kRef p (ix2 r c) = p (ix2 r ⟨2568 + c, by omega⟩) := by
  pointwise [kRef]

theorem vRef_at (p : FVec Ideal S32768x3600 .f32) (r : Fin 32768) (c : Fin 512) : vRef p (ix2 r c) = p (ix2 r ⟨3080 + c, by omega⟩) := by
  pointwise [vRef]

theorem gateRef_at (p : FVec Ideal S32768x3600 .f32) (r : Fin 32768) (c : Fin 128) :
    gateRef p (ix2 r c) = if h : c.val < 8 then p (ix2 r ⟨2048 + c, by omega⟩)
      else if h' : c.val - 8 < 8 then p (ix2 r ⟨3592 + (c - 8), by omega⟩) else 0 := by
  pointwise [gateRef]

theorem tailRef_at (p : FVec Ideal S32768x3600 .f32) (q : Fin 256) (c : Fin 1536) :
    tailRef p (ix2 q c) = p (ix2 ⟨q / 8 * 1024 + (1016 + q % 8), by omega⟩ ⟨c, by omega⟩) := by
  pointwise [tailRef]

/-- The reference's named result is the activation. -/
theorem res_eq (m : (ℓ : Loc nD τ sig) → Buf (Elt Ideal) ℓ) (c : Dev nD) :
    res_out0 m c = actRef (projRef (m ((c.tc : Thread nD τ).loc main_arg0)) (m ((c.tc : Thread nD τ).loc main_arg1))
      (m ((c.tc : Thread nD τ).loc main_arg2))) (m ((c.tc : Thread nD τ).loc main_arg3)) (m ((c.tc : Thread nD τ).loc main_arg4)) := rfl

end Reference

end Cert.Inproj

end
-- ==== Proof.InprojValue.lean ====
/- The input projection call's seven result arrays are the reference's, row by row. -/
module

public import proofs.«01_k».proof.Proof.Gen.Kernel3Ideal.Value
public import proofs.«01_k».proof.Proof.InprojRow
public import Idealize.ShloMosaic.Lib.Pipeline.ValueKit
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Inproj

open Cert.Ffn (normRow dotRow)
open Cert.Kernel3Ideal Cert.Kernel3Ideal.Gen

variable (m : (ℓ : Loc nD τ sig) → Buf (Elt Ideal) ℓ)

/-- The reference's projected rows, of the kernel's arguments. -/
def proj (c : Dev nD) : FVec Ideal ⟨2, ![32768, 3600]⟩ .f32 :=
  projRef (m ((c : Thread nD τ).loc main_arg0)) (m ((c : Thread nD τ).loc main_arg1)) (m ((c : Thread nD τ).loc main_arg2))

/-- The history argument. -/
def hist (c : Dev nD) : FVec Ideal ⟨2, ![8, 1536]⟩ .f32 := m ((c : Thread nD τ).loc main_arg4)

section Scratch

variable {κ : Kind} {sp : Space} (v : View sig κ sp S1032x1536 .f32) (f : v.ty.Contents (Elt Ideal))
  (L : List (View.Piece (Elt Ideal) S1032x1536 .f32)) (D : Fin 1032 → Fin 1536 → EReal)

/-- The first eight rows hold what `D` says. -/
def Lo : Prop := ∀ (ρ : Fin 1032) (q : Fin 1536), ρ.val < 8 → v.read (Elt Ideal) (v.writes (Elt Ideal) f L) (ix2 ρ q) = D ρ q

/-- The later rows hold what `D` says, in the first `n` columns. -/
def Hi (n : ℕ) : Prop :=
  ∀ (ρ : Fin 1032) (q : Fin 1536), 8 ≤ ρ.val → q.val < n → v.read (Elt Ideal) (v.writes (Elt Ideal) f L) (ix2 ρ q) = D ρ q

variable {v f L D}

theorem lo_cons {o : ℕ} (inb : ∀ a, (![8, o] : Fin 2 → ℕ) a + (![1024, 512] : Fin 2 → ℕ) a ≤ S1032x1536.size a)
    (w : S1024x512.Idx → Elt Ideal .f32) (h : Lo v f L D) :
    Lo v f (⟨Rect.unit ![8, o] ![1024, 512] inb, w⟩ :: L) D := fun ρ q hρ =>
  (View.read_writes_cons_unit_of_not_mem v f inb w L (ix2 ρ q) rfl 0 (Or.inl hρ)).trans (h ρ q hρ)

theorem hi_cons {o : ℕ} (inb : ∀ a, (![8, o] : Fin 2 → ℕ) a + (![1024, 512] : Fin 2 → ℕ) a ≤ S1032x1536.size a)
    (w : S1024x512.Idx → Elt Ideal .f32) (h : Hi v f L D o)
    (hw : ∀ (r : Fin 1024) (q : Fin 512) (hq : o + q.val < 1536), w (ix2 r q) = D ⟨8 + r, by omega⟩ ⟨o + q, hq⟩) :
    Hi v f (⟨Rect.unit ![8, o] ![1024, 512] inb, w⟩ :: L) D (o + 512) := by
  intro ρ q hρ hq
  by_cases ho : q.val < o
  · exact (View.read_writes_cons_unit_of_not_mem v f inb w L (ix2 ρ q) rfl 1 (Or.inl ho)).trans (h ρ q hρ ho)
  · refine (View.read_writes_cons_unit_of_mem v f inb w L (ix2 ρ q)
      (ix2 (⟨ρ.val - 8, by omega⟩ : Fin 1024) (⟨q.val - o, by omega⟩ : Fin 512)) rfl (fun a => ?_)).trans ?_
    · fin_cases a
      · show ρ.val = 8 + (ρ.val - 8); omega
      · show q.val = o + (q.val - o); omega
    · refine (hw _ _ (by show o + (q.val - o) < 1536; omega)).trans (congrArg₂ D (Fin.ext ?_) (Fin.ext ?_))
      · show 8 + (ρ.val - 8) = ρ.val; omega
      · show o + (q.val - o) = q.val; omega

theorem hi_nil : Hi v f L D 0 := fun ρ q _ h => absurd h (Nat.not_lt_zero _)

/-- What stands at a row and a column of the first `n`. -/
theorem read_all {n : ℕ} (h : Lo v f L D) (h' : Hi v f L D n) (ρ : Fin 1032) (q : Fin 1536) (hq : q.val < n) :
    v.read (Elt Ideal) (v.writes (Elt Ideal) f L) (ix2 ρ q) = D ρ q := by
  by_cases hρ : ρ.val < 8
  · exact h ρ q hρ
  · exact h' ρ q (by omega) hq

end Scratch

/-- What the scratch holds at tile `t` when it is read: eight earlier rows, then the tile's own. -/
def pad (c : Dev nD) (t : ℕ) (ht : t < 32) (ρ : Fin 1032) (q : Fin 1536) : EReal :=
  if h : t % 4 = 0 ∧ ρ.val < 8 then hist m c (ix2 ⟨ρ, h.2⟩ q) else proj m c (ix2 ⟨t * 1024 + ρ - 8, by omega⟩ ⟨q, by omega⟩)

theorem pad_eq (c : Dev nD) (t : ℕ) (ht : t < 32) (k : ℕ) (hk : k < 4) (r : Fin 1024) (q : Fin 1536) :
    pad m c t ht ⟨5 + k + r, by omega⟩ q
      = padRef (proj m c) (hist m c) (ix3 ⟨t / 4, by omega⟩ ⟨k + (t % 4 * 1024 + r), by omega⟩ q) := by
  unfold pad
  by_cases h : t % 4 = 0 ∧ 5 + k + r.val < 8
  · rw [dif_pos h, padRef_hist _ _ _ _ _ (by show k + (t % 4 * 1024 + r.val) < 3; omega)]
    refine congrArg (fun i => hist m c (ix2 i q)) (Fin.ext ?_)
    show 5 + k + r.val = 5 + (k + (t % 4 * 1024 + r.val))
    omega
  · rw [dif_neg h]
    symm
    refine padRef_seq _ _ _ _ _ _ ?_ ?_
    · show t * 1024 + (5 + k + r.val) - 8 + 3 = 4096 * (t / 4) + (k + (t % 4 * 1024 + r.val)); omega
    · show 3 ≤ k + (t % 4 * 1024 + r.val); omega

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

theorem lt (t : Fin cfg0.N) : t.val < 32 := t.isLt

/-- The three arrays a product of a tile's row reads, as the reference reads them. -/
theorem prod (c : Dev nD) (t : Fin cfg0.N) (r : Fin 1024) {n : ℕ} (w : Fin 1024 → Fin n → EReal) (q : Fin n) (j : Fin 3600)
    (hw : ∀ k, w k q = (m ((c : Thread nD τ).loc main_arg2) : FVec Ideal S1x1024x3600 .f32) (ix3 0 k j)) :
    dotRow (normRow (fun k => (iblk m c 0 t : Vec Ideal S1024x1024 .f32) (ix2 r k)) (fun k => (iblk m c 1 t : Vec Ideal S1x1024 .f32) (ix2 0 k))) w q
      = proj m c (ix2 ⟨t.val * 1024 + r, by have := lt t; omega⟩ j) := by
  unfold proj
  rw [projRef_at]
  unfold dotRow
  refine Finset.sum_congr rfl fun k _ => ?_
  rw [hw k]
  congr 2
  · funext k
    blk_point [iblk, V, idx t]
  · funext k
    blk_point [iblk, V, idx t]

/-- The host's wide weights: the projection's columns but for the eight narrow ones in the middle and those at the end. -/
def hostWide (w : FVec Ideal S1x1024x3600 .f32) : FVec Ideal S1024x3584 .bf16 :=
  truncf .bf16 (concatenate S1024x3584 1
    [⟨S1024x2048, extractStridedSlice S1024x2048 ![0, 0] (shapeCast S1024x3600 w shapeCasts_S1x1024x3600_S1024x3600) slices_S1024x3600_S1024x2048_0_0⟩,
     ⟨S1024x1536, extractStridedSlice S1024x1536 ![0, 2056] (shapeCast S1024x3600 w shapeCasts_S1x1024x3600_S1024x3600) slices_S1024x3600_S1024x1536_0_2056⟩]
    concatenates_S1024x2048_S1024x1536_S1024x3584_d1) bitsLt_bf16_f32

/-- The host's narrow weights, filled up with zeros. -/
def hostNarrow (w : FVec Ideal S1x1024x3600 .f32) : FVec Ideal S1024x128 .bf16 :=
  truncf .bf16 (concatenate S1024x128 1
    [⟨S1024x8, extractStridedSlice S1024x8 ![0, 2048] (shapeCast S1024x3600 w shapeCasts_S1x1024x3600_S1024x3600) slices_S1024x3600_S1024x8_0_2048⟩,
     ⟨S1024x8, extractStridedSlice S1024x8 ![0, 3592] (shapeCast S1024x3600 w shapeCasts_S1x1024x3600_S1024x3600) slices_S1024x3600_S1024x8_0_3592⟩,
     ⟨S1024x112, broadcastInDim S1024x112 ![] bcast_S_S1024x112 (constant S_ .f32 0x00000000#32)⟩]
    concatenates_S1024x8_S1024x8_S1024x112_S1024x128_d1) bitsLt_bf16_f32

theorem hostWide_at (w : FVec Ideal S1x1024x3600 .f32) (k : Fin 1024) (q : Fin 3584) :
    hostWide w (ix2 k q) = if h : q.val < 2048 then w (ix3 0 k ⟨q, by omega⟩) else w (ix3 0 k ⟨2056 + (q - 2048), by omega⟩) := by
  pointwise [hostWide]

theorem hostNarrow_at (w : FVec Ideal S1x1024x3600 .f32) (k : Fin 1024) (q : Fin 128) :
    hostNarrow w (ix2 k q) = if h : q.val < 8 then w (ix3 0 k ⟨2048 + q, by omega⟩)
      else if h' : q.val - 8 < 8 then w (ix3 0 k ⟨3592 + (q - 8), by omega⟩) else 0 := by
  pointwise [hostNarrow]

theorem V_wide (c : Dev nD) : V m c main_v4 = hostWide (m ((c : Thread nD τ).loc main_arg2)) := rfl

theorem V_narrow (c : Dev nD) : V m c main_v9 = hostNarrow (m ((c : Thread nD τ).loc main_arg2)) := rfl

theorem iblk_wide (c : Dev nD) (t : Fin cfg0.N) (k : Fin 1024) (q : Fin 3584) :
    (iblk m c 2 t : Vec Ideal S1024x3584 .bf16) (ix2 k q) = hostWide (m ((c : Thread nD τ).loc main_arg2)) (ix2 k q) := by
  rw [← V_wide]
  have he : ((cfg0.win 2).blk t).view.emb (ix2 k q) = (ix2 k q : S1024x3584.Idx) := by
    blk_ext [idx t]
  exact congrArg (V m c main_v4) he

theorem iblk_narrow (c : Dev nD) (t : Fin cfg0.N) (k : Fin 1024) (q : Fin 128) :
    (iblk m c 3 t : Vec Ideal S1024x128 .bf16) (ix2 k q) = hostNarrow (m ((c : Thread nD τ).loc main_arg2)) (ix2 k q) := by
  rw [← V_narrow]
  have he : ((cfg0.win 3).blk t).view.emb (ix2 k q) = (ix2 k q : S1024x128.Idx) := by
    blk_ext [idx t]
  exact congrArg (V m c main_v9) he

/-- A chunk of the wide weights, as the argument holds it. -/
theorem wide (c : Dev nD) (t : Fin cfg0.N) (o : ℕ) (inb : ∀ a, (![0, o] : Fin 2 → ℕ) a + (![1024, 512] : Fin 2 → ℕ) a ≤ S1024x3584.size a)
    (q : Fin 512) (j : Fin 3600) (hj : (o + q.val < 2048 ∧ j.val = o + q) ∨ (2048 ≤ o + q.val ∧ j.val = 8 + (o + q))) (k : Fin 1024) :
    View.ld (iblk m c 2 t : Vec Ideal S1024x3584 .bf16) (Rect.unit ![0, o] ![1024, 512] inb) (ix2 k q)
      = (m ((c : Thread nD τ).loc main_arg2) : FVec Ideal S1x1024x3600 .f32) (ix3 0 k j) := by
  have hq : o + q.val < 3584 := by
    have h : o + 512 ≤ 3584 := inb 1
    omega
  refine (View.ld_unit_apply_of _ _ _ inb (ix2 k q) (ix2 k (⟨o + q, hq⟩ : Fin 3584)) (fun a => ?_)).trans ?_
  · fin_cases a
    · exact (Nat.zero_add _).symm
    · rfl
  · refine (iblk_wide m c t k _).trans ((hostWide_at _ _ _).trans ?_)
    rcases hj with ⟨h, e⟩ | ⟨h, e⟩
    · rw [dif_pos h]
      exact congrArg (fun j => (m ((c : Thread nD τ).loc main_arg2) : FVec Ideal S1x1024x3600 .f32) (ix3 0 k j)) (Fin.ext e.symm)
    · rw [dif_neg (by show ¬ o + q.val < 2048; omega)]
      refine congrArg (fun j => (m ((c : Thread nD τ).loc main_arg2) : FVec Ideal S1x1024x3600 .f32) (ix3 0 k j)) (Fin.ext ?_)
      show 2056 + (o + q.val - 2048) = j.val
      omega

/-- The convolution's weights, as the argument holds them. -/
theorem taps (c : Dev nD) (t : Fin cfg0.N) (i o : ℕ) (inb : ∀ a, (![i, o] : Fin 2 → ℕ) a + (![1, 512] : Fin 2 → ℕ) a ≤ S4x1536.size a)
    (hi : i < 4) (q : Fin 512) (hq : o + q.val < 1536) :
    View.ld (iblk m c 4 t : Vec Ideal S4x1536 .f32) (Rect.unit ![i, o] ![1, 512] inb) (ix2 0 q)
      = (m ((c : Thread nD τ).loc main_arg3) : FVec Ideal S1x4x1536 .f32) (ix3 0 ⟨i, hi⟩ ⟨o + q, hq⟩) := by
  refine (View.ld_unit_apply_of _ _ _ inb (ix2 0 q) (ix2 (⟨i, hi⟩ : Fin 4) (⟨o + q, hq⟩ : Fin 1536)) (fun a => ?_)).trans ?_
  · fin_cases a <;> rfl
  · blk_point [iblk, V, idx t]

theorem iblk_hist (c : Dev nD) (t : Fin cfg0.N) (i : Fin 8) (q : Fin 1536) :
    (iblk m c 5 t : Vec Ideal S8x1536 .f32) (ix2 i q) = hist m c (ix2 i q) := by
  unfold hist
  blk_point [iblk, V, idx t]

/-- The chunks of products that go to the scratch. -/
theorem chunk0 (c : Dev nD) (t : Fin cfg0.N) (inb) (r : Fin 1024) (q : Fin 512) (hq : 0 + q.val < 1536) :
    k0_pay4 (F := Ideal) (iblk m c 0 t) (iblk m c 1 t) (View.ld (iblk m c 2 t : Vec Ideal S1024x3584 .bf16) (Rect.unit ![0, 0] ![1024, 512] inb)) (ix2 r q)
      = pad m c t.val (lt t) ⟨8 + r, by omega⟩ ⟨0 + q, hq⟩ := by
  unfold pad
  rw [dif_neg (by show ¬ (_ ∧ 8 + r.val < 8); omega), pay4_at]
  refine (prod m c t r _ q ⟨0 + q, by omega⟩ (wide m c t 0 inb q _ (Or.inl ⟨by omega, rfl⟩))).trans ?_
  refine congrArg (fun i => proj m c (ix2 i _)) (Fin.ext ?_)
  show t.val * 1024 + r.val = t.val * 1024 + (8 + r.val) - 8
  omega

theorem chunk1 (c : Dev nD) (t : Fin cfg0.N) (inb) (r : Fin 1024) (q : Fin 512) (hq : 512 + q.val < 1536) :
    k0_pay7 (F := Ideal) (k0_pay3 (iblk m c 0 t) (iblk m c 1 t)) (View.ld (iblk m c 2 t : Vec Ideal S1024x3584 .bf16) (Rect.unit ![0, 512] ![1024, 512] inb)) (ix2 r q)
      = pad m c t.val (lt t) ⟨8 + r, by omega⟩ ⟨512 + q, hq⟩ := by
  unfold pad
  rw [dif_neg (by show ¬ (_ ∧ 8 + r.val < 8); omega), pay7_at]
  simp only [pay3_at]
  refine (prod m c t r _ q ⟨512 + q, by omega⟩ (wide m c t 512 inb q _ (Or.inl ⟨by omega, rfl⟩))).trans ?_
  refine congrArg (fun i => proj m c (ix2 i _)) (Fin.ext ?_)
  show t.val * 1024 + r.val = t.val * 1024 + (8 + r.val) - 8
  omega

theorem chunk2 (c : Dev nD) (t : Fin cfg0.N) (inb) (r : Fin 1024) (q : Fin 512) (hq : 1024 + q.val < 1536) :
    k0_pay11 (F := Ideal) (k0_pay3 (iblk m c 0 t) (iblk m c 1 t)) (View.ld (iblk m c 2 t : Vec Ideal S1024x3584 .bf16) (Rect.unit ![0, 1024] ![1024, 512] inb)) (ix2 r q)
      = pad m c t.val (lt t) ⟨8 + r, by omega⟩ ⟨1024 + q, hq⟩ := by
  unfold pad
  rw [dif_neg (by show ¬ (_ ∧ 8 + r.val < 8); omega), pay11_at]
  simp only [pay3_at]
  refine (prod m c t r _ q ⟨1024 + q, by omega⟩ (wide m c t 1024 inb q _ (Or.inl ⟨by omega, rfl⟩))).trans ?_
  refine congrArg (fun i => proj m c (ix2 i _)) (Fin.ext ?_)
  show t.val * 1024 + r.val = t.val * 1024 + (8 + r.val) - 8
  omega

section Reads

variable {κ : Kind} {sp : Space} {v : View sig κ sp S1032x1536 .f32} {f : v.ty.Contents (Elt Ideal)}
  {L : List (View.Piece (Elt Ideal) S1032x1536 .f32)} {D : Fin 1032 → Fin 1536 → EReal}

/-- The convolution's read of 1024 rows from row `a` on. -/
theorem read_tap {n : ℕ} (h : Lo v f L D) (h' : Hi v f L D n) (a o : ℕ)
    (inb : ∀ i, (![a, o] : Fin 2 → ℕ) i + (![1024, 512] : Fin 2 → ℕ) i ≤ S1032x1536.size i) (hn : o + 512 ≤ n)
    (r : Fin 1024) (q : Fin 512) (ha : a + r.val < 1032) (hq : o + q.val < 1536) :
    View.ld (v.read (Elt Ideal) (v.writes (Elt Ideal) f L)) (Rect.unit ![a, o] ![1024, 512] inb) (ix2 r q) = D ⟨a + r, ha⟩ ⟨o + q, hq⟩ :=
  (View.ld_unit_apply_of _ _ _ inb (ix2 r q) (ix2 (⟨a + r, ha⟩ : Fin 1032) (⟨o + q, hq⟩ : Fin 1536)) (fun i => by fin_cases i <;> rfl)).trans
    (read_all h h' _ _ (by show o + q.val < n; omega))

/-- The read of the tile's own rows. -/
theorem read_own {n : ℕ} (h' : Hi v v.junk L D n) (o : ℕ)
    (inb : ∀ i, (![8, o] : Fin 2 → ℕ) i + (![1024, 512] : Fin 2 → ℕ) i ≤ S1032x1536.size i) (hn : o + 512 ≤ n)
    (r : Fin 1024) (q : Fin 512) (hq : o + q.val < 1536) :
    v.readCov L (Rect.unit (s := S1032x1536) ![8, o] ![1024, 512] inb).toLoadRect (ix2 r q) = D ⟨8 + r, by omega⟩ ⟨o + q, hq⟩ := by
  show View.ld (v.read (Elt Ideal) (v.writes (Elt Ideal) v.junk L)) (Rect.unit ![8, o] ![1024, 512] inb) (ix2 r q) = _
  exact (View.ld_unit_apply_of _ _ _ inb (ix2 r q) (ix2 (⟨8 + r, by omega⟩ : Fin 1032) (⟨o + q, hq⟩ : Fin 1536)) (fun i => by fin_cases i <;> rfl)).trans
    (h' _ _ (Nat.le_add_right _ _) (by show o + q.val < n; omega))

/-- The read of the last eight rows. -/
theorem read_tail (h' : Hi v v.junk L D 1536)
    (inb : ∀ i, (![1024, 0] : Fin 2 → ℕ) i + (![8, 1536] : Fin 2 → ℕ) i ≤ S1032x1536.size i) (i : Fin 8) (q : Fin 1536) :
    v.readCov L (Rect.unit (s := S1032x1536) ![1024, 0] ![8, 1536] inb).toLoadRect (ix2 i q) = D ⟨1024 + i, by omega⟩ q := by
  show View.ld (v.read (Elt Ideal) (v.writes (Elt Ideal) v.junk L)) (Rect.unit ![1024, 0] ![8, 1536] inb) (ix2 i q) = _
  exact (View.ld_unit_apply_of _ _ _ inb (ix2 i q) (ix2 (⟨1024 + i, by omega⟩ : Fin 1032) q)
    (fun a => by fin_cases a; exacts [rfl, (Nat.zero_add _).symm])).trans (h' _ _ (by show 8 ≤ 1024 + i.val; omega) q.isLt)

/-- The scratch's first rows after they have been written over. -/
theorem canon_first (v : View sig κ sp S1032x1536 .f32) (inb : ∀ i, (![0, 0] : Fin 2 → ℕ) i + (![8, 1536] : Fin 2 → ℕ) i ≤ S1032x1536.size i)
    (w : S8x1536.Idx → Elt Ideal .f32) (i : Fin 8) (q : Fin 1536) :
    View.canon (⟨Rect.unit (s := S1032x1536) ![0, 0] ![8, 1536] inb, w⟩ :: L) (ix2 (⟨i, by omega⟩ : Fin 1032) q) = w (ix2 i q) := by
  rw [← View.read_writes_junk_eq_canon v]
  exact View.read_writes_cons_unit_of_mem v v.junk inb w L _ (ix2 i q) rfl (fun a => by fin_cases a <;> exact (Nat.zero_add _).symm)

/-- The convolution's read, where the scratch's whole contents are written by the tile. -/
theorem read_cov {n : ℕ} (h : Lo v v.junk L D) (h' : Hi v v.junk L D n) (a o : ℕ)
    (inb : ∀ i, (![a, o] : Fin 2 → ℕ) i + (![1024, 512] : Fin 2 → ℕ) i ≤ S1032x1536.size i) (hn : o + 512 ≤ n)
    (r : Fin 1024) (q : Fin 512) (ha : a + r.val < 1032) (hq : o + q.val < 1536) :
    v.readCov L (Rect.unit (s := S1032x1536) ![a, o] ![1024, 512] inb).toLoadRect (ix2 r q) = D ⟨a + r, ha⟩ ⟨o + q, hq⟩ :=
  read_tap h h' a o inb hn r q ha hq

end Reads

/-- The three chunks a tile writes to the scratch. -/
abbrev P0 (c : Dev nD) (t : Fin cfg0.N) : View.Piece (Elt Ideal) S1032x1536 .f32 :=
  ⟨Rect.unit ![8, 0] ![1024, 512] inb_S1032x1536_S1024x512_8_0,
    k0_pay4 (F := Ideal) (iblk m c 0 t) (iblk m c 1 t) (View.ld (iblk m c 2 t) (Rect.unit ![0, 0] ![1024, 512] inb_S1024x3584_S1024x512_0_0))⟩
abbrev P1 (c : Dev nD) (t : Fin cfg0.N) : View.Piece (Elt Ideal) S1032x1536 .f32 :=
  ⟨Rect.unit ![8, 512] ![1024, 512] inb_S1032x1536_S1024x512_8_512,
    k0_pay7 (F := Ideal) (k0_pay3 (iblk m c 0 t) (iblk m c 1 t)) (View.ld (iblk m c 2 t) (Rect.unit ![0, 512] ![1024, 512] inb_S1024x3584_S1024x512_0_512))⟩
abbrev P2 (c : Dev nD) (t : Fin cfg0.N) : View.Piece (Elt Ideal) S1032x1536 .f32 :=
  ⟨Rect.unit ![8, 1024] ![1024, 512] inb_S1032x1536_S1024x512_8_1024,
    k0_pay11 (F := Ideal) (k0_pay3 (iblk m c 0 t) (iblk m c 1 t)) (View.ld (iblk m c 2 t) (Rect.unit ![0, 1024] ![1024, 512] inb_S1024x3584_S1024x512_0_1024))⟩

section Chunks

variable {κ : Kind} {sp : Space} (v : View sig κ sp S1032x1536 .f32) (f : v.ty.Contents (Elt Ideal))
  (L : List (View.Piece (Elt Ideal) S1032x1536 .f32))

theorem hi1 (c : Dev nD) (t : Fin cfg0.N) : Hi v f (P0 m c t :: L) (pad m c t.val (lt t)) 512 :=
  hi_cons (o := 0) _ _ hi_nil (chunk0 m c t _)

theorem hi2 (c : Dev nD) (t : Fin cfg0.N) : Hi v f (P1 m c t :: P0 m c t :: L) (pad m c t.val (lt t)) 1024 :=
  hi_cons (o := 512) _ _ (hi1 m v f L c t) (chunk1 m c t _)

theorem hi3 (c : Dev nD) (t : Fin cfg0.N) : Hi v f (P2 m c t :: P1 m c t :: P0 m c t :: L) (pad m c t.val (lt t)) 1536 :=
  hi_cons (o := 1024) _ _ (hi2 m v f L c t) (chunk2 m c t _)

variable {v f L}

theorem lo1 (c : Dev nD) (t : Fin cfg0.N) (h : Lo v f L (pad m c t.val (lt t))) : Lo v f (P0 m c t :: L) (pad m c t.val (lt t)) :=
  lo_cons _ _ h

theorem lo2 (c : Dev nD) (t : Fin cfg0.N) (h : Lo v f L (pad m c t.val (lt t))) : Lo v f (P1 m c t :: P0 m c t :: L) (pad m c t.val (lt t)) :=
  lo_cons _ _ (lo1 m c t h)

theorem lo3 (c : Dev nD) (t : Fin cfg0.N) (h : Lo v f L (pad m c t.val (lt t))) :
    Lo v f (P2 m c t :: P1 m c t :: P0 m c t :: L) (pad m c t.val (lt t)) :=
  lo_cons _ _ (lo2 m c t h)

end Chunks

/-- The last eight rows a tile leaves for the next one. -/
theorem carry (c : Dev nD) (t : Fin cfg0.N) (i : Fin 8) (q : Fin 1536) :
    (outsAt0 m c t.val t.isLt).2.2.2.2.2.2.2 (ix2 (⟨i, by omega⟩ : Fin 1032) q) = pad m c t.val (lt t) ⟨1024 + i, by omega⟩ q := by
  generalize hy : (ix2 (⟨i, by omega⟩ : Fin 1032) q : S1032x1536.Idx) = y
  by_cases h : t.val % 4 = 0
  · rw [outsAt0_A m c t h]
    dsimp only
    unfold sout0_A_0
    frame_out
    subst hy
    refine (canon_first (View.whole cc0_scratch0) _ _ i q).trans ?_
    refine (congrFun (pay1_eq _) _).trans ?_
    exact read_tail (hi3 m _ _ _ c t) _ i q
  · rw [outsAt0_B m c t h]
    dsimp only
    unfold sout0_B_0
    frame_out
    subst hy
    refine (canon_first (View.whole cc0_scratch0) _ _ i q).trans ?_
    refine (congrFun (pay1_eq _) _).trans ?_
    exact read_tail (hi3 m _ _ _ c t) _ i q

theorem tail_at (c : Dev nD) (t : Fin cfg0.N) (i : Fin 8) (q : Fin 1536) :
    ((dats m 0 c).after 12 t : S8x1536.Idx → Elt Ideal .f32) (ix2 i q) = pad m c t.val (lt t) ⟨1024 + i, by omega⟩ q := by
  generalize hy : (ix2 i q : S8x1536.Idx) = y
  rw [after0_12]
  by_cases h : t.val % 4 = 0
  · rw [outsAt0_A m c t h]
    dsimp only
    unfold out0_A_12
    frame_out
    subst hy
    exact read_tail (hi3 m _ _ _ c t) _ i q
  · rw [outsAt0_B m c t h]
    dsimp only
    unfold out0_B_12
    frame_out
    subst hy
    exact read_tail (hi3 m _ _ _ c t) _ i q

/-- A sequence's first tile begins behind the history; -/
theorem lo_first (c : Dev nD) (t : Fin cfg0.N) (h : t.val % 4 = 0)
    (inb : ∀ i, (![0, 0] : Fin 2 → ℕ) i + (![8, 1536] : Fin 2 → ℕ) i ≤ S1032x1536.size i) :
    Lo (View.whole cc0_scratch0) (View.whole cc0_scratch0).junk [⟨Rect.unit ![0, 0] ![8, 1536] inb, k0_pay2 (F := Ideal) (iblk m c 5 t)⟩]
      (pad m c t.val (lt t)) := by
  intro ρ q hρ
  refine (View.read_writes_cons_unit_of_mem _ _ inb _ _ _ (ix2 (⟨ρ, hρ⟩ : Fin 8) q) rfl
      (fun a => by fin_cases a <;> exact (Nat.zero_add _).symm)).trans ?_
  rw [pay2_eq, iblk_hist]
  unfold pad
  rw [dif_pos ⟨h, hρ⟩]

/-- a later one behind the last rows of the tile before it. -/
theorem lo_next (c : Dev nD) (t : Fin cfg0.N) (h : t.val % 4 ≠ 0) (hp : t.val - 1 < cfg0.N) (hw : (Memref.whole cc0_scratch0).IsWhole) :
    Lo (View.whole cc0_scratch0) (hw.unread (outsAt0 m c (t.val - 1) hp).2.2.2.2.2.2.2) [] (pad m c t.val (lt t)) := by
  intro ρ q hρ
  rw [View.writes_nil]
  refine (congrFun (hw.read_unread _) _).trans ((carry m c ⟨t.val - 1, hp⟩ ⟨ρ, hρ⟩ q).trans ?_)
  unfold pad
  rw [dif_neg (by show ¬ (_ ∧ 1024 + ρ.val < 8); omega), dif_neg (by omega)]
  refine congrArg (fun i => proj m c (ix2 i _)) (Fin.ext ?_)
  show (t.val - 1) * 1024 + (1024 + ρ.val) - 8 = t.val * 1024 + ρ.val - 8
  omega

/-- A tile's activation. -/
def tileAct (c : Dev nD) (t : Fin cfg0.N) (r : Fin 1024) (q : Fin 1536) : EReal :=
  silu (conv4 (fun i => (m ((c : Thread nD τ).loc main_arg3) : FVec Ideal S1x4x1536 .f32) (ix3 0 i q)) (pad m c t.val (lt t) ⟨5 + r, by omega⟩ q)
    (pad m c t.val (lt t) ⟨6 + r, by omega⟩ q) (pad m c t.val (lt t) ⟨7 + r, by omega⟩ q) (pad m c t.val (lt t) ⟨8 + r, by omega⟩ q))

theorem piece (c : Dev nD) (t : Fin cfg0.N) (o : ℕ) (r : Fin 1024) (q : Fin 512) (hq : o + q.val < 1536) (r' : Fin 1024) (q' : Fin 1536)
    (hr : r'.val = r.val) (hq' : q'.val = o + q.val) {w0 w1 w2 w3 a b d e : EReal}
    (h0 : w0 = (m ((c : Thread nD τ).loc main_arg3) : FVec Ideal S1x4x1536 .f32) (ix3 0 0 ⟨o + q, hq⟩))
    (h1 : w1 = (m ((c : Thread nD τ).loc main_arg3) : FVec Ideal S1x4x1536 .f32) (ix3 0 1 ⟨o + q, hq⟩))
    (h2 : w2 = (m ((c : Thread nD τ).loc main_arg3) : FVec Ideal S1x4x1536 .f32) (ix3 0 2 ⟨o + q, hq⟩))
    (h3 : w3 = (m ((c : Thread nD τ).loc main_arg3) : FVec Ideal S1x4x1536 .f32) (ix3 0 3 ⟨o + q, hq⟩))
    (ha : a = pad m c t.val (lt t) ⟨5 + r, by omega⟩ ⟨o + q, hq⟩) (hb : b = pad m c t.val (lt t) ⟨6 + r, by omega⟩ ⟨o + q, hq⟩)
    (hd : d = pad m c t.val (lt t) ⟨7 + r, by omega⟩ ⟨o + q, hq⟩) (he : e = pad m c t.val (lt t) ⟨8 + r, by omega⟩ ⟨o + q, hq⟩) :
    silu (w0 * a + w1 * b + w2 * d + w3 * e) = tileAct m c t r' q' := by
  obtain rfl : r' = r := Fin.ext hr
  obtain rfl : q' = ⟨o + q, hq⟩ := Fin.ext hq'
  rw [h0, h1, h2, h3, ha, hb, hd, he]
  rfl

theorem act_first (c : Dev nD) (t : Fin cfg0.N) (h : t.val % 4 = 0) (y : S1024x1536.Idx) :
    ((dats m 0 c).after 6 t : S1024x1536.Idx → Elt Ideal .f32) y = tileAct m c t (y 0) (y 1) := by
  rw [after0_6, outsAt0_A m c t h]
  dsimp only
  unfold out0_A_6
  frame_out
  have lo := lo_first m c t h inb_S1032x1536_S8x1536_0_0
  canon_tiles x h
  all_goals idx_vars x
  · refine (conv2_at _ _ _ _ _ _ _ _ x0 x1).trans (piece m c t 1024 x0 x1 (by omega) _ _ h0 h1 ?_ ?_ ?_ ?_ ?_ ?_ ?_ ?_)
    · exact taps m c t 0 1024 _ (by omega) x1 _
    · exact taps m c t 1 1024 _ (by omega) x1 _
    · exact taps m c t 2 1024 _ (by omega) x1 _
    · exact taps m c t 3 1024 _ (by omega) x1 _
    · exact read_cov (lo3 m c t lo) (hi3 m _ _ _ c t) 5 1024 _ (le_refl _) x0 x1 _ _
    · exact read_cov (lo3 m c t lo) (hi3 m _ _ _ c t) 6 1024 _ (le_refl _) x0 x1 _ _
    · exact read_cov (lo3 m c t lo) (hi3 m _ _ _ c t) 7 1024 _ (le_refl _) x0 x1 _ _
    · exact read_cov (lo3 m c t lo) (hi3 m _ _ _ c t) 8 1024 _ (le_refl _) x0 x1 _ _
  · refine (conv1_at _ _ _ _ _ _ _ _ x0 x1).trans (piece m c t 512 x0 x1 (by omega) _ _ h0 h1 ?_ ?_ ?_ ?_ ?_ ?_ ?_ ?_)
    · exact taps m c t 0 512 _ (by omega) x1 _
    · exact taps m c t 1 512 _ (by omega) x1 _
    · exact taps m c t 2 512 _ (by omega) x1 _
    · exact taps m c t 3 512 _ (by omega) x1 _
    · exact read_cov (lo2 m c t lo) (hi2 m _ _ _ c t) 5 512 _ (le_refl _) x0 x1 _ _
    · exact read_cov (lo2 m c t lo) (hi2 m _ _ _ c t) 6 512 _ (le_refl _) x0 x1 _ _
    · exact read_cov (lo2 m c t lo) (hi2 m _ _ _ c t) 7 512 _ (le_refl _) x0 x1 _ _
    · exact read_cov (lo2 m c t lo) (hi2 m _ _ _ c t) 8 512 _ (le_refl _) x0 x1 _ _
  · refine (conv0_at _ _ _ _ _ _ _ _ x0 x1).trans (piece m c t 0 x0 x1 (by omega) _ _ h0 (by omega) ?_ ?_ ?_ ?_ ?_ ?_ ?_ ?_)
    · exact taps m c t 0 0 _ (by omega) x1 _
    · exact taps m c t 1 0 _ (by omega) x1 _
    · exact taps m c t 2 0 _ (by omega) x1 _
    · exact taps m c t 3 0 _ (by omega) x1 _
    · exact read_cov (lo1 m c t lo) (hi1 m _ _ _ c t) 5 0 _ (le_refl _) x0 x1 _ _
    · exact read_cov (lo1 m c t lo) (hi1 m _ _ _ c t) 6 0 _ (le_refl _) x0 x1 _ _
    · exact read_cov (lo1 m c t lo) (hi1 m _ _ _ c t) 7 0 _ (le_refl _) x0 x1 _ _
    · exact read_cov (lo1 m c t lo) (hi1 m _ _ _ c t) 8 0 _ (le_refl _) x0 x1 _ _

theorem act_next (c : Dev nD) (t : Fin cfg0.N) (h : t.val % 4 ≠ 0) (y : S1024x1536.Idx) :
    ((dats m 0 c).after 6 t : S1024x1536.Idx → Elt Ideal .f32) y = tileAct m c t (y 0) (y 1) := by
  rw [after0_6, outsAt0_B m c t h]
  dsimp only
  unfold out0_B_6
  frame_out
  have lo := lo_next m c t h (lt_of_le_of_lt (Nat.sub_le _ _) t.isLt) (Memref.isWhole_whole _)
  canon_tiles x h
  all_goals idx_vars x
  · refine (conv2_at _ _ _ _ _ _ _ _ x0 x1).trans (piece m c t 1024 x0 x1 (by omega) _ _ h0 h1 ?_ ?_ ?_ ?_ ?_ ?_ ?_ ?_)
    · exact taps m c t 0 1024 _ (by omega) x1 _
    · exact taps m c t 1 1024 _ (by omega) x1 _
    · exact taps m c t 2 1024 _ (by omega) x1 _
    · exact taps m c t 3 1024 _ (by omega) x1 _
    · exact read_tap (lo3 m c t lo) (hi3 m _ _ _ c t) 5 1024 _ (le_refl _) x0 x1 _ _
    · exact read_tap (lo3 m c t lo) (hi3 m _ _ _ c t) 6 1024 _ (le_refl _) x0 x1 _ _
    · exact read_tap (lo3 m c t lo) (hi3 m _ _ _ c t) 7 1024 _ (le_refl _) x0 x1 _ _
    · exact read_own (hi3 m _ _ _ c t) 1024 _ (le_refl _) x0 x1 _
  · refine (conv1_at _ _ _ _ _ _ _ _ x0 x1).trans (piece m c t 512 x0 x1 (by omega) _ _ h0 h1 ?_ ?_ ?_ ?_ ?_ ?_ ?_ ?_)
    · exact taps m c t 0 512 _ (by omega) x1 _
    · exact taps m c t 1 512 _ (by omega) x1 _
    · exact taps m c t 2 512 _ (by omega) x1 _
    · exact taps m c t 3 512 _ (by omega) x1 _
    · exact read_tap (lo2 m c t lo) (hi2 m _ _ _ c t) 5 512 _ (le_refl _) x0 x1 _ _
    · exact read_tap (lo2 m c t lo) (hi2 m _ _ _ c t) 6 512 _ (le_refl _) x0 x1 _ _
    · exact read_tap (lo2 m c t lo) (hi2 m _ _ _ c t) 7 512 _ (le_refl _) x0 x1 _ _
    · exact read_own (hi2 m _ _ _ c t) 512 _ (le_refl _) x0 x1 _
  · refine (conv0_at _ _ _ _ _ _ _ _ x0 x1).trans (piece m c t 0 x0 x1 (by omega) _ _ h0 (by omega) ?_ ?_ ?_ ?_ ?_ ?_ ?_ ?_)
    · exact taps m c t 0 0 _ (by omega) x1 _
    · exact taps m c t 1 0 _ (by omega) x1 _
    · exact taps m c t 2 0 _ (by omega) x1 _
    · exact taps m c t 3 0 _ (by omega) x1 _
    · exact read_tap (lo1 m c t lo) (hi1 m _ _ _ c t) 5 0 _ (le_refl _) x0 x1 _ _
    · exact read_tap (lo1 m c t lo) (hi1 m _ _ _ c t) 6 0 _ (le_refl _) x0 x1 _ _
    · exact read_tap (lo1 m c t lo) (hi1 m _ _ _ c t) 7 0 _ (le_refl _) x0 x1 _ _
    · exact read_own (hi1 m _ _ _ c t) 0 _ (le_refl _) x0 x1 _

/-- A tile's output gate. -/
theorem z_at (c : Dev nD) (t : Fin cfg0.N) (r : Fin 1024) (q : Fin 512) :
    ((dats m 0 c).after 7 t : S1024x512.Idx → Elt Ideal .f32) (ix2 r q)
      = proj m c (ix2 ⟨t.val * 1024 + r, by have := lt t; omega⟩ ⟨1536 + q, by omega⟩) := by
  have e : k0_pay5 (F := Ideal) (k0_pay3 (iblk m c 0 t) (iblk m c 1 t))
      (View.ld (iblk m c 2 t : Vec Ideal S1024x3584 .bf16) (Rect.unit ![0, 1536] ![1024, 512] inb_S1024x3584_S1024x512_0_1536)) (ix2 r q)
      = proj m c (ix2 ⟨t.val * 1024 + r, by have := lt t; omega⟩ ⟨1536 + q, by omega⟩) := by
    rw [pay5_at]
    simp only [pay3_at]
    exact prod m c t r _ q ⟨1536 + q, by omega⟩ (wide m c t 1536 _ q _ (Or.inl ⟨by omega, rfl⟩))
  refine Eq.trans ?_ e
  generalize (ix2 r q : S1024x512.Idx) = y
  rw [after0_7]
  by_cases h : t.val % 4 = 0
  · rw [outsAt0_A m c t h]
    dsimp only
    unfold out0_A_7
    frame_out
    rfl
  · rw [outsAt0_B m c t h]
    dsimp only
    unfold out0_B_7
    frame_out
    rfl

theorem z_final (c : Dev nD) : (dats m 0 c).arrAt 7 cfg0.N = zRef (proj m c) := by
  refine (dats m 0 c).arrAt_eq_of_covers 7 _ (by decide +kernel) fun t _ y => ?_
  blk_simp
  obtain ⟨r, q, rfl⟩ : ∃ (r : Fin 1024) (q : Fin 512), y = ix2 r q := ⟨y 0, y 1, by funext a; fin_cases a <;> rfl⟩
  refine (z_at m c t r q).trans ?_
  have he : ((cfg0.win 7).blk t).view.emb (ix2 r q) = (ix2 ⟨t.val * 1024 + r, by have := lt t; omega⟩ q : S32768x512.Idx) := by
    blk_ext [idx t]
  exact (zRef_at _ _ _).symm.trans (congrArg _ he).symm

/-- A tile's scaled queries. -/
theorem q_at (c : Dev nD) (t : Fin cfg0.N) (r : Fin 1024) (q : Fin 512) :
    ((dats m 0 c).after 8 t : S1024x512.Idx → Elt Ideal .bf16) (ix2 r q)
      = proj m c (ix2 ⟨t.val * 1024 + r, by have := lt t; omega⟩ ⟨2056 + q, by omega⟩) * Ideal.ofBits .f32 0x3E38AA3B#32 := by
  have e : k0_pay8 (F := Ideal) (k0_pay3 (iblk m c 0 t) (iblk m c 1 t))
      (View.ld (iblk m c 2 t : Vec Ideal S1024x3584 .bf16) (Rect.unit ![0, 2048] ![1024, 512] inb_S1024x3584_S1024x512_0_2048)) (ix2 r q)
      = proj m c (ix2 ⟨t.val * 1024 + r, by have := lt t; omega⟩ ⟨2056 + q, by omega⟩) * Ideal.ofBits .f32 0x3E38AA3B#32 := by
    rw [pay8_at]
    simp only [pay3_at]
    exact congrArg (· * Ideal.ofBits .f32 0x3E38AA3B#32) (prod m c t r _ q ⟨2056 + q, by omega⟩ (wide m c t 2048 _ q _ (Or.inr ⟨by omega, by show 2056 + q.val = 8 + (2048 + q.val); omega⟩)))
  refine Eq.trans ?_ e
  generalize (ix2 r q : S1024x512.Idx) = y
  rw [after0_8]
  by_cases h : t.val % 4 = 0
  · rw [outsAt0_A m c t h]
    dsimp only
    unfold out0_A_8
    frame_out
    rfl
  · rw [outsAt0_B m c t h]
    dsimp only
    unfold out0_B_8
    frame_out
    rfl

theorem q_final (c : Dev nD) : (dats m 0 c).arrAt 8 cfg0.N = qRef (proj m c) := by
  refine (dats m 0 c).arrAt_eq_of_covers 8 _ (by decide +kernel) fun t _ y => ?_
  blk_simp
  obtain ⟨r, q, rfl⟩ : ∃ (r : Fin 1024) (q : Fin 512), y = ix2 r q := ⟨y 0, y 1, by funext a; fin_cases a <;> rfl⟩
  refine (q_at m c t r q).trans ?_
  have he : ((cfg0.win 8).blk t).view.emb (ix2 r q) = (ix2 ⟨t.val * 1024 + r, by have := lt t; omega⟩ q : S32768x512.Idx) := by
    blk_ext [idx t]
  exact (qRef_at _ _ _).symm.trans (congrArg _ he).symm

/-- A tile's keys. -/
theorem k_at (c : Dev nD) (t : Fin cfg0.N) (r : Fin 1024) (q : Fin 512) :
    ((dats m 0 c).after 9 t : S1024x512.Idx → Elt Ideal .bf16) (ix2 r q)
      = proj m c (ix2 ⟨t.val * 1024 + r, by have := lt t; omega⟩ ⟨2568 + q, by omega⟩) := by
  have e : k0_pay12 (F := Ideal) (k0_pay3 (iblk m c 0 t) (iblk m c 1 t))
      (View.ld (iblk m c 2 t : Vec Ideal S1024x3584 .bf16) (Rect.unit ![0, 2560] ![1024, 512] inb_S1024x3584_S1024x512_0_2560)) (ix2 r q)
      = proj m c (ix2 ⟨t.val * 1024 + r, by have := lt t; omega⟩ ⟨2568 + q, by omega⟩) := by
    rw [pay12_at]
    simp only [pay3_at]
    exact prod m c t r _ q ⟨2568 + q, by omega⟩ (wide m c t 2560 _ q _ (Or.inr ⟨by omega, by show 2568 + q.val = 8 + (2560 + q.val); omega⟩))
  refine Eq.trans ?_ e
  generalize (ix2 r q : S1024x512.Idx) = y
  rw [after0_9]
  by_cases h : t.val % 4 = 0
  · rw [outsAt0_A m c t h]
    dsimp only
    unfold out0_A_9
    frame_out
    rfl
  · rw [outsAt0_B m c t h]
    dsimp only
    unfold out0_B_9
    frame_out
    rfl

theorem k_final (c : Dev nD) : (dats m 0 c).arrAt 9 cfg0.N = kRef (proj m c) := by
  refine (dats m 0 c).arrAt_eq_of_covers 9 _ (by decide +kernel) fun t _ y => ?_
  blk_simp
  obtain ⟨r, q, rfl⟩ : ∃ (r : Fin 1024) (q : Fin 512), y = ix2 r q := ⟨y 0, y 1, by funext a; fin_cases a <;> rfl⟩
  refine (k_at m c t r q).trans ?_
  have he : ((cfg0.win 9).blk t).view.emb (ix2 r q) = (ix2 ⟨t.val * 1024 + r, by have := lt t; omega⟩ q : S32768x512.Idx) := by
    blk_ext [idx t]
  exact (kRef_at _ _ _).symm.trans (congrArg _ he).symm

/-- A tile's values. -/
theorem v_at (c : Dev nD) (t : Fin cfg0.N) (r : Fin 1024) (q : Fin 512) :
    ((dats m 0 c).after 10 t : S1024x512.Idx → Elt Ideal .bf16) (ix2 r q)
      = proj m c (ix2 ⟨t.val * 1024 + r, by have := lt t; omega⟩ ⟨3080 + q, by omega⟩) := by
  have e : k0_pay16 (F := Ideal) (k0_pay3 (iblk m c 0 t) (iblk m c 1 t))
      (View.ld (iblk m c 2 t : Vec Ideal S1024x3584 .bf16) (Rect.unit ![0, 3072] ![1024, 512] inb_S1024x3584_S1024x512_0_3072)) (ix2 r q)
      = proj m c (ix2 ⟨t.val * 1024 + r, by have := lt t; omega⟩ ⟨3080 + q, by omega⟩) := by
    rw [pay16_at]
    simp only [pay3_at]
    exact prod m c t r _ q ⟨3080 + q, by omega⟩ (wide m c t 3072 _ q _ (Or.inr ⟨by omega, by show 3080 + q.val = 8 + (3072 + q.val); omega⟩))
  refine Eq.trans ?_ e
  generalize (ix2 r q : S1024x512.Idx) = y
  rw [after0_10]
  by_cases h : t.val % 4 = 0
  · rw [outsAt0_A m c t h]
    dsimp only
    unfold out0_A_10
    frame_out
    rfl
  · rw [outsAt0_B m c t h]
    dsimp only
    unfold out0_B_10
    frame_out
    rfl

theorem v_final (c : Dev nD) : (dats m 0 c).arrAt 10 cfg0.N = vRef (proj m c) := by
  refine (dats m 0 c).arrAt_eq_of_covers 10 _ (by decide +kernel) fun t _ y => ?_
  blk_simp
  obtain ⟨r, q, rfl⟩ : ∃ (r : Fin 1024) (q : Fin 512), y = ix2 r q := ⟨y 0, y 1, by funext a; fin_cases a <;> rfl⟩
  refine (v_at m c t r q).trans ?_
  have he : ((cfg0.win 10).blk t).view.emb (ix2 r q) = (ix2 ⟨t.val * 1024 + r, by have := lt t; omega⟩ q : S32768x512.Idx) := by
    blk_ext [idx t]
  exact (vRef_at _ _ _).symm.trans (congrArg _ he).symm

/-- A tile's narrow columns. -/
theorem gate_at (c : Dev nD) (t : Fin cfg0.N) (r : Fin 1024) (q : Fin 128) :
    ((dats m 0 c).after 11 t : S1024x128.Idx → Elt Ideal .f32) (ix2 r q)
      = gateRef (proj m c) (ix2 ⟨t.val * 1024 + r, by have := lt t; omega⟩ q) := by
  have e : k0_pay17 (F := Ideal) (k0_pay3 (iblk m c 0 t) (iblk m c 1 t)) (iblk m c 3 t) (ix2 r q)
      = gateRef (proj m c) (ix2 ⟨t.val * 1024 + r, by have := lt t; omega⟩ q) := by
    rw [pay17_at, gateRef_at]
    simp only [pay3_at]
    by_cases h : q.val < 8
    · rw [dif_pos h]
      exact prod m c t r _ q _ fun k => (iblk_narrow m c t k q).trans ((hostNarrow_at _ _ _).trans (dif_pos h))
    · rw [dif_neg h]
      by_cases h' : q.val - 8 < 8
      · rw [dif_pos h']
        exact prod m c t r _ q _ fun k => (iblk_narrow m c t k q).trans ((hostNarrow_at _ _ _).trans ((dif_neg h).trans (dif_pos h')))
      · rw [dif_neg h']
        unfold dotRow
        refine Finset.sum_eq_zero fun k _ => ?_
        have e0 : (iblk m c 3 t : Vec Ideal S1024x128 .bf16) (ix2 k q) = (0 : EReal) :=
          (iblk_narrow m c t k q).trans ((hostNarrow_at _ _ _).trans ((dif_neg h).trans (dif_neg h')))
        exact (congrArg (_ * ·) e0).trans (mul_zero _)
  refine Eq.trans ?_ e
  generalize (ix2 r q : S1024x128.Idx) = y
  rw [after0_11]
  by_cases h : t.val % 4 = 0
  · rw [outsAt0_A m c t h]
    dsimp only
    unfold out0_A_11
    frame_out
  · rw [outsAt0_B m c t h]
    dsimp only
    unfold out0_B_11
    frame_out

theorem gate_final (c : Dev nD) : (dats m 0 c).arrAt 11 cfg0.N = gateRef (proj m c) := by
  refine (dats m 0 c).arrAt_eq_of_covers 11 _ (by decide +kernel) fun t _ y => ?_
  blk_simp
  obtain ⟨r, q, rfl⟩ : ∃ (r : Fin 1024) (q : Fin 128), y = ix2 r q := ⟨y 0, y 1, by funext a; fin_cases a <;> rfl⟩
  refine (gate_at m c t r q).trans ?_
  have he : ((cfg0.win 11).blk t).view.emb (ix2 r q) = (ix2 ⟨t.val * 1024 + r, by have := lt t; omega⟩ q : S32768x128.Idx) := by
    blk_ext [idx t]
  exact (congrArg _ he).symm

theorem tail_final (c : Dev nD) : (dats m 0 c).arrAt 12 cfg0.N = tailRef (proj m c) := by
  refine (dats m 0 c).arrAt_eq_of_covers 12 _ (by decide +kernel) fun t _ y => ?_
  blk_simp
  obtain ⟨i, q, rfl⟩ : ∃ (i : Fin 8) (q : Fin 1536), y = ix2 i q := ⟨y 0, y 1, by funext a; fin_cases a <;> rfl⟩
  refine (tail_at m c t i q).trans ?_
  have he : ((cfg0.win 12).blk t).view.emb (ix2 i q) = (ix2 ⟨t.val * 8 + i, by have := lt t; omega⟩ q : S256x1536.Idx) := by
    blk_ext [idx t]
  refine Eq.trans ?_ ((tailRef_at _ _ _).symm.trans (congrArg _ he).symm)
  unfold pad
  rw [dif_neg (by show ¬ (_ ∧ 1024 + i.val < 8); omega)]
  refine congrArg (fun r => proj m c (ix2 r _)) (Fin.ext ?_)
  show t.val * 1024 + (1024 + i.val) - 8 = (t.val * 8 + i.val) / 8 * 1024 + (1016 + (t.val * 8 + i.val) % 8)
  omega

/-- The convolved and gated rows are the reference's. -/
theorem act_final (c : Dev nD) : (dats m 0 c).arrAt 6 cfg0.N
    = actRef (proj m c) (m ((c : Thread nD τ).loc main_arg3)) (hist m c) := by
  refine (dats m 0 c).arrAt_eq_of_covers 6 _ (by decide +kernel) fun t _ y => ?_
  blk_simp
  obtain ⟨r, q, rfl⟩ : ∃ (r : Fin 1024) (q : Fin 1536), y = ix2 r q := ⟨y 0, y 1, by funext a; fin_cases a <;> rfl⟩
  have ha : ((dats m 0 c).after 6 t : S1024x1536.Idx → Elt Ideal .f32) (ix2 r q) = tileAct m c t r q := by
    by_cases h : t.val % 4 = 0
    · exact act_first m c t h (ix2 r q)
    · exact act_next m c t h (ix2 r q)
  refine ha.trans ?_
  have he : ((cfg0.win 6).blk t).view.emb (ix2 r q) = (ix2 ⟨t.val * 1024 + r, by have := lt t; omega⟩ q : S32768x1536.Idx) := by
    blk_ext [idx t]
  refine Eq.trans ?_ ((actRef_at _ _ _ _ _).symm.trans (congrArg _ he).symm)
  rw [convRef_at]
  unfold tileAct
  have hk : ∀ (k : ℕ) (hk : k < 4) (ρ : Fin 1032) (b : Fin 8) (p : Fin 4099), ρ.val = 5 + k + r.val →
      b.val = (t.val * 1024 + r.val) / 4096 → p.val = k + (t.val * 1024 + r.val) % 4096 →
      pad m c t.val (lt t) ρ q = padRef (proj m c) (hist m c) (ix3 b p q) := by
    intro k hk ρ b p hρ hb hp
    have h0 : ρ = ⟨5 + k + r, by omega⟩ := Fin.ext hρ
    rw [h0, pad_eq m c t.val (lt t) k hk r q]
    have h1 : b = ⟨t.val / 4, by have := lt t; omega⟩ := Fin.ext (by show b.val = t.val / 4; omega)
    have h2 : p = ⟨k + (t.val % 4 * 1024 + r), by omega⟩ := Fin.ext (by show p.val = k + (t.val % 4 * 1024 + r.val); omega)
    exact congrArg₂ (fun b p => padRef (proj m c) (hist m c) (ix3 b p q)) h1.symm h2.symm
  rw [hk 0 (by omega) _ ⟨(t.val * 1024 + r.val) / 4096, by have := lt t; omega⟩ ⟨(t.val * 1024 + r.val) % 4096, by omega⟩ rfl rfl (Nat.zero_add _).symm,
    hk 1 (by omega) _ ⟨(t.val * 1024 + r.val) / 4096, by have := lt t; omega⟩ ⟨1 + (t.val * 1024 + r.val) % 4096, by omega⟩ rfl rfl rfl,
    hk 2 (by omega) _ ⟨(t.val * 1024 + r.val) / 4096, by have := lt t; omega⟩ ⟨2 + (t.val * 1024 + r.val) % 4096, by omega⟩ rfl rfl rfl,
    hk 3 (by omega) _ ⟨(t.val * 1024 + r.val) / 4096, by have := lt t; omega⟩ ⟨3 + (t.val * 1024 + r.val) % 4096, by omega⟩ rfl rfl rfl]

end Cert.Inproj

end
-- ==== Proof.lean ====
/- The claims of the three calls: the attention over whole key blocks, the feed-forward call, and the input projection call. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.FoxFrame
public import proofs.«01_k».proof.Proof.FoxFrameIdeal
public import proofs.«01_k».proof.Proof.FoxFinite
public import proofs.«01_k».proof.Proof.FfnValue
public import proofs.«01_k».proof.Proof.InprojValue
public import proofs.«01_k».proof.Proof.Gen.ReferenceIdeal.Run
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite (hPre_finite := Cert.FoxClaim.facts) := fun m ρ _ =>
  frame_reference m ρ trivial

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem preserves : Cert.preserves_Kernel_KernelIdeal :=
  IdealRules.named_const.statement Cert.KernelIdeal.κ "mask" .f32 0xF149F2CA#32 ⊥ rfl

/-- The feed-forward call against the last third of the layer. -/
theorem algebraic2 : Cert.algebraic_Kernel2Ideal_Reference2Ideal := by
  intro m g m' g' _ he
  refine ⟨fun c => Cert.Ffn.outRef (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)), ?_, ?_⟩
  · refine (θ_run Cert.Kernel2Ideal.defs _ _).mono (fun r h c => ?_) (Cert.Kernel2Ideal.Value.run_blocks (F := Ideal) m g)
    exact ⟨(h c).1.trans (Cert.Ffn.final m c), (h c).2⟩
  · refine (θ_run Cert.Reference2Ideal.defs _ _).mono (fun r h c => ?_) (Cert.Reference2Ideal.Value.run (F := Ideal) m' g')
    obtain ⟨e0, e1, e2, e3, e4, e5, e6, e7, e8⟩ := he c
    refine ⟨(h c).1.trans ((Cert.Ffn.res_eq m' c).trans ?_), (h c).2⟩
    rw [e0, e1, e2, e3, e4, e5, e6, e7, e8]

/-- The input projection call against the first part of the layer. -/
theorem algebraic3 : Cert.algebraic_Kernel3Ideal_Reference3Ideal := by
  intro m g m' g' _ he
  refine ⟨fun c => Cert.Inproj.actRef (Cert.Inproj.proj m c) (m ((c.tc : Thread Cert.Kernel3Ideal.nD Cert.Kernel3Ideal.τ).loc Cert.Kernel3Ideal.main_arg3)) (Cert.Inproj.hist m c),
    fun c => Cert.Inproj.zRef (Cert.Inproj.proj m c), fun c => Cert.Inproj.qRef (Cert.Inproj.proj m c), fun c => Cert.Inproj.kRef (Cert.Inproj.proj m c),
    fun c => Cert.Inproj.vRef (Cert.Inproj.proj m c), fun c => Cert.Inproj.gateRef (Cert.Inproj.proj m c), fun c => Cert.Inproj.tailRef (Cert.Inproj.proj m c), ?_, ?_⟩
  · refine (θ_run Cert.Kernel3Ideal.defs _ _).mono (fun r h c => ?_) (Cert.Kernel3Ideal.Value.run_blocks (F := Ideal) m g)
    obtain ⟨h6, h7, h8, h9, h10, h11, h12, ha⟩ := h c
    exact ⟨h6.trans (Cert.Inproj.act_final m c), h7.trans (Cert.Inproj.z_final m c), h8.trans (Cert.Inproj.q_final m c), h9.trans (Cert.Inproj.k_final m c),
      h10.trans (Cert.Inproj.v_final m c), h11.trans (Cert.Inproj.gate_final m c), h12.trans (Cert.Inproj.tail_final m c), ha⟩
  · refine (θ_run Cert.Reference3Ideal.defs _ _).mono (fun r h c => ?_) (Cert.Reference3Ideal.Value.run (F := Ideal) m' g')
    obtain ⟨e0, e1, e2, e3, e4⟩ := he c
    have ep : Cert.Inproj.projRef (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = Cert.Inproj.proj m c := by
      unfold Cert.Inproj.proj
      rw [e0, e1, e2]
    obtain ⟨h6, h7, h8, h9, h10, h11, h12, ha⟩ := h c
    refine ⟨h6.trans ((Cert.Inproj.res_eq m' c).trans ?_), h7.trans (congrArg Cert.Inproj.zRef ep), h8.trans (congrArg Cert.Inproj.qRef ep),
      h9.trans (congrArg Cert.Inproj.kRef ep), h10.trans (congrArg Cert.Inproj.vRef ep), h11.trans (congrArg Cert.Inproj.gateRef ep),
      h12.trans (congrArg Cert.Inproj.tailRef ep), ha⟩
    rw [ep, e3, e4]
    rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.FoxClaim.facts,
    fun m ρ _ => Cert.Kernel.Hand.frame m ρ, fun m ρ _ => Cert.KernelIdeal.Hand.frame m ρ, fun m ρ _ => Cert.KernelIdeal.Hand.frame m ρ,
    frame_reference, frame_reference_finite,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    preserves, Cert.FoxClaim.algebraic1, trivial, algebraic2, trivial, algebraic3⟩

end Cert.Proof

end
